-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_samples" .f32 0x3D924925#32 ((1 / 14 : ℝ) : EReal)
  ∧ IdealRules.named_const.Statement Cert.KernelIdeal.κ "neg_log_base" .f32 0xC1135D8E#32 ((-(Real.log 10000) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x192x192x192 : Shape := ⟨4, ![1, 192, 192, 192]⟩
abbrev S1x384x96x96 : Shape := ⟨4, ![1, 384, 96, 96]⟩
abbrev S1x768x48x48 : Shape := ⟨4, ![1, 768, 48, 48]⟩
abbrev S1x1536x24x24 : Shape := ⟨4, ![1, 1536, 24, 24]⟩
abbrev S64x4 : Shape := ⟨2, ![64, 4]⟩
abbrev S1x768x2304 : Shape := ⟨3, ![1, 768, 2304]⟩
abbrev S1x1536x576 : Shape := ⟨3, ![1, 1536, 576]⟩
abbrev S64x2880 : Shape := ⟨2, ![64, 2880]⟩
abbrev S1x16x192x192 : Shape := ⟨4, ![1, 16, 192, 192]⟩
abbrev S1x64x96x96 : Shape := ⟨4, ![1, 64, 96, 96]⟩
abbrev S1x256x2304 : Shape := ⟨3, ![1, 256, 2304]⟩
abbrev S1x256x576 : Shape := ⟨3, ![1, 256, 576]⟩
abbrev S4x64 : Shape := ⟨2, ![4, 64]⟩
abbrev S2880x64 : Shape := ⟨2, ![2880, 64]⟩
abbrev S192x64 : Shape := ⟨2, ![192, 64]⟩
abbrev S96x64 : Shape := ⟨2, ![96, 64]⟩
abbrev S2304x64 : Shape := ⟨2, ![2304, 64]⟩
abbrev S576x64 : Shape := ⟨2, ![576, 64]⟩
abbrev S1x64 : Shape := ⟨2, ![1, 64]⟩
abbrev S14x64 : Shape := ⟨2, ![14, 64]⟩
abbrev S192x14x64 : Shape := ⟨3, ![192, 14, 64]⟩
abbrev S1x14x64 : Shape := ⟨3, ![1, 14, 64]⟩
abbrev S192x192 : Shape := ⟨2, ![192, 192]⟩
abbrev S1x8x192x192 : Shape := ⟨4, ![1, 8, 192, 192]⟩
abbrev S8x192x192 : Shape := ⟨3, ![8, 192, 192]⟩
abbrev S1536x192 : Shape := ⟨2, ![1536, 192]⟩
abbrev S1536x64 : Shape := ⟨2, ![1536, 64]⟩
abbrev S8x192x64 : Shape := ⟨3, ![8, 192, 64]⟩
abbrev S1x192x64 : Shape := ⟨3, ![1, 192, 64]⟩
abbrev S8x64 : Shape := ⟨2, ![8, 64]⟩
abbrev S8x1 : Shape := ⟨2, ![8, 1]⟩
abbrev S96x192 : Shape := ⟨2, ![96, 192]⟩
abbrev S1x16x96x96 : Shape := ⟨4, ![1, 16, 96, 96]⟩
abbrev S16x96x96 : Shape := ⟨3, ![16, 96, 96]⟩
abbrev S1536x96 : Shape := ⟨2, ![1536, 96]⟩
abbrev S16x96x64 : Shape := ⟨3, ![16, 96, 64]⟩
abbrev S1x96x64 : Shape := ⟨3, ![1, 96, 64]⟩
abbrev S16x64 : Shape := ⟨2, ![16, 64]⟩
abbrev S16x1 : Shape := ⟨2, ![16, 1]⟩
abbrev S2304x192 : Shape := ⟨2, ![2304, 192]⟩
abbrev S256x2304 : Shape := ⟨2, ![256, 2304]⟩
abbrev S256x64 : Shape := ⟨2, ![256, 64]⟩
abbrev S256x1 : Shape := ⟨2, ![256, 1]⟩
abbrev S576x192 : Shape := ⟨2, ![576, 192]⟩
abbrev S256x576 : Shape := ⟨2, ![256, 576]⟩
abbrev S1x64x2880 : Shape := ⟨3, ![1, 64, 2880]⟩

abbrev nBuf : Space → Nat
  | .hbm => 9
  | .vmem => 20
  | .smem => 0
  | _ => 0

abbrev bufTy : (tb : Table) → Fin (tcTables nBuf tb) → BufTy
  | .hbm, ⟨0, _⟩ => ⟨S1x192x192x192, .f32⟩
  | .hbm, ⟨1, _⟩ => ⟨S1x384x96x96, .f32⟩
  | .hbm, ⟨2, _⟩ => ⟨S1x768x48x48, .f32⟩
  | .hbm, ⟨3, _⟩ => ⟨S1x1536x24x24, .f32⟩
  | .hbm, ⟨4, _⟩ => ⟨S64x4, .f32⟩
  | .hbm, ⟨5, _⟩ => ⟨S1x768x2304, .f32⟩
  | .hbm, ⟨6, _⟩ => ⟨S1x1536x576, .f32⟩
  | .hbm, ⟨7, _⟩ => ⟨S64x2880, .f32⟩
  | .hbm, ⟨8, _⟩ => ⟨S1x64x2880, .f32⟩
  | .local _ .vmem, ⟨0, _⟩ => ⟨S64x4, .f32⟩
  | .local _ .vmem, ⟨1, _⟩ => ⟨S1x16x192x192, .f32⟩
  | .local _ .vmem, ⟨2, _⟩ => ⟨S1x16x192x192, .f32⟩
  | .local _ .vmem, ⟨3, _⟩ => ⟨S1x64x96x96, .f32⟩
  | .local _ .vmem, ⟨4, _⟩ => ⟨S1x64x96x96, .f32⟩
  | .local _ .vmem, ⟨5, _⟩ => ⟨S1x256x2304, .f32⟩
  | .local _ .vmem, ⟨6, _⟩ => ⟨S1x256x2304, .f32⟩
  | .local _ .vmem, ⟨7, _⟩ => ⟨S1x256x576, .f32⟩
  | .local _ .vmem, ⟨8, _⟩ => ⟨S1x256x576, .f32⟩
  | .local _ .vmem, ⟨9, _⟩ => ⟨S64x2880, .f32⟩
  | .local _ .vmem, ⟨10, _⟩ => ⟨S4x64, .f32⟩
  | .local _ .vmem, ⟨11, _⟩ => ⟨S2880x64, .f32⟩
  | .local _ .vmem, ⟨12, _⟩ => ⟨S192x64, .f32⟩
  | .local _ .vmem, ⟨13, _⟩ => ⟨S192x64, .f32⟩
  | .local _ .vmem, ⟨14, _⟩ => ⟨S192x64, .f32⟩
  | .local _ .vmem, ⟨15, _⟩ => ⟨S192x64, .f32⟩
  | .local _ .vmem, ⟨16, _⟩ => ⟨S96x64, .f32⟩
  | .local _ .vmem, ⟨17, _⟩ => ⟨S96x64, .f32⟩
  | .local _ .vmem, ⟨18, _⟩ => ⟨S2304x64, .f32⟩
  | .local _ .vmem, ⟨19, _⟩ => ⟨S576x64, .f32⟩
  | _, _ => ⟨S1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![27], ![false]⟩

def k0_cond3 (i : grid0.Coords) : BitVec 1 :=
  let arg0 : BitVec 32 := BitVec.ofNat 32 (i 0).val
  let c12_i32 : BitVec 32 := 12#32
  let v7 : BitVec 1 := Scalar.cmpi .slt arg0 c12_i32
  let v8 : BitVec 32 := Scalar.extui v7
  let c0_i32_4 : BitVec 32 := 0#32
  let v9 : BitVec 1 := Scalar.cmpi .ne v8 c0_i32_4
  v9

def k0_off1 (i : grid0.Coords) (c0_i32_54 : BitVec 32) : Fin 2 → Nat :=
  let arg0 : BitVec 32 := BitVec.ofNat 32 (i 0).val
  let c16_i32 : BitVec 32 := 16#32
  let v26 : BitVec 32 := Scalar.muli arg0 c16_i32
  let v172 : BitVec 32 := Scalar.addi v26 c0_i32_54
  let v173 : Index := Scalar.indexCast v172
  let c0_55 : Index := 0#32
  ![v173.toNat, 0]
def k0_cond4 (i : grid0.Coords) : BitVec 1 :=
  let arg0 : BitVec 32 := BitVec.ofNat 32 (i 0).val
  let c12_i32_5 : BitVec 32 := 12#32
  let v10 : BitVec 1 := Scalar.cmpi .sge arg0 c12_i32_5
  let c18_i32 : BitVec 32 := 18#32
  let v11 : BitVec 1 := Scalar.cmpi .slt arg0 c18_i32
  let v12 : BitVec 1 := Scalar.andi v10 v11
  let v13 : BitVec 32 := Scalar.extui v12
  let c0_i32_6 : BitVec 32 := 0#32
  let v14 : BitVec 1 := Scalar.cmpi .ne v13 c0_i32_6
  v14

def k0_off2 (i : grid0.Coords) (c0_i32_57 : BitVec 32) : Fin 2 → Nat :=
  let c192_i32 : BitVec 32 := 192#32
  let arg0 : BitVec 32 := BitVec.ofNat 32 (i 0).val
  let c12_i32_14 : BitVec 32 := 12#32
  let v29 : BitVec 32 := Scalar.subi arg0 c12_i32_14
  let c64_i32 : BitVec 32 := 64#32
  let v30 : BitVec 32 := Scalar.muli v29 c64_i32
  let v31 : BitVec 32 := Scalar.addi c192_i32 v30
  let v177 : BitVec 32 := Scalar.addi v31 c0_i32_57
  let v178 : Index := Scalar.indexCast v177
  let c0_58 : Index := 0#32
  ![v178.toNat, 0]
def k0_cond6 (i : grid0.Coords) : BitVec 1 :=
  let arg0 : BitVec 32 := BitVec.ofNat 32 (i 0).val
  let c18_i32_7 : BitVec 32 := 18#32
  let v15 : BitVec 1 := Scalar.cmpi .sge arg0 c18_i32_7
  let c21_i32 : BitVec 32 := 21#32
  let v16 : BitVec 1 := Scalar.cmpi .slt arg0 c21_i32
  let v17 : BitVec 1 := Scalar.andi v15 v16
  let v18 : BitVec 32 := Scalar.extui v17
  let c0_i32_8 : BitVec 32 := 0#32
  let v19 : BitVec 1 := Scalar.cmpi .ne v18 c0_i32_8
  v19

def k0_off3 (i : grid0.Coords) : Fin 2 → Nat :=
  let c576_i32 : BitVec 32 := 576#32
  let arg0 : BitVec 32 := BitVec.ofNat 32 (i 0).val
  let c18_i32_19 : BitVec 32 := 18#32
  let v34 : BitVec 32 := Scalar.subi arg0 c18_i32_19
  let c256_i32 : BitVec 32 := 256#32
  let v35 : BitVec 32 := Scalar.muli v34 c256_i32
  let v36 : BitVec 32 := Scalar.addi c576_i32 v35
  let v170 : Index := Scalar.indexCast v36
  let c0_52 : Index := 0#32
  ![v170.toNat, 0]
def k0_cond8 (i : grid0.Coords) : BitVec 1 :=
  let arg0 : BitVec 32 := BitVec.ofNat 32 (i 0).val
  let c21_i32_9 : BitVec 32 := 21#32
  let v20 : BitVec 1 := Scalar.cmpi .sge arg0 c21_i32_9
  let v21 : BitVec 32 := Scalar.extui v20
  let c0_i32_10 : BitVec 32 := 0#32
  let v22 : BitVec 1 := Scalar.cmpi .ne v21 c0_i32_10
  v22

def k0_off4 (i : grid0.Coords) : Fin 2 → Nat :=
  let c1344_i32 : BitVec 32 := 1344#32
  let arg0 : BitVec 32 := BitVec.ofNat 32 (i 0).val
  let c21_i32_19 : BitVec 32 := 21#32
  let v34 : BitVec 32 := Scalar.subi arg0 c21_i32_19
  let c256_i32 : BitVec 32 := 256#32
  let v35 : BitVec 32 := Scalar.muli v34 c256_i32
  let v36 : BitVec 32 := Scalar.addi c1344_i32 v35
  let v170 : Index := Scalar.indexCast v36
  let c0_52 : Index := 0#32
  ![v170.toNat, 0]
def k0_cond10 (i : grid0.Coords) : BitVec 1 :=
  let arg0 : BitVec 32 := BitVec.ofNat 32 (i 0).val
  let c26_i32 : BitVec 32 := 26#32
  let v23 : BitVec 1 := Scalar.cmpi .eq arg0 c26_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_3 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c21_i32 : BitVec 32 := 21#32
  let v0 : BitVec 32 := Scalar.subi arg0 c21_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_samples" => some ((1 / 14 : ℝ) : EReal)
  | "neg_log_base" => some ((-(Real.log 10000) : ℝ) : EReal)
  | _ => none
-- ==== ReferenceIdeal.lean ====
abbrev S1x192x192x192 : Shape := ⟨4, ![1, 192, 192, 192]⟩
abbrev S1x384x96x96 : Shape := ⟨4, ![1, 384, 96, 96]⟩
abbrev S1x768x48x48 : Shape := ⟨4, ![1, 768, 48, 48]⟩
abbrev S1x1536x24x24 : Shape := ⟨4, ![1, 1536, 24, 24]⟩
abbrev S64x4 : Shape := ⟨2, ![64, 4]⟩
abbrev S_ : Shape := ⟨0, ![]⟩
abbrev S192 : Shape := ⟨1, ![192]⟩
abbrev S96 : Shape := ⟨1, ![96]⟩
abbrev S1x192 : Shape := ⟨2, ![1, 192]⟩
abbrev S96x1 : Shape := ⟨2, ![96, 1]⟩
abbrev S96x192 : Shape := ⟨2, ![96, 192]⟩
abbrev S192x1x384x96 : Shape := ⟨4, ![192, 1, 384, 96]⟩
abbrev S192x1x384x192 : Shape := ⟨4, ![192, 1, 384, 192]⟩
abbrev S1x384x192x192 : Shape := ⟨4, ![1, 384, 192, 192]⟩
abbrev S48 : Shape := ⟨1, ![48]⟩
abbrev S48x1 : Shape := ⟨2, ![48, 1]⟩
abbrev S48x192 : Shape := ⟨2, ![48, 192]⟩
abbrev S192x1x768x48 : Shape := ⟨4, ![192, 1, 768, 48]⟩
abbrev S192x1x768x192 : Shape := ⟨4, ![192, 1, 768, 192]⟩
abbrev S1x768x192x192 : Shape := ⟨4, ![1, 768, 192, 192]⟩
abbrev S24 : Shape := ⟨1, ![24]⟩
abbrev S24x1 : Shape := ⟨2, ![24, 1]⟩
abbrev S24x192 : Shape := ⟨2, ![24, 192]⟩
abbrev S192x1x1536x24 : Shape := ⟨4, ![192, 1, 1536, 24]⟩
abbrev S192x1x1536x192 : Shape := ⟨4, ![192, 1, 1536, 192]⟩
abbrev S1x1536x192x192 : Shape := ⟨4, ![1, 1536, 192, 192]⟩
abbrev S1x2880x192x192 : Shape := ⟨4, ![1, 2880, 192, 192]⟩
abbrev S2880x192x192 : Shape := ⟨3, ![2880, 192, 192]⟩
abbrev S64x1 : Shape := ⟨2, ![64, 1]⟩
abbrev S64 : Shape := ⟨1, ![64]⟩
abbrev S7 : Shape := ⟨1, ![7]⟩
abbrev S7x1 : Shape := ⟨2, ![7, 1]⟩
abbrev S2 : Shape := ⟨1, ![2]⟩
abbrev S1x2 : Shape := ⟨2, ![1, 2]⟩
abbrev S7x2 : Shape := ⟨2, ![7, 2]⟩
abbrev S14 : Shape := ⟨1, ![14]⟩
abbrev S1x14 : Shape := ⟨2, ![1, 14]⟩
abbrev S64x14 : Shape := ⟨2, ![64, 14]⟩
abbrev S64x14x1 : Shape := ⟨3, ![64, 14, 1]⟩
abbrev S64x14x14 : Shape := ⟨3, ![64, 14, 14]⟩
abbrev S12544 : Shape := ⟨1, ![12544]⟩
abbrev S64x1x14 : Shape := ⟨3, ![64, 1, 14]⟩
abbrev S2880x36864 : Shape := ⟨2, ![2880, 36864]⟩
abbrev S12544x1 : Shape := ⟨2, ![12544, 1]⟩
abbrev S2880x12544 : Shape := ⟨2, ![2880, 12544]⟩
abbrev S1x12544 : Shape := ⟨2, ![1, 12544]⟩
abbrev S2880x64x7x2x7x2 : Shape := ⟨6, ![2880, 64, 7, 2, 7, 2]⟩
abbrev S2880x64x7x7 : Shape := ⟨4, ![2880, 64, 7, 7]⟩
abbrev S64x2880x7x7 : Shape := ⟨4, ![64, 2880, 7, 7]⟩
abbrev S64x2880 : Shape := ⟨2, ![64, 2880]⟩
abbrev S1x64x2880 : Shape := ⟨3, ![1, 64, 2880]⟩
abbrev S1x64x4 : Shape := ⟨3, ![1, 64, 4]⟩
abbrev S720 : Shape := ⟨1, ![720]⟩
abbrev S1x64x1 : Shape := ⟨3, ![1, 64, 1]⟩
abbrev S1x64 : Shape := ⟨2, ![1, 64]⟩
abbrev S1x1x720 : Shape := ⟨3, ![1, 1, 720]⟩
abbrev S1x64x720 : Shape := ⟨3, ![1, 64, 720]⟩
abbrev S1x64x360 : Shape := ⟨3, ![1, 64, 360]⟩
abbrev S1x64x360x1 : Shape := ⟨4, ![1, 64, 360, 1]⟩
abbrev S1x64x360x2 : Shape := ⟨4, ![1, 64, 360, 2]⟩

abbrev nBuf : Space → Nat
  | .hbm => 751
  | .vmem => 0
  | .smem => 0
  | _ => 0

abbrev hbmTy0_0 (i : Nat) : BufTy := match i % 128 with
  | 0 => ⟨S1x192x192x192, .f32⟩
  | 1 => ⟨S1x384x96x96, .f32⟩
  | 2 => ⟨S1x768x48x48, .f32⟩
  | 3 => ⟨S1x1536x24x24, .f32⟩
  | 4 => ⟨S64x4, .f32⟩
  | 5 => ⟨S_, .f32⟩
  | 6 => ⟨S_, .f32⟩
  | 7 => ⟨S_, .f32⟩
  | 8 => ⟨S192, .f32⟩
  | 9 => ⟨S_, .f32⟩
  | 10 => ⟨S192, .f32⟩
  | 11 => ⟨S192, .f32⟩
  | 12 => ⟨S_, .f32⟩
  | 13 => ⟨S192, .f32⟩
  | 14 => ⟨S192, .f32⟩
  | 15 => ⟨S_, .f32⟩
  | 16 => ⟨S192, .f32⟩
  | 17 => ⟨S192, .f32⟩
  | 18 => ⟨S_, .f32⟩
  | 19 => ⟨S192, .f32⟩
  | 20 => ⟨S192, .f32⟩
  | 21 => ⟨S96, .f32⟩
  | 22 => ⟨S1x192, .f32⟩
  | 23 => ⟨S96x1, .f32⟩
  | 24 => ⟨S96x192, .f32⟩
  | 25 => ⟨S96x192, .f32⟩
  | 26 => ⟨S96x192, .f32⟩
  | 27 => ⟨S96x192, .f32⟩
  | 28 => ⟨S_, .f32⟩
  | 29 => ⟨S96x192, .f32⟩
  | 30 => ⟨S96x192, .f32⟩
  | 31 => ⟨S96x192, .f32⟩
  | 32 => ⟨S_, .f32⟩
  | 33 => ⟨S96x192, .f32⟩
  | 34 => ⟨S96x192, .f32⟩
  | 35 => ⟨S_, .f32⟩
  | 36 => ⟨S96x192, .f32⟩
  | 37 => ⟨S96x192, .f32⟩
  | 38 => ⟨S_, .f32⟩
  | 39 => ⟨S192, .f32⟩
  | 40 => ⟨S1x192, .f32⟩
  | 41 => ⟨S1x192, .f32⟩
  | 42 => ⟨S_, .f32⟩
  | 43 => ⟨S1x192, .f32⟩
  | 44 => ⟨S1x192, .i1⟩
  | 45 => ⟨S_, .f32⟩
  | 46 => ⟨S1x192, .f32⟩
  | 47 => ⟨S1x192, .i1⟩
  | 48 => ⟨S_, .i32⟩
  | 49 => ⟨S_, .f32⟩
  | 50 => ⟨S1x192, .f32⟩
  | 51 => ⟨S1x192, .f32⟩
  | 52 => ⟨S96x192, .f32⟩
  | 53 => ⟨S96x192, .f32⟩
  | 54 => ⟨S_, .i32⟩
  | 55 => ⟨S_, .f32⟩
  | 56 => ⟨S96x192, .i1⟩
  | 57 => ⟨S96x192, .f32⟩
  | 58 => ⟨S96x192, .f32⟩
  | 59 => ⟨S_, .f32⟩
  | 60 => ⟨S192, .f32⟩
  | 61 => ⟨S192, .i1⟩
  | 62 => ⟨S_, .f32⟩
  | 63 => ⟨S192, .f32⟩
  | 64 => ⟨S192, .i1⟩
  | 65 => ⟨S192, .i1⟩
  | 66 => ⟨S1x192, .i1⟩
  | 67 => ⟨S_, .i32⟩
  | 68 => ⟨S_, .f32⟩
  | 69 => ⟨S96x192, .i1⟩
  | 70 => ⟨S96x192, .f32⟩
  | 71 => ⟨S96x192, .f32⟩
  | 72 => ⟨S_, .f32⟩
  | 73 => ⟨S_, .f32⟩
  | 74 => ⟨S_, .f32⟩
  | 75 => ⟨S192, .f32⟩
  | 76 => ⟨S_, .f32⟩
  | 77 => ⟨S192, .f32⟩
  | 78 => ⟨S192, .f32⟩
  | 79 => ⟨S_, .f32⟩
  | 80 => ⟨S192, .f32⟩
  | 81 => ⟨S192, .f32⟩
  | 82 => ⟨S_, .f32⟩
  | 83 => ⟨S192, .f32⟩
  | 84 => ⟨S192, .f32⟩
  | 85 => ⟨S_, .f32⟩
  | 86 => ⟨S192, .f32⟩
  | 87 => ⟨S192, .f32⟩
  | 88 => ⟨S96, .f32⟩
  | 89 => ⟨S1x192, .f32⟩
  | 90 => ⟨S96x1, .f32⟩
  | 91 => ⟨S96x192, .f32⟩
  | 92 => ⟨S96x192, .f32⟩
  | 93 => ⟨S96x192, .f32⟩
  | 94 => ⟨S96x192, .f32⟩
  | 95 => ⟨S_, .f32⟩
  | 96 => ⟨S96x192, .f32⟩
  | 97 => ⟨S96x192, .f32⟩
  | 98 => ⟨S96x192, .f32⟩
  | 99 => ⟨S_, .f32⟩
  | 100 => ⟨S96x192, .f32⟩
  | 101 => ⟨S96x192, .f32⟩
  | 102 => ⟨S_, .f32⟩
  | 103 => ⟨S96x192, .f32⟩
  | 104 => ⟨S96x192, .f32⟩
  | 105 => ⟨S_, .f32⟩
  | 106 => ⟨S192, .f32⟩
  | 107 => ⟨S1x192, .f32⟩
  | 108 => ⟨S1x192, .f32⟩
  | 109 => ⟨S_, .f32⟩
  | 110 => ⟨S1x192, .f32⟩
  | 111 => ⟨S1x192, .i1⟩
  | 112 => ⟨S_, .f32⟩
  | 113 => ⟨S1x192, .f32⟩
  | 114 => ⟨S1x192, .i1⟩
  | 115 => ⟨S_, .i32⟩
  | 116 => ⟨S_, .f32⟩
  | 117 => ⟨S1x192, .f32⟩
  | 118 => ⟨S1x192, .f32⟩
  | 119 => ⟨S96x192, .f32⟩
  | 120 => ⟨S96x192, .f32⟩
  | 121 => ⟨S_, .i32⟩
  | 122 => ⟨S_, .f32⟩
  | 123 => ⟨S96x192, .i1⟩
  | 124 => ⟨S96x192, .f32⟩
  | 125 => ⟨S96x192, .f32⟩
  | 126 => ⟨S_, .f32⟩
  | 127 => ⟨S192, .f32⟩
  | _ => ⟨S1x192x192x192, .f32⟩

abbrev hbmTy0_1 (i : Nat) : BufTy := match i % 128 with
  | 0 => ⟨S192, .i1⟩
  | 1 => ⟨S_, .f32⟩
  | 2 => ⟨S192, .f32⟩
  | 3 => ⟨S192, .i1⟩
  | 4 => ⟨S192, .i1⟩
  | 5 => ⟨S1x192, .i1⟩
  | 6 => ⟨S_, .i32⟩
  | 7 => ⟨S_, .f32⟩
  | 8 => ⟨S96x192, .i1⟩
  | 9 => ⟨S96x192, .f32⟩
  | 10 => ⟨S96x192, .f32⟩
  | 11 => ⟨S192x1x384x96, .f32⟩
  | 12 => ⟨S192x1x384x192, .f32⟩
  | 13 => ⟨S1x384x192x192, .f32⟩
  | 14 => ⟨S_, .f32⟩
  | 15 => ⟨S_, .f32⟩
  | 16 => ⟨S_, .f32⟩
  | 17 => ⟨S192, .f32⟩
  | 18 => ⟨S_, .f32⟩
  | 19 => ⟨S192, .f32⟩
  | 20 => ⟨S192, .f32⟩
  | 21 => ⟨S_, .f32⟩
  | 22 => ⟨S192, .f32⟩
  | 23 => ⟨S192, .f32⟩
  | 24 => ⟨S_, .f32⟩
  | 25 => ⟨S192, .f32⟩
  | 26 => ⟨S192, .f32⟩
  | 27 => ⟨S_, .f32⟩
  | 28 => ⟨S192, .f32⟩
  | 29 => ⟨S192, .f32⟩
  | 30 => ⟨S48, .f32⟩
  | 31 => ⟨S1x192, .f32⟩
  | 32 => ⟨S48x1, .f32⟩
  | 33 => ⟨S48x192, .f32⟩
  | 34 => ⟨S48x192, .f32⟩
  | 35 => ⟨S48x192, .f32⟩
  | 36 => ⟨S48x192, .f32⟩
  | 37 => ⟨S_, .f32⟩
  | 38 => ⟨S48x192, .f32⟩
  | 39 => ⟨S48x192, .f32⟩
  | 40 => ⟨S48x192, .f32⟩
  | 41 => ⟨S_, .f32⟩
  | 42 => ⟨S48x192, .f32⟩
  | 43 => ⟨S48x192, .f32⟩
  | 44 => ⟨S_, .f32⟩
  | 45 => ⟨S48x192, .f32⟩
  | 46 => ⟨S48x192, .f32⟩
  | 47 => ⟨S_, .f32⟩
  | 48 => ⟨S192, .f32⟩
  | 49 => ⟨S1x192, .f32⟩
  | 50 => ⟨S1x192, .f32⟩
  | 51 => ⟨S_, .f32⟩
  | 52 => ⟨S1x192, .f32⟩
  | 53 => ⟨S1x192, .i1⟩
  | 54 => ⟨S_, .f32⟩
  | 55 => ⟨S1x192, .f32⟩
  | 56 => ⟨S1x192, .i1⟩
  | 57 => ⟨S_, .i32⟩
  | 58 => ⟨S_, .f32⟩
  | 59 => ⟨S1x192, .f32⟩
  | 60 => ⟨S1x192, .f32⟩
  | 61 => ⟨S48x192, .f32⟩
  | 62 => ⟨S48x192, .f32⟩
  | 63 => ⟨S_, .i32⟩
  | 64 => ⟨S_, .f32⟩
  | 65 => ⟨S48x192, .i1⟩
  | 66 => ⟨S48x192, .f32⟩
  | 67 => ⟨S48x192, .f32⟩
  | 68 => ⟨S_, .f32⟩
  | 69 => ⟨S192, .f32⟩
  | 70 => ⟨S192, .i1⟩
  | 71 => ⟨S_, .f32⟩
  | 72 => ⟨S192, .f32⟩
  | 73 => ⟨S192, .i1⟩
  | 74 => ⟨S192, .i1⟩
  | 75 => ⟨S1x192, .i1⟩
  | 76 => ⟨S_, .i32⟩
  | 77 => ⟨S_, .f32⟩
  | 78 => ⟨S48x192, .i1⟩
  | 79 => ⟨S48x192, .f32⟩
  | 80 => ⟨S48x192, .f32⟩
  | 81 => ⟨S_, .f32⟩
  | 82 => ⟨S_, .f32⟩
  | 83 => ⟨S_, .f32⟩
  | 84 => ⟨S192, .f32⟩
  | 85 => ⟨S_, .f32⟩
  | 86 => ⟨S192, .f32⟩
  | 87 => ⟨S192, .f32⟩
  | 88 => ⟨S_, .f32⟩
  | 89 => ⟨S192, .f32⟩
  | 90 => ⟨S192, .f32⟩
  | 91 => ⟨S_, .f32⟩
  | 92 => ⟨S192, .f32⟩
  | 93 => ⟨S192, .f32⟩
  | 94 => ⟨S_, .f32⟩
  | 95 => ⟨S192, .f32⟩
  | 96 => ⟨S192, .f32⟩
  | 97 => ⟨S48, .f32⟩
  | 98 => ⟨S1x192, .f32⟩
  | 99 => ⟨S48x1, .f32⟩
  | 100 => ⟨S48x192, .f32⟩
  | 101 => ⟨S48x192, .f32⟩
  | 102 => ⟨S48x192, .f32⟩
  | 103 => ⟨S48x192, .f32⟩
  | 104 => ⟨S_, .f32⟩
  | 105 => ⟨S48x192, .f32⟩
  | 106 => ⟨S48x192, .f32⟩
  | 107 => ⟨S48x192, .f32⟩
  | 108 => ⟨S_, .f32⟩
  | 109 => ⟨S48x192, .f32⟩
  | 110 => ⟨S48x192, .f32⟩
  | 111 => ⟨S_, .f32⟩
  | 112 => ⟨S48x192, .f32⟩
  | 113 => ⟨S48x192, .f32⟩
  | 114 => ⟨S_, .f32⟩
  | 115 => ⟨S192, .f32⟩
  | 116 => ⟨S1x192, .f32⟩
  | 117 => ⟨S1x192, .f32⟩
  | 118 => ⟨S_, .f32⟩
  | 119 => ⟨S1x192, .f32⟩
  | 120 => ⟨S1x192, .i1⟩
  | 121 => ⟨S_, .f32⟩
  | 122 => ⟨S1x192, .f32⟩
  | 123 => ⟨S1x192, .i1⟩
  | 124 => ⟨S_, .i32⟩
  | 125 => ⟨S_, .f32⟩
  | 126 => ⟨S1x192, .f32⟩
  | 127 => ⟨S1x192, .f32⟩
  | _ => ⟨S1x192x192x192, .f32⟩

abbrev hbmTy0_2 (i : Nat) : BufTy := match i % 128 with
  | 0 => ⟨S48x192, .f32⟩
  | 1 => ⟨S48x192, .f32⟩
  | 2 => ⟨S_, .i32⟩
  | 3 => ⟨S_, .f32⟩
  | 4 => ⟨S48x192, .i1⟩
  | 5 => ⟨S48x192, .f32⟩
  | 6 => ⟨S48x192, .f32⟩
  | 7 => ⟨S_, .f32⟩
  | 8 => ⟨S192, .f32⟩
  | 9 => ⟨S192, .i1⟩
  | 10 => ⟨S_, .f32⟩
  | 11 => ⟨S192, .f32⟩
  | 12 => ⟨S192, .i1⟩
  | 13 => ⟨S192, .i1⟩
  | 14 => ⟨S1x192, .i1⟩
  | 15 => ⟨S_, .i32⟩
  | 16 => ⟨S_, .f32⟩
  | 17 => ⟨S48x192, .i1⟩
  | 18 => ⟨S48x192, .f32⟩
  | 19 => ⟨S48x192, .f32⟩
  | 20 => ⟨S192x1x768x48, .f32⟩
  | 21 => ⟨S192x1x768x192, .f32⟩
  | 22 => ⟨S1x768x192x192, .f32⟩
  | 23 => ⟨S_, .f32⟩
  | 24 => ⟨S_, .f32⟩
  | 25 => ⟨S_, .f32⟩
  | 26 => ⟨S192, .f32⟩
  | 27 => ⟨S_, .f32⟩
  | 28 => ⟨S192, .f32⟩
  | 29 => ⟨S192, .f32⟩
  | 30 => ⟨S_, .f32⟩
  | 31 => ⟨S192, .f32⟩
  | 32 => ⟨S192, .f32⟩
  | 33 => ⟨S_, .f32⟩
  | 34 => ⟨S192, .f32⟩
  | 35 => ⟨S192, .f32⟩
  | 36 => ⟨S_, .f32⟩
  | 37 => ⟨S192, .f32⟩
  | 38 => ⟨S192, .f32⟩
  | 39 => ⟨S24, .f32⟩
  | 40 => ⟨S1x192, .f32⟩
  | 41 => ⟨S24x1, .f32⟩
  | 42 => ⟨S24x192, .f32⟩
  | 43 => ⟨S24x192, .f32⟩
  | 44 => ⟨S24x192, .f32⟩
  | 45 => ⟨S24x192, .f32⟩
  | 46 => ⟨S_, .f32⟩
  | 47 => ⟨S24x192, .f32⟩
  | 48 => ⟨S24x192, .f32⟩
  | 49 => ⟨S24x192, .f32⟩
  | 50 => ⟨S_, .f32⟩
  | 51 => ⟨S24x192, .f32⟩
  | 52 => ⟨S24x192, .f32⟩
  | 53 => ⟨S_, .f32⟩
  | 54 => ⟨S24x192, .f32⟩
  | 55 => ⟨S24x192, .f32⟩
  | 56 => ⟨S_, .f32⟩
  | 57 => ⟨S192, .f32⟩
  | 58 => ⟨S1x192, .f32⟩
  | 59 => ⟨S1x192, .f32⟩
  | 60 => ⟨S_, .f32⟩
  | 61 => ⟨S1x192, .f32⟩
  | 62 => ⟨S1x192, .i1⟩
  | 63 => ⟨S_, .f32⟩
  | 64 => ⟨S1x192, .f32⟩
  | 65 => ⟨S1x192, .i1⟩
  | 66 => ⟨S_, .i32⟩
  | 67 => ⟨S_, .f32⟩
  | 68 => ⟨S1x192, .f32⟩
  | 69 => ⟨S1x192, .f32⟩
  | 70 => ⟨S24x192, .f32⟩
  | 71 => ⟨S24x192, .f32⟩
  | 72 => ⟨S_, .i32⟩
  | 73 => ⟨S_, .f32⟩
  | 74 => ⟨S24x192, .i1⟩
  | 75 => ⟨S24x192, .f32⟩
  | 76 => ⟨S24x192, .f32⟩
  | 77 => ⟨S_, .f32⟩
  | 78 => ⟨S192, .f32⟩
  | 79 => ⟨S192, .i1⟩
  | 80 => ⟨S_, .f32⟩
  | 81 => ⟨S192, .f32⟩
  | 82 => ⟨S192, .i1⟩
  | 83 => ⟨S192, .i1⟩
  | 84 => ⟨S1x192, .i1⟩
  | 85 => ⟨S_, .i32⟩
  | 86 => ⟨S_, .f32⟩
  | 87 => ⟨S24x192, .i1⟩
  | 88 => ⟨S24x192, .f32⟩
  | 89 => ⟨S24x192, .f32⟩
  | 90 => ⟨S_, .f32⟩
  | 91 => ⟨S_, .f32⟩
  | 92 => ⟨S_, .f32⟩
  | 93 => ⟨S192, .f32⟩
  | 94 => ⟨S_, .f32⟩
  | 95 => ⟨S192, .f32⟩
  | 96 => ⟨S192, .f32⟩
  | 97 => ⟨S_, .f32⟩
  | 98 => ⟨S192, .f32⟩
  | 99 => ⟨S192, .f32⟩
  | 100 => ⟨S_, .f32⟩
  | 101 => ⟨S192, .f32⟩
  | 102 => ⟨S192, .f32⟩
  | 103 => ⟨S_, .f32⟩
  | 104 => ⟨S192, .f32⟩
  | 105 => ⟨S192, .f32⟩
  | 106 => ⟨S24, .f32⟩
  | 107 => ⟨S1x192, .f32⟩
  | 108 => ⟨S24x1, .f32⟩
  | 109 => ⟨S24x192, .f32⟩
  | 110 => ⟨S24x192, .f32⟩
  | 111 => ⟨S24x192, .f32⟩
  | 112 => ⟨S24x192, .f32⟩
  | 113 => ⟨S_, .f32⟩
  | 114 => ⟨S24x192, .f32⟩
  | 115 => ⟨S24x192, .f32⟩
  | 116 => ⟨S24x192, .f32⟩
  | 117 => ⟨S_, .f32⟩
  | 118 => ⟨S24x192, .f32⟩
  | 119 => ⟨S24x192, .f32⟩
  | 120 => ⟨S_, .f32⟩
  | 121 => ⟨S24x192, .f32⟩
  | 122 => ⟨S24x192, .f32⟩
  | 123 => ⟨S_, .f32⟩
  | 124 => ⟨S192, .f32⟩
  | 125 => ⟨S1x192, .f32⟩
  | 126 => ⟨S1x192, .f32⟩
  | 127 => ⟨S_, .f32⟩
  | _ => ⟨S1x192x192x192, .f32⟩

abbrev hbmTy0_3 (i : Nat) : BufTy := match i % 128 with
  | 0 => ⟨S1x192, .f32⟩
  | 1 => ⟨S1x192, .i1⟩
  | 2 => ⟨S_, .f32⟩
  | 3 => ⟨S1x192, .f32⟩
  | 4 => ⟨S1x192, .i1⟩
  | 5 => ⟨S_, .i32⟩
  | 6 => ⟨S_, .f32⟩
  | 7 => ⟨S1x192, .f32⟩
  | 8 => ⟨S1x192, .f32⟩
  | 9 => ⟨S24x192, .f32⟩
  | 10 => ⟨S24x192, .f32⟩
  | 11 => ⟨S_, .i32⟩
  | 12 => ⟨S_, .f32⟩
  | 13 => ⟨S24x192, .i1⟩
  | 14 => ⟨S24x192, .f32⟩
  | 15 => ⟨S24x192, .f32⟩
  | 16 => ⟨S_, .f32⟩
  | 17 => ⟨S192, .f32⟩
  | 18 => ⟨S192, .i1⟩
  | 19 => ⟨S_, .f32⟩
  | 20 => ⟨S192, .f32⟩
  | 21 => ⟨S192, .i1⟩
  | 22 => ⟨S192, .i1⟩
  | 23 => ⟨S1x192, .i1⟩
  | 24 => ⟨S_, .i32⟩
  | 25 => ⟨S_, .f32⟩
  | 26 => ⟨S24x192, .i1⟩
  | 27 => ⟨S24x192, .f32⟩
  | 28 => ⟨S24x192, .f32⟩
  | 29 => ⟨S192x1x1536x24, .f32⟩
  | 30 => ⟨S192x1x1536x192, .f32⟩
  | 31 => ⟨S1x1536x192x192, .f32⟩
  | 32 => ⟨S1x2880x192x192, .f32⟩
  | 33 => ⟨S2880x192x192, .f32⟩
  | 34 => ⟨S_, .f32⟩
  | 35 => ⟨S64x4, .f32⟩
  | 36 => ⟨S64x4, .f32⟩
  | 37 => ⟨S64x1, .f32⟩
  | 38 => ⟨S64, .f32⟩
  | 39 => ⟨S64x1, .f32⟩
  | 40 => ⟨S64, .f32⟩
  | 41 => ⟨S64x1, .f32⟩
  | 42 => ⟨S64, .f32⟩
  | 43 => ⟨S64, .f32⟩
  | 44 => ⟨S_, .f32⟩
  | 45 => ⟨S64, .f32⟩
  | 46 => ⟨S64, .f32⟩
  | 47 => ⟨S64x1, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S7, .f32⟩
  | 60 => ⟨S7x1, .f32⟩
  | 61 => ⟨S2, .f32⟩
  | 62 => ⟨S1x2, .f32⟩
  | 63 => ⟨S_, .f32⟩
  | 64 => ⟨S1x2, .f32⟩
  | 65 => ⟨S1x2, .f32⟩
  | 66 => ⟨S_, .f32⟩
  | 67 => ⟨S1x2, .f32⟩
  | 68 => ⟨S1x2, .f32⟩
  | 69 => ⟨S7x2, .f32⟩
  | 70 => ⟨S7x2, .f32⟩
  | 71 => ⟨S7x2, .f32⟩
  | 72 => ⟨S14, .f32⟩
  | 73 => ⟨S64x1, .f32⟩
  | 74 => ⟨S1x14, .f32⟩
  | 75 => ⟨S64x1, .f32⟩
  | 76 => ⟨S64x14, .f32⟩
  | 77 => ⟨S64x14, .f32⟩
  | 78 => ⟨S64x14, .f32⟩
  | 79 => ⟨S64x14, .f32⟩
  | 80 => ⟨S64x14, .f32⟩
  | 81 => ⟨S64x1, .f32⟩
  | 82 => ⟨S1x14, .f32⟩
  | 83 => ⟨S64x1, .f32⟩
  | 84 => ⟨S64x14, .f32⟩
  | 85 => ⟨S64x14, .f32⟩
  | 86 => ⟨S64x14, .f32⟩
  | 87 => ⟨S64x14, .f32⟩
  | 88 => ⟨S64x14, .f32⟩
  | 89 => ⟨S64x14x1, .f32⟩
  | 90 => ⟨S64x14x14, .f32⟩
  | 91 => ⟨S12544, .f32⟩
  | 92 => ⟨S64x1x14, .f32⟩
  | 93 => ⟨S64x14x14, .f32⟩
  | 94 => ⟨S12544, .f32⟩
  | 95 => ⟨S_, .f32⟩
  | 96 => ⟨S12544, .f32⟩
  | 97 => ⟨S12544, .i1⟩
  | 98 => ⟨S_, .f32⟩
  | 99 => ⟨S12544, .f32⟩
  | 100 => ⟨S12544, .i1⟩
  | 101 => ⟨S12544, .i1⟩
  | 102 => ⟨S_, .f32⟩
  | 103 => ⟨S12544, .f32⟩
  | 104 => ⟨S12544, .i1⟩
  | 105 => ⟨S12544, .i1⟩
  | 106 => ⟨S_, .f32⟩
  | 107 => ⟨S12544, .f32⟩
  | 108 => ⟨S12544, .i1⟩
  | 109 => ⟨S12544, .i1⟩
  | 110 => ⟨S_, .f32⟩
  | 111 => ⟨S_, .i32⟩
  | 112 => ⟨S_, .f32⟩
  | 113 => ⟨S12544, .f32⟩
  | 114 => ⟨S12544, .f32⟩
  | 115 => ⟨S_, .f32⟩
  | 116 => ⟨S12544, .f32⟩
  | 117 => ⟨S12544, .f32⟩
  | 118 => ⟨S_, .f32⟩
  | 119 => ⟨S_, .i32⟩
  | 120 => ⟨S_, .f32⟩
  | 121 => ⟨S12544, .f32⟩
  | 122 => ⟨S12544, .f32⟩
  | 123 => ⟨S_, .f32⟩
  | 124 => ⟨S12544, .f32⟩
  | 125 => ⟨S12544, .f32⟩
  | 126 => ⟨S12544, .f32⟩
  | 127 => ⟨S12544, .i32⟩
  | _ => ⟨S1x192x192x192, .f32⟩

abbrev hbmTy0_4 (i : Nat) : BufTy := match i % 128 with
  | 0 => ⟨S12544, .f32⟩
  | 1 => ⟨S12544, .i32⟩
  | 2 => ⟨S_, .i32⟩
  | 3 => ⟨S12544, .i32⟩
  | 4 => ⟨S12544, .i32⟩
  | 5 => ⟨S_, .i32⟩
  | 6 => ⟨S12544, .i32⟩
  | 7 => ⟨S12544, .i32⟩
  | 8 => ⟨S_, .i32⟩
  | 9 => ⟨S12544, .i32⟩
  | 10 => ⟨S12544, .i32⟩
  | 11 => ⟨S_, .i32⟩
  | 12 => ⟨S12544, .i32⟩
  | 13 => ⟨S12544, .i32⟩
  | 14 => ⟨S12544, .f32⟩
  | 15 => ⟨S12544, .f32⟩
  | 16 => ⟨S12544, .f32⟩
  | 17 => ⟨S12544, .f32⟩
  | 18 => ⟨S_, .f32⟩
  | 19 => ⟨S12544, .f32⟩
  | 20 => ⟨S12544, .f32⟩
  | 21 => ⟨S_, .f32⟩
  | 22 => ⟨S12544, .f32⟩
  | 23 => ⟨S12544, .f32⟩
  | 24 => ⟨S2880x36864, .f32⟩
  | 25 => ⟨S_, .i32⟩
  | 26 => ⟨S12544, .i32⟩
  | 27 => ⟨S12544, .i32⟩
  | 28 => ⟨S12544, .i32⟩
  | 29 => ⟨S_, .i32⟩
  | 30 => ⟨S12544, .i32⟩
  | 31 => ⟨S12544, .i1⟩
  | 32 => ⟨S_, .i32⟩
  | 33 => ⟨S12544, .i32⟩
  | 34 => ⟨S12544, .i32⟩
  | 35 => ⟨S12544, .i32⟩
  | 36 => ⟨S12544x1, .i32⟩
  | 37 => ⟨S2880x12544, .f32⟩
  | 38 => ⟨S12544, .f32⟩
  | 39 => ⟨S1x12544, .f32⟩
  | 40 => ⟨S2880x12544, .f32⟩
  | 41 => ⟨S2880x12544, .f32⟩
  | 42 => ⟨S_, .i32⟩
  | 43 => ⟨S12544, .i32⟩
  | 44 => ⟨S12544, .i32⟩
  | 45 => ⟨S12544, .i32⟩
  | 46 => ⟨S_, .i32⟩
  | 47 => ⟨S12544, .i32⟩
  | 48 => ⟨S12544, .i1⟩
  | 49 => ⟨S_, .i32⟩
  | 50 => ⟨S12544, .i32⟩
  | 51 => ⟨S12544, .i32⟩
  | 52 => ⟨S12544, .i32⟩
  | 53 => ⟨S12544x1, .i32⟩
  | 54 => ⟨S2880x12544, .f32⟩
  | 55 => ⟨S12544, .f32⟩
  | 56 => ⟨S1x12544, .f32⟩
  | 57 => ⟨S2880x12544, .f32⟩
  | 58 => ⟨S2880x12544, .f32⟩
  | 59 => ⟨S2880x12544, .f32⟩
  | 60 => ⟨S_, .i32⟩
  | 61 => ⟨S12544, .i32⟩
  | 62 => ⟨S12544, .i32⟩
  | 63 => ⟨S12544, .i32⟩
  | 64 => ⟨S_, .i32⟩
  | 65 => ⟨S12544, .i32⟩
  | 66 => ⟨S12544, .i1⟩
  | 67 => ⟨S_, .i32⟩
  | 68 => ⟨S12544, .i32⟩
  | 69 => ⟨S12544, .i32⟩
  | 70 => ⟨S12544, .i32⟩
  | 71 => ⟨S12544x1, .i32⟩
  | 72 => ⟨S2880x12544, .f32⟩
  | 73 => ⟨S12544, .f32⟩
  | 74 => ⟨S1x12544, .f32⟩
  | 75 => ⟨S2880x12544, .f32⟩
  | 76 => ⟨S2880x12544, .f32⟩
  | 77 => ⟨S2880x12544, .f32⟩
  | 78 => ⟨S_, .i32⟩
  | 79 => ⟨S12544, .i32⟩
  | 80 => ⟨S12544, .i32⟩
  | 81 => ⟨S12544, .i32⟩
  | 82 => ⟨S_, .i32⟩
  | 83 => ⟨S12544, .i32⟩
  | 84 => ⟨S12544, .i1⟩
  | 85 => ⟨S_, .i32⟩
  | 86 => ⟨S12544, .i32⟩
  | 87 => ⟨S12544, .i32⟩
  | 88 => ⟨S12544, .i32⟩
  | 89 => ⟨S12544x1, .i32⟩
  | 90 => ⟨S2880x12544, .f32⟩
  | 91 => ⟨S12544, .f32⟩
  | 92 => ⟨S1x12544, .f32⟩
  | 93 => ⟨S2880x12544, .f32⟩
  | 94 => ⟨S2880x12544, .f32⟩
  | 95 => ⟨S2880x12544, .f32⟩
  | 96 => ⟨S1x12544, .i1⟩
  | 97 => ⟨S_, .f32⟩
  | 98 => ⟨S_, .f32⟩
  | 99 => ⟨S2880x12544, .i1⟩
  | 100 => ⟨S2880x12544, .f32⟩
  | 101 => ⟨S2880x12544, .f32⟩
  | 102 => ⟨S2880x64x7x2x7x2, .f32⟩
  | 103 => ⟨S_, .f32⟩
  | 104 => ⟨S2880x64x7x7, .f32⟩
  | 105 => ⟨S_, .f32⟩
  | 106 => ⟨S2880x64x7x7, .f32⟩
  | 107 => ⟨S2880x64x7x7, .f32⟩
  | 108 => ⟨S64x2880x7x7, .f32⟩
  | 109 => ⟨S_, .f32⟩
  | 110 => ⟨S64x2880, .f32⟩
  | 111 => ⟨S_, .f32⟩
  | 112 => ⟨S64x2880, .f32⟩
  | 113 => ⟨S64x2880, .f32⟩
  | 114 => ⟨S1x64x2880, .f32⟩
  | 115 => ⟨S64x1, .f32⟩
  | 116 => ⟨S64, .f32⟩
  | 117 => ⟨S_, .f32⟩
  | 118 => ⟨S64, .f32⟩
  | 119 => ⟨S64, .f32⟩
  | 120 => ⟨S64x1, .f32⟩
  | 121 => ⟨S64, .f32⟩
  | 122 => ⟨S_, .f32⟩
  | 123 => ⟨S64, .f32⟩
  | 124 => ⟨S64, .f32⟩
  | 125 => ⟨S64x1, .f32⟩
  | 126 => ⟨S64, .f32⟩
  | 127 => ⟨S_, .f32⟩
  | _ => ⟨S1x192x192x192, .f32⟩

abbrev hbmTy0_5 (i : Nat) : BufTy := match i % 128 with
  | 0 => ⟨S64, .f32⟩
  | 1 => ⟨S64, .f32⟩
  | 2 => ⟨S64, .f32⟩
  | 3 => ⟨S64x1, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S64x1, .f32⟩
  | 18 => ⟨S64x1, .f32⟩
  | 19 => ⟨S64x1, .f32⟩
  | 20 => ⟨S64x1, .f32⟩
  | 21 => ⟨S64x4, .f32⟩
  | 22 => ⟨S1x64x4, .f32⟩
  | 23 => ⟨S720, .f32⟩
  | 24 => ⟨S_, .f32⟩
  | 25 => ⟨S720, .f32⟩
  | 26 => ⟨S720, .f32⟩
  | 27 => ⟨S720, .f32⟩
  | 28 => ⟨S_, .f32⟩
  | 29 => ⟨S720, .f32⟩
  | 30 => ⟨S720, .f32⟩
  | 31 => ⟨S_, .f32⟩
  | 32 => ⟨S720, .f32⟩
  | 33 => ⟨S720, .f32⟩
  | 34 => ⟨S_, .f32⟩
  | 35 => ⟨S720, .f32⟩
  | 36 => ⟨S720, .f32⟩
  | 37 => ⟨S1x64x1, .f32⟩
  | 38 => ⟨S1x64, .f32⟩
  | 39 => ⟨S1x64x1, .f32⟩
  | 40 => ⟨S_, .f32⟩
  | 41 => ⟨S1x64x1, .f32⟩
  | 42 => ⟨S1x64x1, .f32⟩
  | 43 => ⟨S1x1x720, .f32⟩
  | 44 => ⟨S1x64x720, .f32⟩
  | 45 => ⟨S1x64x720, .f32⟩
  | 46 => ⟨S1x64x720, .f32⟩
  | 47 => ⟨S1x64x360, .f32⟩
  | 48 => ⟨S1x64x360, .f32⟩
  | 49 => ⟨S1x64x360, .f32⟩
  | 50 => ⟨S1x64x360, .f32⟩
  | 51 => ⟨S1x64x360x1, .f32⟩
  | 52 => ⟨S1x64x360x1, .f32⟩
  | 53 => ⟨S1x64x360x2, .f32⟩
  | 54 => ⟨S1x64x720, .f32⟩
  | 55 => ⟨S1x64x1, .f32⟩
  | 56 => ⟨S1x64, .f32⟩
  | 57 => ⟨S1x64x1, .f32⟩
  | 58 => ⟨S_, .f32⟩
  | 59 => ⟨S1x64x1, .f32⟩
  | 60 => ⟨S1x64x1, .f32⟩
  | 61 => ⟨S1x1x720, .f32⟩
  | 62 => ⟨S1x64x720, .f32⟩
  | 63 => ⟨S1x64x720, .f32⟩
  | 64 => ⟨S1x64x720, .f32⟩
  | 65 => ⟨S1x64x360, .f32⟩
  | 66 => ⟨S1x64x360, .f32⟩
  | 67 => ⟨S1x64x360, .f32⟩
  | 68 => ⟨S1x64x360, .f32⟩
  | 69 => ⟨S1x64x360x1, .f32⟩
  | 70 => ⟨S1x64x360x1, .f32⟩
  | 71 => ⟨S1x64x360x2, .f32⟩
  | 72 => ⟨S1x64x720, .f32⟩
  | 73 => ⟨S1x64x1, .f32⟩
  | 74 => ⟨S1x64, .f32⟩
  | 75 => ⟨S1x64x1, .f32⟩
  | 76 => ⟨S_, .f32⟩
  | 77 => ⟨S1x64x1, .f32⟩
  | 78 => ⟨S1x64x1, .f32⟩
  | 79 => ⟨S1x1x720, .f32⟩
  | 80 => ⟨S1x64x720, .f32⟩
  | 81 => ⟨S1x64x720, .f32⟩
  | 82 => ⟨S1x64x720, .f32⟩
  | 83 => ⟨S1x64x360, .f32⟩
  | 84 => ⟨S1x64x360, .f32⟩
  | 85 => ⟨S1x64x360, .f32⟩
  | 86 => ⟨S1x64x360, .f32⟩
  | 87 => ⟨S1x64x360x1, .f32⟩
  | 88 => ⟨S1x64x360x1, .f32⟩
  | 89 => ⟨S1x64x360x2, .f32⟩
  | 90 => ⟨S1x64x720, .f32⟩
  | 91 => ⟨S1x64x1, .f32⟩
  | 92 => ⟨S1x64, .f32⟩
  | 93 => ⟨S1x64x1, .f32⟩
  | 94 => ⟨S_, .f32⟩
  | 95 => ⟨S1x64x1, .f32⟩
  | 96 => ⟨S1x64x1, .f32⟩
  | 97 => ⟨S1x1x720, .f32⟩
  | 98 => ⟨S1x64x720, .f32⟩
  | 99 => ⟨S1x64x720, .f32⟩
  | 100 => ⟨S1x64x720, .f32⟩
  | 101 => ⟨S1x64x360, .f32⟩
  | 102 => ⟨S1x64x360, .f32⟩
  | 103 => ⟨S1x64x360, .f32⟩
  | 104 => ⟨S1x64x360, .f32⟩
  | 105 => ⟨S1x64x360x1, .f32⟩
  | 106 => ⟨S1x64x360x1, .f32⟩
  | 107 => ⟨S1x64x360x2, .f32⟩
  | 108 => ⟨S1x64x720, .f32⟩
  | 109 => ⟨S1x64x2880, .f32⟩
  | 110 => ⟨S1x64x2880, .f32⟩
  | _ => ⟨S1x192x192x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x192x192x192, .f32⟩

abbrev bufTy : (tb : Table) → Fin (tcTables nBuf tb) → BufTy
  | .hbm, ⟨i, _⟩ => hbmTy i
  | _, _ => ⟨S1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_cst_1 : Ref sig .tc := ⟨.hbm, 9, rfl⟩
abbrev main_call0_v2 : Ref sig .tc := ⟨.hbm, 10, rfl⟩
abbrev main_call0_v3 : Ref sig .tc := ⟨.hbm, 11, rfl⟩
abbrev main_call0_cst_2 : Ref sig .tc := ⟨.hbm, 12, rfl⟩
abbrev main_call0_v4 : Ref sig .tc := ⟨.hbm, 13, rfl⟩
abbrev main_call0_v5 : Ref sig .tc := ⟨.hbm, 14, rfl⟩
abbrev main_call0_cst_3 : Ref sig .tc := ⟨.hbm, 15, rfl⟩
abbrev main_call0_v6 : Ref sig .tc := ⟨.hbm, 16, rfl⟩
abbrev main_call0_v7 : Ref sig .tc := ⟨.hbm, 17, rfl⟩
abbrev main_call0_cst_4 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_cst_5 : Ref sig .tc := ⟨.hbm, 32, rfl⟩
abbrev main_call0_v21 : Ref sig .tc := ⟨.hbm, 33, rfl⟩
abbrev main_call0_v22 : Ref sig .tc := ⟨.hbm, 34, rfl⟩
abbrev main_call0_cst_6 : Ref sig .tc := ⟨.hbm, 35, rfl⟩
abbrev main_call0_v23 : Ref sig .tc := ⟨.hbm, 36, rfl⟩
abbrev main_call0_v24 : Ref sig .tc := ⟨.hbm, 37, rfl⟩
abbrev main_call0_cst_7 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_cst_8 : Ref sig .tc := ⟨.hbm, 42, rfl⟩
abbrev main_call0_v28 : Ref sig .tc := ⟨.hbm, 43, rfl⟩
abbrev main_call0_v29 : Ref sig .tc := ⟨.hbm, 44, rfl⟩
abbrev main_call0_cst_9 : Ref sig .tc := ⟨.hbm, 45, rfl⟩
abbrev main_call0_v30 : Ref sig .tc := ⟨.hbm, 46, rfl⟩
abbrev main_call0_v31 : Ref sig .tc := ⟨.hbm, 47, rfl⟩
abbrev main_call0_c : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_c_10 : Ref sig .tc := ⟨.hbm, 54, rfl⟩
abbrev main_call0_call1_v0 : Ref sig .tc := ⟨.hbm, 55, rfl⟩
abbrev main_call0_call1_v1 : Ref sig .tc := ⟨.hbm, 56, rfl⟩
abbrev main_call0_call1_v2 : Ref sig .tc := ⟨.hbm, 57, rfl⟩
abbrev main_call0_v35 : Ref sig .tc := ⟨.hbm, 58, rfl⟩
abbrev main_call0_cst_11 : Ref sig .tc := ⟨.hbm, 59, rfl⟩
abbrev main_call0_v36 : Ref sig .tc := ⟨.hbm, 60, rfl⟩
abbrev main_call0_v37 : Ref sig .tc := ⟨.hbm, 61, rfl⟩
abbrev main_call0_cst_12 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_c_13 : Ref sig .tc := ⟨.hbm, 67, rfl⟩
abbrev main_call0_call2_v0 : Ref sig .tc := ⟨.hbm, 68, rfl⟩
abbrev main_call0_call2_v1 : Ref sig .tc := ⟨.hbm, 69, rfl⟩
abbrev main_call0_call2_v2 : Ref sig .tc := ⟨.hbm, 70, rfl⟩
abbrev main_call0_v42 : Ref sig .tc := ⟨.hbm, 71, rfl⟩
abbrev main_call0_cst_14 : Ref sig .tc := ⟨.hbm, 72, rfl⟩
abbrev main_call0_cst_15 : Ref sig .tc := ⟨.hbm, 73, rfl⟩
abbrev main_call0_v43 : Ref sig .tc := ⟨.hbm, 74, rfl⟩
abbrev main_call0_v44 : Ref sig .tc := ⟨.hbm, 75, rfl⟩
abbrev main_call0_cst_16 : Ref sig .tc := ⟨.hbm, 76, rfl⟩
abbrev main_call0_v45 : Ref sig .tc := ⟨.hbm, 77, rfl⟩
abbrev main_call0_v46 : Ref sig .tc := ⟨.hbm, 78, rfl⟩
abbrev main_call0_cst_17 : Ref sig .tc := ⟨.hbm, 79, rfl⟩
abbrev main_call0_v47 : Ref sig .tc := ⟨.hbm, 80, rfl⟩
abbrev main_call0_v48 : Ref sig .tc := ⟨.hbm, 81, rfl⟩
abbrev main_call0_cst_18 : Ref sig .tc := ⟨.hbm, 82, rfl⟩
abbrev main_call0_v49 : Ref sig .tc := ⟨.hbm, 83, rfl⟩
abbrev main_call0_v50 : Ref sig .tc := ⟨.hbm, 84, rfl⟩
abbrev main_call0_cst_19 : Ref sig .tc := ⟨.hbm, 85, rfl⟩
abbrev main_call0_v51 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_v55 : Ref sig .tc := ⟨.hbm, 90, rfl⟩
abbrev main_call0_v56 : Ref sig .tc := ⟨.hbm, 91, rfl⟩
abbrev main_call0_v57 : Ref sig .tc := ⟨.hbm, 92, rfl⟩
abbrev main_call0_v58 : Ref sig .tc := ⟨.hbm, 93, rfl⟩
abbrev main_call0_v59 : Ref sig .tc := ⟨.hbm, 94, rfl⟩
abbrev main_call0_v60 : Ref sig .tc := ⟨.hbm, 95, rfl⟩
abbrev main_call0_v61 : Ref sig .tc := ⟨.hbm, 96, rfl⟩
abbrev main_call0_v62 : Ref sig .tc := ⟨.hbm, 97, rfl⟩
abbrev main_call0_v63 : Ref sig .tc := ⟨.hbm, 98, rfl⟩
abbrev main_call0_cst_20 : Ref sig .tc := ⟨.hbm, 99, rfl⟩
abbrev main_call0_v64 : Ref sig .tc := ⟨.hbm, 100, rfl⟩
abbrev main_call0_v65 : Ref sig .tc := ⟨.hbm, 101, rfl⟩
abbrev main_call0_cst_21 : Ref sig .tc := ⟨.hbm, 102, rfl⟩
abbrev main_call0_v66 : Ref sig .tc := ⟨.hbm, 103, rfl⟩
abbrev main_call0_v67 : Ref sig .tc := ⟨.hbm, 104, rfl⟩
abbrev main_call0_cst_22 : Ref sig .tc := ⟨.hbm, 105, rfl⟩
abbrev main_call0_v68 : Ref sig .tc := ⟨.hbm, 106, rfl⟩
abbrev main_call0_v69 : Ref sig .tc := ⟨.hbm, 107, rfl⟩
abbrev main_call0_v70 : Ref sig .tc := ⟨.hbm, 108, rfl⟩
abbrev main_call0_cst_23 : Ref sig .tc := ⟨.hbm, 109, rfl⟩
abbrev main_call0_v71 : Ref sig .tc := ⟨.hbm, 110, rfl⟩
abbrev main_call0_v72 : Ref sig .tc := ⟨.hbm, 111, rfl⟩
abbrev main_call0_cst_24 : Ref sig .tc := ⟨.hbm, 112, rfl⟩
abbrev main_call0_v73 : Ref sig .tc := ⟨.hbm, 113, rfl⟩
abbrev main_call0_v74 : Ref sig .tc := ⟨.hbm, 114, rfl⟩
abbrev main_call0_c_25 : Ref sig .tc := ⟨.hbm, 115, rfl⟩
abbrev main_call0_call3_v0 : Ref sig .tc := ⟨.hbm, 116, rfl⟩
abbrev main_call0_call3_v1 : Ref sig .tc := ⟨.hbm, 117, rfl⟩
abbrev main_call0_v75 : Ref sig .tc := ⟨.hbm, 118, rfl⟩
abbrev main_call0_v76 : Ref sig .tc := ⟨.hbm, 119, rfl⟩
abbrev main_call0_v77 : Ref sig .tc := ⟨.hbm, 120, rfl⟩
abbrev main_call0_c_26 : Ref sig .tc := ⟨.hbm, 121, rfl⟩
abbrev main_call0_call4_v0 : Ref sig .tc := ⟨.hbm, 122, rfl⟩
abbrev main_call0_call4_v1 : Ref sig .tc := ⟨.hbm, 123, rfl⟩
abbrev main_call0_call4_v2 : Ref sig .tc := ⟨.hbm, 124, rfl⟩
abbrev main_call0_v78 : Ref sig .tc := ⟨.hbm, 125, rfl⟩
abbrev main_call0_cst_27 : Ref sig .tc := ⟨.hbm, 126, rfl⟩
abbrev main_call0_v79 : Ref sig .tc := ⟨.hbm, 127, rfl⟩
abbrev main_call0_v80 : Ref sig .tc := ⟨.hbm, 128, rfl⟩
abbrev main_call0_cst_28 : Ref sig .tc := ⟨.hbm, 129, rfl⟩
abbrev main_call0_v81 : Ref sig .tc := ⟨.hbm, 130, rfl⟩
abbrev main_call0_v82 : Ref sig .tc := ⟨.hbm, 131, rfl⟩
abbrev main_call0_v83 : Ref sig .tc := ⟨.hbm, 132, rfl⟩
abbrev main_call0_v84 : Ref sig .tc := ⟨.hbm, 133, rfl⟩
abbrev main_call0_c_29 : Ref sig .tc := ⟨.hbm, 134, rfl⟩
abbrev main_call0_call5_v0 : Ref sig .tc := ⟨.hbm, 135, rfl⟩
abbrev main_call0_call5_v1 : Ref sig .tc := ⟨.hbm, 136, rfl⟩
abbrev main_call0_call5_v2 : Ref sig .tc := ⟨.hbm, 137, rfl⟩
abbrev main_call0_v85 : Ref sig .tc := ⟨.hbm, 138, rfl⟩
abbrev main_call0_v86 : Ref sig .tc := ⟨.hbm, 139, rfl⟩
abbrev main_call0_v87 : Ref sig .tc := ⟨.hbm, 140, rfl⟩
abbrev main_v0 : Ref sig .tc := ⟨.hbm, 141, rfl⟩
abbrev main_call1_cst : Ref sig .tc := ⟨.hbm, 142, rfl⟩
abbrev main_call1_cst_0 : Ref sig .tc := ⟨.hbm, 143, rfl⟩
abbrev main_call1_v0 : Ref sig .tc := ⟨.hbm, 144, rfl⟩
abbrev main_call1_v1 : Ref sig .tc := ⟨.hbm, 145, rfl⟩
abbrev main_call1_cst_1 : Ref sig .tc := ⟨.hbm, 146, rfl⟩
abbrev main_call1_v2 : Ref sig .tc := ⟨.hbm, 147, rfl⟩
abbrev main_call1_v3 : Ref sig .tc := ⟨.hbm, 148, rfl⟩
abbrev main_call1_cst_2 : Ref sig .tc := ⟨.hbm, 149, rfl⟩
abbrev main_call1_v4 : Ref sig .tc := ⟨.hbm, 150, rfl⟩
abbrev main_call1_v5 : Ref sig .tc := ⟨.hbm, 151, rfl⟩
abbrev main_call1_cst_3 : Ref sig .tc := ⟨.hbm, 152, rfl⟩
abbrev main_call1_v6 : Ref sig .tc := ⟨.hbm, 153, rfl⟩
abbrev main_call1_v7 : Ref sig .tc := ⟨.hbm, 154, rfl⟩
abbrev main_call1_cst_4 : Ref sig .tc := ⟨.hbm, 155, rfl⟩
abbrev main_call1_v8 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_v12 : Ref sig .tc := ⟨.hbm, 160, rfl⟩
abbrev main_call1_v13 : Ref sig .tc := ⟨.hbm, 161, rfl⟩
abbrev main_call1_v14 : Ref sig .tc := ⟨.hbm, 162, rfl⟩
abbrev main_call1_v15 : Ref sig .tc := ⟨.hbm, 163, rfl⟩
abbrev main_call1_v16 : Ref sig .tc := ⟨.hbm, 164, rfl⟩
abbrev main_call1_v17 : Ref sig .tc := ⟨.hbm, 165, rfl⟩
abbrev main_call1_v18 : Ref sig .tc := ⟨.hbm, 166, rfl⟩
abbrev main_call1_v19 : Ref sig .tc := ⟨.hbm, 167, rfl⟩
abbrev main_call1_v20 : Ref sig .tc := ⟨.hbm, 168, rfl⟩
abbrev main_call1_cst_5 : Ref sig .tc := ⟨.hbm, 169, rfl⟩
abbrev main_call1_v21 : Ref sig .tc := ⟨.hbm, 170, rfl⟩
abbrev main_call1_v22 : Ref sig .tc := ⟨.hbm, 171, rfl⟩
abbrev main_call1_cst_6 : Ref sig .tc := ⟨.hbm, 172, rfl⟩
abbrev main_call1_v23 : Ref sig .tc := ⟨.hbm, 173, rfl⟩
abbrev main_call1_v24 : Ref sig .tc := ⟨.hbm, 174, rfl⟩
abbrev main_call1_cst_7 : Ref sig .tc := ⟨.hbm, 175, rfl⟩
abbrev main_call1_v25 : Ref sig .tc := ⟨.hbm, 176, rfl⟩
abbrev main_call1_v26 : Ref sig .tc := ⟨.hbm, 177, rfl⟩
abbrev main_call1_v27 : Ref sig .tc := ⟨.hbm, 178, rfl⟩
abbrev main_call1_cst_8 : Ref sig .tc := ⟨.hbm, 179, rfl⟩
abbrev main_call1_v28 : Ref sig .tc := ⟨.hbm, 180, rfl⟩
abbrev main_call1_v29 : Ref sig .tc := ⟨.hbm, 181, rfl⟩
abbrev main_call1_cst_9 : Ref sig .tc := ⟨.hbm, 182, rfl⟩
abbrev main_call1_v30 : Ref sig .tc := ⟨.hbm, 183, rfl⟩
abbrev main_call1_v31 : Ref sig .tc := ⟨.hbm, 184, rfl⟩
abbrev main_call1_c : Ref sig .tc := ⟨.hbm, 185, rfl⟩
abbrev main_call1_call0_v0 : Ref sig .tc := ⟨.hbm, 186, rfl⟩
abbrev main_call1_call0_v1 : Ref sig .tc := ⟨.hbm, 187, rfl⟩
abbrev main_call1_v32 : Ref sig .tc := ⟨.hbm, 188, rfl⟩
abbrev main_call1_v33 : Ref sig .tc := ⟨.hbm, 189, rfl⟩
abbrev main_call1_v34 : Ref sig .tc := ⟨.hbm, 190, rfl⟩
abbrev main_call1_c_10 : Ref sig .tc := ⟨.hbm, 191, rfl⟩
abbrev main_call1_call1_v0 : Ref sig .tc := ⟨.hbm, 192, rfl⟩
abbrev main_call1_call1_v1 : Ref sig .tc := ⟨.hbm, 193, rfl⟩
abbrev main_call1_call1_v2 : Ref sig .tc := ⟨.hbm, 194, rfl⟩
abbrev main_call1_v35 : Ref sig .tc := ⟨.hbm, 195, rfl⟩
abbrev main_call1_cst_11 : Ref sig .tc := ⟨.hbm, 196, rfl⟩
abbrev main_call1_v36 : Ref sig .tc := ⟨.hbm, 197, rfl⟩
abbrev main_call1_v37 : Ref sig .tc := ⟨.hbm, 198, rfl⟩
abbrev main_call1_cst_12 : Ref sig .tc := ⟨.hbm, 199, rfl⟩
abbrev main_call1_v38 : Ref sig .tc := ⟨.hbm, 200, rfl⟩
abbrev main_call1_v39 : Ref sig .tc := ⟨.hbm, 201, rfl⟩
abbrev main_call1_v40 : Ref sig .tc := ⟨.hbm, 202, rfl⟩
abbrev main_call1_v41 : Ref sig .tc := ⟨.hbm, 203, rfl⟩
abbrev main_call1_c_13 : Ref sig .tc := ⟨.hbm, 204, rfl⟩
abbrev main_call1_call2_v0 : Ref sig .tc := ⟨.hbm, 205, rfl⟩
abbrev main_call1_call2_v1 : Ref sig .tc := ⟨.hbm, 206, rfl⟩
abbrev main_call1_call2_v2 : Ref sig .tc := ⟨.hbm, 207, rfl⟩
abbrev main_call1_v42 : Ref sig .tc := ⟨.hbm, 208, rfl⟩
abbrev main_call1_cst_14 : Ref sig .tc := ⟨.hbm, 209, rfl⟩
abbrev main_call1_cst_15 : Ref sig .tc := ⟨.hbm, 210, rfl⟩
abbrev main_call1_v43 : Ref sig .tc := ⟨.hbm, 211, rfl⟩
abbrev main_call1_v44 : Ref sig .tc := ⟨.hbm, 212, rfl⟩
abbrev main_call1_cst_16 : Ref sig .tc := ⟨.hbm, 213, rfl⟩
abbrev main_call1_v45 : Ref sig .tc := ⟨.hbm, 214, rfl⟩
abbrev main_call1_v46 : Ref sig .tc := ⟨.hbm, 215, rfl⟩
abbrev main_call1_cst_17 : Ref sig .tc := ⟨.hbm, 216, rfl⟩
abbrev main_call1_v47 : Ref sig .tc := ⟨.hbm, 217, rfl⟩
abbrev main_call1_v48 : Ref sig .tc := ⟨.hbm, 218, rfl⟩
abbrev main_call1_cst_18 : Ref sig .tc := ⟨.hbm, 219, rfl⟩
abbrev main_call1_v49 : Ref sig .tc := ⟨.hbm, 220, rfl⟩
abbrev main_call1_v50 : Ref sig .tc := ⟨.hbm, 221, rfl⟩
abbrev main_call1_cst_19 : Ref sig .tc := ⟨.hbm, 222, rfl⟩
abbrev main_call1_v51 : Ref sig .tc := ⟨.hbm, 223, rfl⟩
abbrev main_call1_v52 : Ref sig .tc := ⟨.hbm, 224, rfl⟩
abbrev main_call1_v53 : Ref sig .tc := ⟨.hbm, 225, rfl⟩
abbrev main_call1_v54 : Ref sig .tc := ⟨.hbm, 226, rfl⟩
abbrev main_call1_v55 : Ref sig .tc := ⟨.hbm, 227, rfl⟩
abbrev main_call1_v56 : Ref sig .tc := ⟨.hbm, 228, rfl⟩
abbrev main_call1_v57 : Ref sig .tc := ⟨.hbm, 229, rfl⟩
abbrev main_call1_v58 : Ref sig .tc := ⟨.hbm, 230, rfl⟩
abbrev main_call1_v59 : Ref sig .tc := ⟨.hbm, 231, rfl⟩
abbrev main_call1_v60 : Ref sig .tc := ⟨.hbm, 232, rfl⟩
abbrev main_call1_v61 : Ref sig .tc := ⟨.hbm, 233, rfl⟩
abbrev main_call1_v62 : Ref sig .tc := ⟨.hbm, 234, rfl⟩
abbrev main_call1_v63 : Ref sig .tc := ⟨.hbm, 235, rfl⟩
abbrev main_call1_cst_20 : Ref sig .tc := ⟨.hbm, 236, rfl⟩
abbrev main_call1_v64 : Ref sig .tc := ⟨.hbm, 237, rfl⟩
abbrev main_call1_v65 : Ref sig .tc := ⟨.hbm, 238, rfl⟩
abbrev main_call1_cst_21 : Ref sig .tc := ⟨.hbm, 239, rfl⟩
abbrev main_call1_v66 : Ref sig .tc := ⟨.hbm, 240, rfl⟩
abbrev main_call1_v67 : Ref sig .tc := ⟨.hbm, 241, rfl⟩
abbrev main_call1_cst_22 : Ref sig .tc := ⟨.hbm, 242, rfl⟩
abbrev main_call1_v68 : Ref sig .tc := ⟨.hbm, 243, rfl⟩
abbrev main_call1_v69 : Ref sig .tc := ⟨.hbm, 244, rfl⟩
abbrev main_call1_v70 : Ref sig .tc := ⟨.hbm, 245, rfl⟩
abbrev main_call1_cst_23 : Ref sig .tc := ⟨.hbm, 246, rfl⟩
abbrev main_call1_v71 : Ref sig .tc := ⟨.hbm, 247, rfl⟩
abbrev main_call1_v72 : Ref sig .tc := ⟨.hbm, 248, rfl⟩
abbrev main_call1_cst_24 : Ref sig .tc := ⟨.hbm, 249, rfl⟩
abbrev main_call1_v73 : Ref sig .tc := ⟨.hbm, 250, rfl⟩
abbrev main_call1_v74 : Ref sig .tc := ⟨.hbm, 251, rfl⟩
abbrev main_call1_c_25 : Ref sig .tc := ⟨.hbm, 252, rfl⟩
abbrev main_call1_call3_v0 : Ref sig .tc := ⟨.hbm, 253, rfl⟩
abbrev main_call1_call3_v1 : Ref sig .tc := ⟨.hbm, 254, rfl⟩
abbrev main_call1_v75 : Ref sig .tc := ⟨.hbm, 255, rfl⟩
abbrev main_call1_v76 : Ref sig .tc := ⟨.hbm, 256, rfl⟩
abbrev main_call1_v77 : Ref sig .tc := ⟨.hbm, 257, rfl⟩
abbrev main_call1_c_26 : Ref sig .tc := ⟨.hbm, 258, rfl⟩
abbrev main_call1_call4_v0 : Ref sig .tc := ⟨.hbm, 259, rfl⟩
abbrev main_call1_call4_v1 : Ref sig .tc := ⟨.hbm, 260, rfl⟩
abbrev main_call1_call4_v2 : Ref sig .tc := ⟨.hbm, 261, rfl⟩
abbrev main_call1_v78 : Ref sig .tc := ⟨.hbm, 262, rfl⟩
abbrev main_call1_cst_27 : Ref sig .tc := ⟨.hbm, 263, rfl⟩
abbrev main_call1_v79 : Ref sig .tc := ⟨.hbm, 264, rfl⟩
abbrev main_call1_v80 : Ref sig .tc := ⟨.hbm, 265, rfl⟩
abbrev main_call1_cst_28 : Ref sig .tc := ⟨.hbm, 266, rfl⟩
abbrev main_call1_v81 : Ref sig .tc := ⟨.hbm, 267, rfl⟩
abbrev main_call1_v82 : Ref sig .tc := ⟨.hbm, 268, rfl⟩
abbrev main_call1_v83 : Ref sig .tc := ⟨.hbm, 269, rfl⟩
abbrev main_call1_v84 : Ref sig .tc := ⟨.hbm, 270, rfl⟩
abbrev main_call1_c_29 : Ref sig .tc := ⟨.hbm, 271, rfl⟩
abbrev main_call1_call5_v0 : Ref sig .tc := ⟨.hbm, 272, rfl⟩
abbrev main_call1_call5_v1 : Ref sig .tc := ⟨.hbm, 273, rfl⟩
abbrev main_call1_call5_v2 : Ref sig .tc := ⟨.hbm, 274, rfl⟩
abbrev main_call1_v85 : Ref sig .tc := ⟨.hbm, 275, rfl⟩
abbrev main_call1_v86 : Ref sig .tc := ⟨.hbm, 276, rfl⟩
abbrev main_call1_v87 : Ref sig .tc := ⟨.hbm, 277, rfl⟩
abbrev main_v1 : Ref sig .tc := ⟨.hbm, 278, rfl⟩
abbrev main_call2_cst : Ref sig .tc := ⟨.hbm, 279, rfl⟩
abbrev main_call2_cst_0 : Ref sig .tc := ⟨.hbm, 280, rfl⟩
abbrev main_call2_v0 : Ref sig .tc := ⟨.hbm, 281, rfl⟩
abbrev main_call2_v1 : Ref sig .tc := ⟨.hbm, 282, rfl⟩
abbrev main_call2_cst_1 : Ref sig .tc := ⟨.hbm, 283, rfl⟩
abbrev main_call2_v2 : Ref sig .tc := ⟨.hbm, 284, rfl⟩
abbrev main_call2_v3 : Ref sig .tc := ⟨.hbm, 285, rfl⟩
abbrev main_call2_cst_2 : Ref sig .tc := ⟨.hbm, 286, rfl⟩
abbrev main_call2_v4 : Ref sig .tc := ⟨.hbm, 287, rfl⟩
abbrev main_call2_v5 : Ref sig .tc := ⟨.hbm, 288, rfl⟩
abbrev main_call2_cst_3 : Ref sig .tc := ⟨.hbm, 289, rfl⟩
abbrev main_call2_v6 : Ref sig .tc := ⟨.hbm, 290, rfl⟩
abbrev main_call2_v7 : Ref sig .tc := ⟨.hbm, 291, rfl⟩
abbrev main_call2_cst_4 : Ref sig .tc := ⟨.hbm, 292, rfl⟩
abbrev main_call2_v8 : Ref sig .tc := ⟨.hbm, 293, rfl⟩
abbrev main_call2_v9 : Ref sig .tc := ⟨.hbm, 294, rfl⟩
abbrev main_call2_v10 : Ref sig .tc := ⟨.hbm, 295, rfl⟩
abbrev main_call2_v11 : Ref sig .tc := ⟨.hbm, 296, rfl⟩
abbrev main_call2_v12 : Ref sig .tc := ⟨.hbm, 297, rfl⟩
abbrev main_call2_v13 : Ref sig .tc := ⟨.hbm, 298, rfl⟩
abbrev main_call2_v14 : Ref sig .tc := ⟨.hbm, 299, rfl⟩
abbrev main_call2_v15 : Ref sig .tc := ⟨.hbm, 300, rfl⟩
abbrev main_call2_v16 : Ref sig .tc := ⟨.hbm, 301, rfl⟩
abbrev main_call2_v17 : Ref sig .tc := ⟨.hbm, 302, rfl⟩
abbrev main_call2_v18 : Ref sig .tc := ⟨.hbm, 303, rfl⟩
abbrev main_call2_v19 : Ref sig .tc := ⟨.hbm, 304, rfl⟩
abbrev main_call2_v20 : Ref sig .tc := ⟨.hbm, 305, rfl⟩
abbrev main_call2_cst_5 : Ref sig .tc := ⟨.hbm, 306, rfl⟩
abbrev main_call2_v21 : Ref sig .tc := ⟨.hbm, 307, rfl⟩
abbrev main_call2_v22 : Ref sig .tc := ⟨.hbm, 308, rfl⟩
abbrev main_call2_cst_6 : Ref sig .tc := ⟨.hbm, 309, rfl⟩
abbrev main_call2_v23 : Ref sig .tc := ⟨.hbm, 310, rfl⟩
abbrev main_call2_v24 : Ref sig .tc := ⟨.hbm, 311, rfl⟩
abbrev main_call2_cst_7 : Ref sig .tc := ⟨.hbm, 312, rfl⟩
abbrev main_call2_v25 : Ref sig .tc := ⟨.hbm, 313, rfl⟩
abbrev main_call2_v26 : Ref sig .tc := ⟨.hbm, 314, rfl⟩
abbrev main_call2_v27 : Ref sig .tc := ⟨.hbm, 315, rfl⟩
abbrev main_call2_cst_8 : Ref sig .tc := ⟨.hbm, 316, rfl⟩
abbrev main_call2_v28 : Ref sig .tc := ⟨.hbm, 317, rfl⟩
abbrev main_call2_v29 : Ref sig .tc := ⟨.hbm, 318, rfl⟩
abbrev main_call2_cst_9 : Ref sig .tc := ⟨.hbm, 319, rfl⟩
abbrev main_call2_v30 : Ref sig .tc := ⟨.hbm, 320, rfl⟩
abbrev main_call2_v31 : Ref sig .tc := ⟨.hbm, 321, rfl⟩
abbrev main_call2_c : Ref sig .tc := ⟨.hbm, 322, rfl⟩
abbrev main_call2_call0_v0 : Ref sig .tc := ⟨.hbm, 323, rfl⟩
abbrev main_call2_call0_v1 : Ref sig .tc := ⟨.hbm, 324, rfl⟩
abbrev main_call2_v32 : Ref sig .tc := ⟨.hbm, 325, rfl⟩
abbrev main_call2_v33 : Ref sig .tc := ⟨.hbm, 326, rfl⟩
abbrev main_call2_v34 : Ref sig .tc := ⟨.hbm, 327, rfl⟩
abbrev main_call2_c_10 : Ref sig .tc := ⟨.hbm, 328, rfl⟩
abbrev main_call2_call1_v0 : Ref sig .tc := ⟨.hbm, 329, rfl⟩
abbrev main_call2_call1_v1 : Ref sig .tc := ⟨.hbm, 330, rfl⟩
abbrev main_call2_call1_v2 : Ref sig .tc := ⟨.hbm, 331, rfl⟩
abbrev main_call2_v35 : Ref sig .tc := ⟨.hbm, 332, rfl⟩
abbrev main_call2_cst_11 : Ref sig .tc := ⟨.hbm, 333, rfl⟩
abbrev main_call2_v36 : Ref sig .tc := ⟨.hbm, 334, rfl⟩
abbrev main_call2_v37 : Ref sig .tc := ⟨.hbm, 335, rfl⟩
abbrev main_call2_cst_12 : Ref sig .tc := ⟨.hbm, 336, rfl⟩
abbrev main_call2_v38 : Ref sig .tc := ⟨.hbm, 337, rfl⟩
abbrev main_call2_v39 : Ref sig .tc := ⟨.hbm, 338, rfl⟩
abbrev main_call2_v40 : Ref sig .tc := ⟨.hbm, 339, rfl⟩
abbrev main_call2_v41 : Ref sig .tc := ⟨.hbm, 340, rfl⟩
abbrev main_call2_c_13 : Ref sig .tc := ⟨.hbm, 341, rfl⟩
abbrev main_call2_call2_v0 : Ref sig .tc := ⟨.hbm, 342, rfl⟩
abbrev main_call2_call2_v1 : Ref sig .tc := ⟨.hbm, 343, rfl⟩
abbrev main_call2_call2_v2 : Ref sig .tc := ⟨.hbm, 344, rfl⟩
abbrev main_call2_v42 : Ref sig .tc := ⟨.hbm, 345, rfl⟩
abbrev main_call2_cst_14 : Ref sig .tc := ⟨.hbm, 346, rfl⟩
abbrev main_call2_cst_15 : Ref sig .tc := ⟨.hbm, 347, rfl⟩
abbrev main_call2_v43 : Ref sig .tc := ⟨.hbm, 348, rfl⟩
abbrev main_call2_v44 : Ref sig .tc := ⟨.hbm, 349, rfl⟩
abbrev main_call2_cst_16 : Ref sig .tc := ⟨.hbm, 350, rfl⟩
abbrev main_call2_v45 : Ref sig .tc := ⟨.hbm, 351, rfl⟩
abbrev main_call2_v46 : Ref sig .tc := ⟨.hbm, 352, rfl⟩
abbrev main_call2_cst_17 : Ref sig .tc := ⟨.hbm, 353, rfl⟩
abbrev main_call2_v47 : Ref sig .tc := ⟨.hbm, 354, rfl⟩
abbrev main_call2_v48 : Ref sig .tc := ⟨.hbm, 355, rfl⟩
abbrev main_call2_cst_18 : Ref sig .tc := ⟨.hbm, 356, rfl⟩
abbrev main_call2_v49 : Ref sig .tc := ⟨.hbm, 357, rfl⟩
abbrev main_call2_v50 : Ref sig .tc := ⟨.hbm, 358, rfl⟩
abbrev main_call2_cst_19 : Ref sig .tc := ⟨.hbm, 359, rfl⟩
abbrev main_call2_v51 : Ref sig .tc := ⟨.hbm, 360, rfl⟩
abbrev main_call2_v52 : Ref sig .tc := ⟨.hbm, 361, rfl⟩
abbrev main_call2_v53 : Ref sig .tc := ⟨.hbm, 362, rfl⟩
abbrev main_call2_v54 : Ref sig .tc := ⟨.hbm, 363, rfl⟩
abbrev main_call2_v55 : Ref sig .tc := ⟨.hbm, 364, rfl⟩
abbrev main_call2_v56 : Ref sig .tc := ⟨.hbm, 365, rfl⟩
abbrev main_call2_v57 : Ref sig .tc := ⟨.hbm, 366, rfl⟩
abbrev main_call2_v58 : Ref sig .tc := ⟨.hbm, 367, rfl⟩
abbrev main_call2_v59 : Ref sig .tc := ⟨.hbm, 368, rfl⟩
abbrev main_call2_v60 : Ref sig .tc := ⟨.hbm, 369, rfl⟩
abbrev main_call2_v61 : Ref sig .tc := ⟨.hbm, 370, rfl⟩
abbrev main_call2_v62 : Ref sig .tc := ⟨.hbm, 371, rfl⟩
abbrev main_call2_v63 : Ref sig .tc := ⟨.hbm, 372, rfl⟩
abbrev main_call2_cst_20 : Ref sig .tc := ⟨.hbm, 373, rfl⟩
abbrev main_call2_v64 : Ref sig .tc := ⟨.hbm, 374, rfl⟩
abbrev main_call2_v65 : Ref sig .tc := ⟨.hbm, 375, rfl⟩
abbrev main_call2_cst_21 : Ref sig .tc := ⟨.hbm, 376, rfl⟩
abbrev main_call2_v66 : Ref sig .tc := ⟨.hbm, 377, rfl⟩
abbrev main_call2_v67 : Ref sig .tc := ⟨.hbm, 378, rfl⟩
abbrev main_call2_cst_22 : Ref sig .tc := ⟨.hbm, 379, rfl⟩
abbrev main_call2_v68 : Ref sig .tc := ⟨.hbm, 380, rfl⟩
abbrev main_call2_v69 : Ref sig .tc := ⟨.hbm, 381, rfl⟩
abbrev main_call2_v70 : Ref sig .tc := ⟨.hbm, 382, rfl⟩
abbrev main_call2_cst_23 : Ref sig .tc := ⟨.hbm, 383, rfl⟩
abbrev main_call2_v71 : Ref sig .tc := ⟨.hbm, 384, rfl⟩
abbrev main_call2_v72 : Ref sig .tc := ⟨.hbm, 385, rfl⟩
abbrev main_call2_cst_24 : Ref sig .tc := ⟨.hbm, 386, rfl⟩
abbrev main_call2_v73 : Ref sig .tc := ⟨.hbm, 387, rfl⟩
abbrev main_call2_v74 : Ref sig .tc := ⟨.hbm, 388, rfl⟩
abbrev main_call2_c_25 : Ref sig .tc := ⟨.hbm, 389, rfl⟩
abbrev main_call2_call3_v0 : Ref sig .tc := ⟨.hbm, 390, rfl⟩
abbrev main_call2_call3_v1 : Ref sig .tc := ⟨.hbm, 391, rfl⟩
abbrev main_call2_v75 : Ref sig .tc := ⟨.hbm, 392, rfl⟩
abbrev main_call2_v76 : Ref sig .tc := ⟨.hbm, 393, rfl⟩
abbrev main_call2_v77 : Ref sig .tc := ⟨.hbm, 394, rfl⟩
abbrev main_call2_c_26 : Ref sig .tc := ⟨.hbm, 395, rfl⟩
abbrev main_call2_call4_v0 : Ref sig .tc := ⟨.hbm, 396, rfl⟩
abbrev main_call2_call4_v1 : Ref sig .tc := ⟨.hbm, 397, rfl⟩
abbrev main_call2_call4_v2 : Ref sig .tc := ⟨.hbm, 398, rfl⟩
abbrev main_call2_v78 : Ref sig .tc := ⟨.hbm, 399, rfl⟩
abbrev main_call2_cst_27 : Ref sig .tc := ⟨.hbm, 400, rfl⟩
abbrev main_call2_v79 : Ref sig .tc := ⟨.hbm, 401, rfl⟩
abbrev main_call2_v80 : Ref sig .tc := ⟨.hbm, 402, rfl⟩
abbrev main_call2_cst_28 : Ref sig .tc := ⟨.hbm, 403, rfl⟩
abbrev main_call2_v81 : Ref sig .tc := ⟨.hbm, 404, rfl⟩
abbrev main_call2_v82 : Ref sig .tc := ⟨.hbm, 405, rfl⟩
abbrev main_call2_v83 : Ref sig .tc := ⟨.hbm, 406, rfl⟩
abbrev main_call2_v84 : Ref sig .tc := ⟨.hbm, 407, rfl⟩
abbrev main_call2_c_29 : Ref sig .tc := ⟨.hbm, 408, rfl⟩
abbrev main_call2_call5_v0 : Ref sig .tc := ⟨.hbm, 409, rfl⟩
abbrev main_call2_call5_v1 : Ref sig .tc := ⟨.hbm, 410, rfl⟩
abbrev main_call2_call5_v2 : Ref sig .tc := ⟨.hbm, 411, rfl⟩
abbrev main_call2_v85 : Ref sig .tc := ⟨.hbm, 412, rfl⟩
abbrev main_call2_v86 : Ref sig .tc := ⟨.hbm, 413, rfl⟩
abbrev main_call2_v87 : Ref sig .tc := ⟨.hbm, 414, rfl⟩
abbrev main_v2 : Ref sig .tc := ⟨.hbm, 415, rfl⟩
abbrev main_v3 : Ref sig .tc := ⟨.hbm, 416, rfl⟩
abbrev main_v4 : Ref sig .tc := ⟨.hbm, 417, rfl⟩
abbrev main_cst : Ref sig .tc := ⟨.hbm, 418, rfl⟩
abbrev main_v5 : Ref sig .tc := ⟨.hbm, 419, rfl⟩
abbrev main_v6 : Ref sig .tc := ⟨.hbm, 420, rfl⟩
abbrev main_v7 : Ref sig .tc := ⟨.hbm, 421, rfl⟩
abbrev main_v8 : Ref sig .tc := ⟨.hbm, 422, rfl⟩
abbrev main_v9 : Ref sig .tc := ⟨.hbm, 423, rfl⟩
abbrev main_v10 : Ref sig .tc := ⟨.hbm, 424, rfl⟩
abbrev main_v11 : Ref sig .tc := ⟨.hbm, 425, rfl⟩
abbrev main_v12 : Ref sig .tc := ⟨.hbm, 426, rfl⟩
abbrev main_v13 : Ref sig .tc := ⟨.hbm, 427, rfl⟩
abbrev main_cst_0 : Ref sig .tc := ⟨.hbm, 428, rfl⟩
abbrev main_v14 : Ref sig .tc := ⟨.hbm, 429, rfl⟩
abbrev main_v15 : Ref sig .tc := ⟨.hbm, 430, rfl⟩
abbrev main_v16 : Ref sig .tc := ⟨.hbm, 431, rfl⟩
abbrev main_v17 : Ref sig .tc := ⟨.hbm, 432, rfl⟩
abbrev main_v18 : Ref sig .tc := ⟨.hbm, 433, rfl⟩
abbrev main_cst_1 : Ref sig .tc := ⟨.hbm, 434, rfl⟩
abbrev main_v19 : Ref sig .tc := ⟨.hbm, 435, rfl⟩
abbrev main_v20 : Ref sig .tc := ⟨.hbm, 436, rfl⟩
abbrev main_cst_2 : Ref sig .tc := ⟨.hbm, 437, rfl⟩
abbrev main_v21 : Ref sig .tc := ⟨.hbm, 438, rfl⟩
abbrev main_v22 : Ref sig .tc := ⟨.hbm, 439, rfl⟩
abbrev main_cst_3 : Ref sig .tc := ⟨.hbm, 440, rfl⟩
abbrev main_v23 : Ref sig .tc := ⟨.hbm, 441, rfl⟩
abbrev main_v24 : Ref sig .tc := ⟨.hbm, 442, rfl⟩
abbrev main_v25 : Ref sig .tc := ⟨.hbm, 443, rfl⟩
abbrev main_v26 : Ref sig .tc := ⟨.hbm, 444, rfl⟩
abbrev main_v27 : Ref sig .tc := ⟨.hbm, 445, rfl⟩
abbrev main_v28 : Ref sig .tc := ⟨.hbm, 446, rfl⟩
abbrev main_cst_4 : Ref sig .tc := ⟨.hbm, 447, rfl⟩
abbrev main_v29 : Ref sig .tc := ⟨.hbm, 448, rfl⟩
abbrev main_v30 : Ref sig .tc := ⟨.hbm, 449, rfl⟩
abbrev main_cst_5 : Ref sig .tc := ⟨.hbm, 450, rfl⟩
abbrev main_v31 : Ref sig .tc := ⟨.hbm, 451, rfl⟩
abbrev main_v32 : Ref sig .tc := ⟨.hbm, 452, rfl⟩
abbrev main_v33 : Ref sig .tc := ⟨.hbm, 453, rfl⟩
abbrev main_v34 : Ref sig .tc := ⟨.hbm, 454, rfl⟩
abbrev main_v35 : Ref sig .tc := ⟨.hbm, 455, rfl⟩
abbrev main_v36 : Ref sig .tc := ⟨.hbm, 456, rfl⟩
abbrev main_v37 : Ref sig .tc := ⟨.hbm, 457, rfl⟩
abbrev main_v38 : Ref sig .tc := ⟨.hbm, 458, rfl⟩
abbrev main_v39 : Ref sig .tc := ⟨.hbm, 459, rfl⟩
abbrev main_v40 : Ref sig .tc := ⟨.hbm, 460, rfl⟩
abbrev main_v41 : Ref sig .tc := ⟨.hbm, 461, rfl⟩
abbrev main_v42 : Ref sig .tc := ⟨.hbm, 462, rfl⟩
abbrev main_v43 : Ref sig .tc := ⟨.hbm, 463, rfl⟩
abbrev main_v44 : Ref sig .tc := ⟨.hbm, 464, rfl⟩
abbrev main_v45 : Ref sig .tc := ⟨.hbm, 465, rfl⟩
abbrev main_v46 : Ref sig .tc := ⟨.hbm, 466, rfl⟩
abbrev main_v47 : Ref sig .tc := ⟨.hbm, 467, rfl⟩
abbrev main_v48 : Ref sig .tc := ⟨.hbm, 468, rfl⟩
abbrev main_v49 : Ref sig .tc := ⟨.hbm, 469, rfl⟩
abbrev main_v50 : Ref sig .tc := ⟨.hbm, 470, rfl⟩
abbrev main_v51 : Ref sig .tc := ⟨.hbm, 471, rfl⟩
abbrev main_v52 : Ref sig .tc := ⟨.hbm, 472, rfl⟩
abbrev main_v53 : Ref sig .tc := ⟨.hbm, 473, rfl⟩
abbrev main_v54 : Ref sig .tc := ⟨.hbm, 474, rfl⟩
abbrev main_v55 : Ref sig .tc := ⟨.hbm, 475, rfl⟩
abbrev main_v56 : Ref sig .tc := ⟨.hbm, 476, rfl⟩
abbrev main_v57 : Ref sig .tc := ⟨.hbm, 477, rfl⟩
abbrev main_v58 : Ref sig .tc := ⟨.hbm, 478, rfl⟩
abbrev main_cst_6 : Ref sig .tc := ⟨.hbm, 479, rfl⟩
abbrev main_v59 : Ref sig .tc := ⟨.hbm, 480, rfl⟩
abbrev main_v60 : Ref sig .tc := ⟨.hbm, 481, rfl⟩
abbrev main_cst_7 : Ref sig .tc := ⟨.hbm, 482, rfl⟩
abbrev main_v61 : Ref sig .tc := ⟨.hbm, 483, rfl⟩
abbrev main_v62 : Ref sig .tc := ⟨.hbm, 484, rfl⟩
abbrev main_v63 : Ref sig .tc := ⟨.hbm, 485, rfl⟩
abbrev main_cst_8 : Ref sig .tc := ⟨.hbm, 486, rfl⟩
abbrev main_v64 : Ref sig .tc := ⟨.hbm, 487, rfl⟩
abbrev main_v65 : Ref sig .tc := ⟨.hbm, 488, rfl⟩
abbrev main_v66 : Ref sig .tc := ⟨.hbm, 489, rfl⟩
abbrev main_cst_9 : Ref sig .tc := ⟨.hbm, 490, rfl⟩
abbrev main_v67 : Ref sig .tc := ⟨.hbm, 491, rfl⟩
abbrev main_v68 : Ref sig .tc := ⟨.hbm, 492, rfl⟩
abbrev main_v69 : Ref sig .tc := ⟨.hbm, 493, rfl⟩
abbrev main_cst_10 : Ref sig .tc := ⟨.hbm, 494, rfl⟩
abbrev main_c : Ref sig .tc := ⟨.hbm, 495, rfl⟩
abbrev main_call3_v0 : Ref sig .tc := ⟨.hbm, 496, rfl⟩
abbrev main_call3_v1 : Ref sig .tc := ⟨.hbm, 497, rfl⟩
abbrev main_call3_v2 : Ref sig .tc := ⟨.hbm, 498, rfl⟩
abbrev main_call3_v3 : Ref sig .tc := ⟨.hbm, 499, rfl⟩
abbrev main_call3_v4 : Ref sig .tc := ⟨.hbm, 500, rfl⟩
abbrev main_v70 : Ref sig .tc := ⟨.hbm, 501, rfl⟩
abbrev main_cst_11 : Ref sig .tc := ⟨.hbm, 502, rfl⟩
abbrev main_c_12 : Ref sig .tc := ⟨.hbm, 503, rfl⟩
abbrev main_call4_v0 : Ref sig .tc := ⟨.hbm, 504, rfl⟩
abbrev main_call4_v1 : Ref sig .tc := ⟨.hbm, 505, rfl⟩
abbrev main_call4_v2 : Ref sig .tc := ⟨.hbm, 506, rfl⟩
abbrev main_call4_v3 : Ref sig .tc := ⟨.hbm, 507, rfl⟩
abbrev main_call4_v4 : Ref sig .tc := ⟨.hbm, 508, rfl⟩
abbrev main_v71 : Ref sig .tc := ⟨.hbm, 509, rfl⟩
abbrev main_v72 : Ref sig .tc := ⟨.hbm, 510, rfl⟩
abbrev main_v73 : Ref sig .tc := ⟨.hbm, 511, rfl⟩
abbrev main_v74 : Ref sig .tc := ⟨.hbm, 512, rfl⟩
abbrev main_v75 : Ref sig .tc := ⟨.hbm, 513, rfl⟩
abbrev main_c_13 : Ref sig .tc := ⟨.hbm, 514, rfl⟩
abbrev main_v76 : Ref sig .tc := ⟨.hbm, 515, rfl⟩
abbrev main_v77 : Ref sig .tc := ⟨.hbm, 516, rfl⟩
abbrev main_c_14 : Ref sig .tc := ⟨.hbm, 517, rfl⟩
abbrev main_v78 : Ref sig .tc := ⟨.hbm, 518, rfl⟩
abbrev main_v79 : Ref sig .tc := ⟨.hbm, 519, rfl⟩
abbrev main_c_15 : Ref sig .tc := ⟨.hbm, 520, rfl⟩
abbrev main_v80 : Ref sig .tc := ⟨.hbm, 521, rfl⟩
abbrev main_v81 : Ref sig .tc := ⟨.hbm, 522, rfl⟩
abbrev main_c_16 : Ref sig .tc := ⟨.hbm, 523, rfl⟩
abbrev main_v82 : Ref sig .tc := ⟨.hbm, 524, rfl⟩
abbrev main_v83 : Ref sig .tc := ⟨.hbm, 525, rfl⟩
abbrev main_v84 : Ref sig .tc := ⟨.hbm, 526, rfl⟩
abbrev main_v85 : Ref sig .tc := ⟨.hbm, 527, rfl⟩
abbrev main_v86 : Ref sig .tc := ⟨.hbm, 528, rfl⟩
abbrev main_v87 : Ref sig .tc := ⟨.hbm, 529, rfl⟩
abbrev main_cst_17 : Ref sig .tc := ⟨.hbm, 530, rfl⟩
abbrev main_v88 : Ref sig .tc := ⟨.hbm, 531, rfl⟩
abbrev main_v89 : Ref sig .tc := ⟨.hbm, 532, rfl⟩
abbrev main_cst_18 : Ref sig .tc := ⟨.hbm, 533, rfl⟩
abbrev main_v90 : Ref sig .tc := ⟨.hbm, 534, rfl⟩
abbrev main_v91 : Ref sig .tc := ⟨.hbm, 535, rfl⟩
abbrev main_v92 : Ref sig .tc := ⟨.hbm, 536, rfl⟩
abbrev main_c_19 : Ref sig .tc := ⟨.hbm, 537, rfl⟩
abbrev main_v93 : Ref sig .tc := ⟨.hbm, 538, rfl⟩
abbrev main_v94 : Ref sig .tc := ⟨.hbm, 539, rfl⟩
abbrev main_v95 : Ref sig .tc := ⟨.hbm, 540, rfl⟩
abbrev main_c_20 : Ref sig .tc := ⟨.hbm, 541, rfl⟩
abbrev main_v96 : Ref sig .tc := ⟨.hbm, 542, rfl⟩
abbrev main_v97 : Ref sig .tc := ⟨.hbm, 543, rfl⟩
abbrev main_c_21 : Ref sig .tc := ⟨.hbm, 544, rfl⟩
abbrev main_v98 : Ref sig .tc := ⟨.hbm, 545, rfl⟩
abbrev main_v99 : Ref sig .tc := ⟨.hbm, 546, rfl⟩
abbrev main_v100 : Ref sig .tc := ⟨.hbm, 547, rfl⟩
abbrev main_v101 : Ref sig .tc := ⟨.hbm, 548, rfl⟩
abbrev main_v102 : Ref sig .tc := ⟨.hbm, 549, rfl⟩
abbrev main_v103 : Ref sig .tc := ⟨.hbm, 550, rfl⟩
abbrev main_v104 : Ref sig .tc := ⟨.hbm, 551, rfl⟩
abbrev main_v105 : Ref sig .tc := ⟨.hbm, 552, rfl⟩
abbrev main_v106 : Ref sig .tc := ⟨.hbm, 553, rfl⟩
abbrev main_c_22 : Ref sig .tc := ⟨.hbm, 554, rfl⟩
abbrev main_v107 : Ref sig .tc := ⟨.hbm, 555, rfl⟩
abbrev main_v108 : Ref sig .tc := ⟨.hbm, 556, rfl⟩
abbrev main_v109 : Ref sig .tc := ⟨.hbm, 557, rfl⟩
abbrev main_c_23 : Ref sig .tc := ⟨.hbm, 558, rfl⟩
abbrev main_v110 : Ref sig .tc := ⟨.hbm, 559, rfl⟩
abbrev main_v111 : Ref sig .tc := ⟨.hbm, 560, rfl⟩
abbrev main_c_24 : Ref sig .tc := ⟨.hbm, 561, rfl⟩
abbrev main_v112 : Ref sig .tc := ⟨.hbm, 562, rfl⟩
abbrev main_v113 : Ref sig .tc := ⟨.hbm, 563, rfl⟩
abbrev main_v114 : Ref sig .tc := ⟨.hbm, 564, rfl⟩
abbrev main_v115 : Ref sig .tc := ⟨.hbm, 565, rfl⟩
abbrev main_v116 : Ref sig .tc := ⟨.hbm, 566, rfl⟩
abbrev main_v117 : Ref sig .tc := ⟨.hbm, 567, rfl⟩
abbrev main_v118 : Ref sig .tc := ⟨.hbm, 568, rfl⟩
abbrev main_v119 : Ref sig .tc := ⟨.hbm, 569, rfl⟩
abbrev main_v120 : Ref sig .tc := ⟨.hbm, 570, rfl⟩
abbrev main_v121 : Ref sig .tc := ⟨.hbm, 571, rfl⟩
abbrev main_c_25 : Ref sig .tc := ⟨.hbm, 572, rfl⟩
abbrev main_v122 : Ref sig .tc := ⟨.hbm, 573, rfl⟩
abbrev main_v123 : Ref sig .tc := ⟨.hbm, 574, rfl⟩
abbrev main_v124 : Ref sig .tc := ⟨.hbm, 575, rfl⟩
abbrev main_c_26 : Ref sig .tc := ⟨.hbm, 576, rfl⟩
abbrev main_v125 : Ref sig .tc := ⟨.hbm, 577, rfl⟩
abbrev main_v126 : Ref sig .tc := ⟨.hbm, 578, rfl⟩
abbrev main_c_27 : Ref sig .tc := ⟨.hbm, 579, rfl⟩
abbrev main_v127 : Ref sig .tc := ⟨.hbm, 580, rfl⟩
abbrev main_v128 : Ref sig .tc := ⟨.hbm, 581, rfl⟩
abbrev main_v129 : Ref sig .tc := ⟨.hbm, 582, rfl⟩
abbrev main_v130 : Ref sig .tc := ⟨.hbm, 583, rfl⟩
abbrev main_v131 : Ref sig .tc := ⟨.hbm, 584, rfl⟩
abbrev main_v132 : Ref sig .tc := ⟨.hbm, 585, rfl⟩
abbrev main_v133 : Ref sig .tc := ⟨.hbm, 586, rfl⟩
abbrev main_v134 : Ref sig .tc := ⟨.hbm, 587, rfl⟩
abbrev main_v135 : Ref sig .tc := ⟨.hbm, 588, rfl⟩
abbrev main_v136 : Ref sig .tc := ⟨.hbm, 589, rfl⟩
abbrev main_c_28 : Ref sig .tc := ⟨.hbm, 590, rfl⟩
abbrev main_v137 : Ref sig .tc := ⟨.hbm, 591, rfl⟩
abbrev main_v138 : Ref sig .tc := ⟨.hbm, 592, rfl⟩
abbrev main_v139 : Ref sig .tc := ⟨.hbm, 593, rfl⟩
abbrev main_c_29 : Ref sig .tc := ⟨.hbm, 594, rfl⟩
abbrev main_v140 : Ref sig .tc := ⟨.hbm, 595, rfl⟩
abbrev main_v141 : Ref sig .tc := ⟨.hbm, 596, rfl⟩
abbrev main_c_30 : Ref sig .tc := ⟨.hbm, 597, rfl⟩
abbrev main_v142 : Ref sig .tc := ⟨.hbm, 598, rfl⟩
abbrev main_v143 : Ref sig .tc := ⟨.hbm, 599, rfl⟩
abbrev main_v144 : Ref sig .tc := ⟨.hbm, 600, rfl⟩
abbrev main_v145 : Ref sig .tc := ⟨.hbm, 601, rfl⟩
abbrev main_v146 : Ref sig .tc := ⟨.hbm, 602, rfl⟩
abbrev main_v147 : Ref sig .tc := ⟨.hbm, 603, rfl⟩
abbrev main_v148 : Ref sig .tc := ⟨.hbm, 604, rfl⟩
abbrev main_v149 : Ref sig .tc := ⟨.hbm, 605, rfl⟩
abbrev main_v150 : Ref sig .tc := ⟨.hbm, 606, rfl⟩
abbrev main_v151 : Ref sig .tc := ⟨.hbm, 607, rfl⟩
abbrev main_v152 : Ref sig .tc := ⟨.hbm, 608, rfl⟩
abbrev main_cst_31 : Ref sig .tc := ⟨.hbm, 609, rfl⟩
abbrev main_call5_v0 : Ref sig .tc := ⟨.hbm, 610, rfl⟩
abbrev main_call5_v1 : Ref sig .tc := ⟨.hbm, 611, rfl⟩
abbrev main_call5_v2 : Ref sig .tc := ⟨.hbm, 612, rfl⟩
abbrev main_v153 : Ref sig .tc := ⟨.hbm, 613, rfl⟩
abbrev main_v154 : Ref sig .tc := ⟨.hbm, 614, rfl⟩
abbrev main_cst_32 : Ref sig .tc := ⟨.hbm, 615, rfl⟩
abbrev main_v155 : Ref sig .tc := ⟨.hbm, 616, rfl⟩
abbrev main_cst_33 : Ref sig .tc := ⟨.hbm, 617, rfl⟩
abbrev main_v156 : Ref sig .tc := ⟨.hbm, 618, rfl⟩
abbrev main_v157 : Ref sig .tc := ⟨.hbm, 619, rfl⟩
abbrev main_v158 : Ref sig .tc := ⟨.hbm, 620, rfl⟩
abbrev main_cst_34 : Ref sig .tc := ⟨.hbm, 621, rfl⟩
abbrev main_v159 : Ref sig .tc := ⟨.hbm, 622, rfl⟩
abbrev main_cst_35 : Ref sig .tc := ⟨.hbm, 623, rfl⟩
abbrev main_v160 : Ref sig .tc := ⟨.hbm, 624, rfl⟩
abbrev main_v161 : Ref sig .tc := ⟨.hbm, 625, rfl⟩
abbrev main_v162 : Ref sig .tc := ⟨.hbm, 626, rfl⟩
abbrev main_v163 : Ref sig .tc := ⟨.hbm, 627, rfl⟩
abbrev main_v164 : Ref sig .tc := ⟨.hbm, 628, rfl⟩
abbrev main_cst_36 : Ref sig .tc := ⟨.hbm, 629, rfl⟩
abbrev main_v165 : Ref sig .tc := ⟨.hbm, 630, rfl⟩
abbrev main_v166 : Ref sig .tc := ⟨.hbm, 631, rfl⟩
abbrev main_v167 : Ref sig .tc := ⟨.hbm, 632, rfl⟩
abbrev main_v168 : Ref sig .tc := ⟨.hbm, 633, rfl⟩
abbrev main_cst_37 : Ref sig .tc := ⟨.hbm, 634, rfl⟩
abbrev main_v169 : Ref sig .tc := ⟨.hbm, 635, rfl⟩
abbrev main_v170 : Ref sig .tc := ⟨.hbm, 636, rfl⟩
abbrev main_v171 : Ref sig .tc := ⟨.hbm, 637, rfl⟩
abbrev main_v172 : Ref sig .tc := ⟨.hbm, 638, rfl⟩
abbrev main_cst_38 : Ref sig .tc := ⟨.hbm, 639, rfl⟩
abbrev main_v173 : Ref sig .tc := ⟨.hbm, 640, rfl⟩
abbrev main_v174 : Ref sig .tc := ⟨.hbm, 641, rfl⟩
abbrev main_v175 : Ref sig .tc := ⟨.hbm, 642, rfl⟩
abbrev main_v176 : Ref sig .tc := ⟨.hbm, 643, rfl⟩
abbrev main_v177 : Ref sig .tc := ⟨.hbm, 644, rfl⟩
abbrev main_cst_39 : Ref sig .tc := ⟨.hbm, 645, rfl⟩
abbrev main_v178 : Ref sig .tc := ⟨.hbm, 646, rfl⟩
abbrev main_v179 : Ref sig .tc := ⟨.hbm, 647, rfl⟩
abbrev main_v180 : Ref sig .tc := ⟨.hbm, 648, rfl⟩
abbrev main_cst_40 : Ref sig .tc := ⟨.hbm, 649, rfl⟩
abbrev main_v181 : Ref sig .tc := ⟨.hbm, 650, rfl⟩
abbrev main_v182 : Ref sig .tc := ⟨.hbm, 651, rfl⟩
abbrev main_v183 : Ref sig .tc := ⟨.hbm, 652, rfl⟩
abbrev main_cst_41 : Ref sig .tc := ⟨.hbm, 653, rfl⟩
abbrev main_v184 : Ref sig .tc := ⟨.hbm, 654, rfl⟩
abbrev main_v185 : Ref sig .tc := ⟨.hbm, 655, rfl⟩
abbrev main_v186 : Ref sig .tc := ⟨.hbm, 656, rfl⟩
abbrev main_v187 : Ref sig .tc := ⟨.hbm, 657, rfl⟩
abbrev main_v188 : Ref sig .tc := ⟨.hbm, 658, rfl⟩
abbrev main_v189 : Ref sig .tc := ⟨.hbm, 659, rfl⟩
abbrev main_v190 : Ref sig .tc := ⟨.hbm, 660, rfl⟩
abbrev main_v191 : Ref sig .tc := ⟨.hbm, 661, rfl⟩
abbrev main_v192 : Ref sig .tc := ⟨.hbm, 662, rfl⟩
abbrev main_v193 : Ref sig .tc := ⟨.hbm, 663, rfl⟩
abbrev main_cst_42 : Ref sig .tc := ⟨.hbm, 664, rfl⟩
abbrev main_v194 : Ref sig .tc := ⟨.hbm, 665, rfl⟩
abbrev main_v195 : Ref sig .tc := ⟨.hbm, 666, rfl⟩
abbrev main_v196 : Ref sig .tc := ⟨.hbm, 667, rfl⟩
abbrev main_cst_43 : Ref sig .tc := ⟨.hbm, 668, rfl⟩
abbrev main_v197 : Ref sig .tc := ⟨.hbm, 669, rfl⟩
abbrev main_v198 : Ref sig .tc := ⟨.hbm, 670, rfl⟩
abbrev main_cst_44 : Ref sig .tc := ⟨.hbm, 671, rfl⟩
abbrev main_v199 : Ref sig .tc := ⟨.hbm, 672, rfl⟩
abbrev main_v200 : Ref sig .tc := ⟨.hbm, 673, rfl⟩
abbrev main_cst_45 : Ref sig .tc := ⟨.hbm, 674, rfl⟩
abbrev main_v201 : Ref sig .tc := ⟨.hbm, 675, rfl⟩
abbrev main_v202 : Ref sig .tc := ⟨.hbm, 676, rfl⟩
abbrev main_v203 : Ref sig .tc := ⟨.hbm, 677, rfl⟩
abbrev main_v204 : Ref sig .tc := ⟨.hbm, 678, rfl⟩
abbrev main_v205 : Ref sig .tc := ⟨.hbm, 679, rfl⟩
abbrev main_cst_46 : Ref sig .tc := ⟨.hbm, 680, rfl⟩
abbrev main_v206 : Ref sig .tc := ⟨.hbm, 681, rfl⟩
abbrev main_v207 : Ref sig .tc := ⟨.hbm, 682, rfl⟩
abbrev main_v208 : Ref sig .tc := ⟨.hbm, 683, rfl⟩
abbrev main_v209 : Ref sig .tc := ⟨.hbm, 684, rfl⟩
abbrev main_v210 : Ref sig .tc := ⟨.hbm, 685, rfl⟩
abbrev main_v211 : Ref sig .tc := ⟨.hbm, 686, rfl⟩
abbrev main_v212 : Ref sig .tc := ⟨.hbm, 687, rfl⟩
abbrev main_v213 : Ref sig .tc := ⟨.hbm, 688, rfl⟩
abbrev main_v214 : Ref sig .tc := ⟨.hbm, 689, rfl⟩
abbrev main_v215 : Ref sig .tc := ⟨.hbm, 690, rfl⟩
abbrev main_v216 : Ref sig .tc := ⟨.hbm, 691, rfl⟩
abbrev main_v217 : Ref sig .tc := ⟨.hbm, 692, rfl⟩
abbrev main_v218 : Ref sig .tc := ⟨.hbm, 693, rfl⟩
abbrev main_v219 : Ref sig .tc := ⟨.hbm, 694, rfl⟩
abbrev main_v220 : Ref sig .tc := ⟨.hbm, 695, rfl⟩
abbrev main_v221 : Ref sig .tc := ⟨.hbm, 696, rfl⟩
abbrev main_v222 : Ref sig .tc := ⟨.hbm, 697, rfl⟩
abbrev main_cst_47 : Ref sig .tc := ⟨.hbm, 698, rfl⟩
abbrev main_v223 : Ref sig .tc := ⟨.hbm, 699, rfl⟩
abbrev main_v224 : Ref sig .tc := ⟨.hbm, 700, rfl⟩
abbrev main_v225 : Ref sig .tc := ⟨.hbm, 701, rfl⟩
abbrev main_v226 : Ref sig .tc := ⟨.hbm, 702, rfl⟩
abbrev main_v227 : Ref sig .tc := ⟨.hbm, 703, rfl⟩
abbrev main_v228 : Ref sig .tc := ⟨.hbm, 704, rfl⟩
abbrev main_v229 : Ref sig .tc := ⟨.hbm, 705, rfl⟩
abbrev main_v230 : Ref sig .tc := ⟨.hbm, 706, rfl⟩
abbrev main_v231 : Ref sig .tc := ⟨.hbm, 707, rfl⟩
abbrev main_v232 : Ref sig .tc := ⟨.hbm, 708, rfl⟩
abbrev main_v233 : Ref sig .tc := ⟨.hbm, 709, rfl⟩
abbrev main_v234 : Ref sig .tc := ⟨.hbm, 710, rfl⟩
abbrev main_v235 : Ref sig .tc := ⟨.hbm, 711, rfl⟩
abbrev main_v236 : Ref sig .tc := ⟨.hbm, 712, rfl⟩
abbrev main_v237 : Ref sig .tc := ⟨.hbm, 713, rfl⟩
abbrev main_v238 : Ref sig .tc := ⟨.hbm, 714, rfl⟩
abbrev main_v239 : Ref sig .tc := ⟨.hbm, 715, rfl⟩
abbrev main_cst_48 : Ref sig .tc := ⟨.hbm, 716, rfl⟩
abbrev main_v240 : Ref sig .tc := ⟨.hbm, 717, rfl⟩
abbrev main_v241 : Ref sig .tc := ⟨.hbm, 718, rfl⟩
abbrev main_v242 : Ref sig .tc := ⟨.hbm, 719, rfl⟩
abbrev main_v243 : Ref sig .tc := ⟨.hbm, 720, rfl⟩
abbrev main_v244 : Ref sig .tc := ⟨.hbm, 721, rfl⟩
abbrev main_v245 : Ref sig .tc := ⟨.hbm, 722, rfl⟩
abbrev main_v246 : Ref sig .tc := ⟨.hbm, 723, rfl⟩
abbrev main_v247 : Ref sig .tc := ⟨.hbm, 724, rfl⟩
abbrev main_v248 : Ref sig .tc := ⟨.hbm, 725, rfl⟩
abbrev main_v249 : Ref sig .tc := ⟨.hbm, 726, rfl⟩
abbrev main_v250 : Ref sig .tc := ⟨.hbm, 727, rfl⟩
abbrev main_v251 : Ref sig .tc := ⟨.hbm, 728, rfl⟩
abbrev main_v252 : Ref sig .tc := ⟨.hbm, 729, rfl⟩
abbrev main_v253 : Ref sig .tc := ⟨.hbm, 730, rfl⟩
abbrev main_v254 : Ref sig .tc := ⟨.hbm, 731, rfl⟩
abbrev main_v255 : Ref sig .tc := ⟨.hbm, 732, rfl⟩
abbrev main_v256 : Ref sig .tc := ⟨.hbm, 733, rfl⟩
abbrev main_cst_49 : Ref sig .tc := ⟨.hbm, 734, rfl⟩
abbrev main_v257 : Ref sig .tc := ⟨.hbm, 735, rfl⟩
abbrev main_v258 : Ref sig .tc := ⟨.hbm, 736, rfl⟩
abbrev main_v259 : Ref sig .tc := ⟨.hbm, 737, rfl⟩
abbrev main_v260 : Ref sig .tc := ⟨.hbm, 738, rfl⟩
abbrev main_v261 : Ref sig .tc := ⟨.hbm, 739, rfl⟩
abbrev main_v262 : Ref sig .tc := ⟨.hbm, 740, rfl⟩
abbrev main_v263 : Ref sig .tc := ⟨.hbm, 741, rfl⟩
abbrev main_v264 : Ref sig .tc := ⟨.hbm, 742, rfl⟩
abbrev main_v265 : Ref sig .tc := ⟨.hbm, 743, rfl⟩
abbrev main_v266 : Ref sig .tc := ⟨.hbm, 744, rfl⟩
abbrev main_v267 : Ref sig .tc := ⟨.hbm, 745, rfl⟩
abbrev main_v268 : Ref sig .tc := ⟨.hbm, 746, rfl⟩
abbrev main_v269 : Ref sig .tc := ⟨.hbm, 747, rfl⟩
abbrev main_v270 : Ref sig .tc := ⟨.hbm, 748, rfl⟩
abbrev main_v271 : Ref sig .tc := ⟨.hbm, 749, rfl⟩
abbrev main_v272 : Ref sig .tc := ⟨.hbm, 750, rfl⟩

abbrev nD : Nat := 1
abbrev τ : Topo := Topo.v7x

variable {F : FTy → Type} [FloatOps F]
-- ==== Proof.IdealStep.lean ====
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

/-! What one grid point of the kernel does, as a function of the blocks it is given and of the ten
    vectors it carries in scratch: boxes transposed, the accumulator of rows, the two axis weight
    tables, the two pairs of resized tables and the two joint tables. -/

namespace Cert.KernelIdeal.Roi

open Cert.KernelIdeal.Gen
open Idealize.ShloMosaic Idealize.ShloMosaic.TcCoe Idealize.ShloMosaic.Tactic

variable {F : FTy → Type} [FloatOps F] [Named F]

/-- The ten vectors carried from one grid point to the next. -/
structure St (F : FTy → Type) where
  bt : Vec F S4x64 .f32
  acc : Vec F S2880x64 .f32
  ay : Vec F S192x64 .f32
  ax : Vec F S192x64 .f32
  rw0 : Vec F S192x64 .f32
  cw0 : Vec F S192x64 .f32
  rw1 : Vec F S96x64 .f32
  cw1 : Vec F S96x64 .f32
  w2 : Vec F S2304x64 .f32
  w3 : Vec F S576x64 .f32

/-- The row axis table of the transposed boxes. -/
def ayOf (bt : Vec F S4x64 .f32) : Vec F S192x64 .f32 := k0_pay16 (k0_pay14 bt) (k0_pay15 bt)

/-- The column axis table of the transposed boxes. -/
def axOf (bt : Vec F S4x64 .f32) : Vec F S192x64 .f32 := k0_pay2 (k0_pay17 (k0_pay12 bt))

/-- The joint table of the third map from the two axis tables. -/
def w2Of (ay ax : Vec F S192x64 .f32) : Vec F S2304x64 .f32 := k0_pay110 k0_pay107 (k0_pay109 k0_pay108) ay ax

/-- The joint table of the fourth map from the two axis tables. -/
def w3Of (ay ax : Vec F S192x64 .f32) : Vec F S576x64 .f32 := k0_pay128 k0_pay125 (k0_pay127 k0_pay126) ay ax

/-- The number `2` by which a channel's parity is taken, as the kernel computes it. -/
def two : BitVec 32 := Scalar.select (Scalar.cmpi .eq 2#32 0#32) 1#32 2#32

/-- The first eight rows a grid point on the first map writes. -/
def l0a (z : BitVec 32) (bt : Vec F S4x64 .f32) (x : Vec F S1x16x192x192 .f32) (rw cw : Vec F S192x64 .f32) : Vec F S8x64 .f32 :=
  let x' : Vec F S1x8x192x192 .f32 := View.ld x (Rect.unit (s := S1x16x192x192) ![0, 0, 0, 0] S1x8x192x192.size (by decide))
  let v68 := k0_pay21 (k0_pay19 z) (k0_pay20 z) 720#32
  k0_pay31 (k0_pay18 x' cw rw)
    (k0_pay27 (k0_pay20 z) (k0_pay22 (F := F) (k0_pay19 z) (k0_pay20 z) 720#32) (k0_pay23 bt) (k0_pay24 bt) (k0_pay25 bt) (k0_pay26 bt) (Scalar.ofBits .f32 0x44400000#32))
    two (k0_pay28 v68) (k0_pay29 v68) (k0_pay30 v68)

/-- The last eight rows a grid point on the first map writes. -/
def l0b (z : BitVec 32) (bt : Vec F S4x64 .f32) (x : Vec F S1x16x192x192 .f32) (rw cw : Vec F S192x64 .f32) : Vec F S8x64 .f32 :=
  let x' : Vec F S1x8x192x192 .f32 := View.ld x (Rect.unit (s := S1x16x192x192) ![0, 8, 0, 0] S1x8x192x192.size (by decide))
  let v26 := Scalar.muli z 16#32
  k0_pay6 (k0_pay32 x' cw rw) (k0_pay37 (k0_pay33 v26) 720#32 (k0_pay34 v26) (k0_pay35 v26) 0#32)
    (k0_pay39 bt (k0_pay36 (k0_pay33 v26) 720#32 (k0_pay34 v26) (k0_pay35 v26) 0#32))
    (k0_pay40 (k0_pay38 (F := F) (k0_pay33 v26) 720#32 (k0_pay34 v26) (k0_pay35 v26) 0#32))

/-- The first channel a grid point on the second map writes. -/
def v31Of (z : BitVec 32) : BitVec 32 := Scalar.addi 192#32 (Scalar.muli (Scalar.subi z 12#32) 64#32)

/-- The first quarter of the rows a grid point on the second map writes. -/
def l1a (z : BitVec 32) (bt : Vec F S4x64 .f32) (x : Vec F S1x64x96x96 .f32) (rw cw : Vec F S96x64 .f32) : Vec F S16x64 .f32 :=
  let x' : Vec F S1x16x96x96 .f32 := View.ld x (Rect.unit (s := S1x64x96x96) ![0, 0, 0, 0] S1x16x96x96.size (by decide))
  k0_pay56 (k0_pay44 x' cw rw)
    (k0_pay54 bt (k0_pay49 (k0_pay45 z) (k0_pay46 z) (k0_pay47 z) k0_pay48) (k0_pay51 (F := F) (k0_pay45 z) (k0_pay46 z) (k0_pay47 z) k0_pay48) (k0_pay52 bt) (k0_pay53 bt))
    two (k0_pay55 (k0_pay50 (k0_pay45 z) (k0_pay46 z) (k0_pay47 z) k0_pay48)) 0#32

/-- The second quarter of the rows a grid point on the second map writes. -/
def l1b (z : BitVec 32) (bt : Vec F S4x64 .f32) (x : Vec F S1x64x96x96 .f32) (rw cw : Vec F S96x64 .f32) : Vec F S16x64 .f32 :=
  let x' : Vec F S1x16x96x96 .f32 := View.ld x (Rect.unit (s := S1x64x96x96) ![0, 16, 0, 0] S1x16x96x96.size (by decide))
  let v196 := k0_pay58 (v31Of z)
  let v198 := k0_pay59 (v31Of z)
  let v220 := k0_pay60 v196 720#32 v198
  k0_pay74 (k0_pay57 x' cw rw) (k0_pay61 v196 720#32 v198)
    (k0_pay64 (F := F) (k0_pay62 v196 720#32 v198) (k0_pay63 v196 720#32 v198) 1#32)
    (k0_pay69 v220) (k0_pay70 bt) (k0_pay71 bt v220) (k0_pay72 v220) (k0_pay73 bt)

/-- The third quarter of the rows a grid point on the second map writes. -/
def l1c (z : BitVec 32) (bt : Vec F S4x64 .f32) (x : Vec F S1x64x96x96 .f32) (rw cw : Vec F S96x64 .f32) : Vec F S16x64 .f32 :=
  let x' : Vec F S1x16x96x96 .f32 := View.ld x (Rect.unit (s := S1x64x96x96) ![0, 32, 0, 0] S1x16x96x96.size (by decide))
  let v31 := v31Of z
  k0_pay92 (k0_pay76 (k0_pay75 x') cw rw)
    (k0_pay91 (k0_pay78 v31) (k0_pay79 v31) (k0_pay83 (F := F) (k0_pay79 v31) 2#32 (k0_pay80 v31) (k0_pay81 v31) k0_pay82)
      (k0_pay84 bt) (k0_pay86 bt) (k0_pay87 bt) (k0_pay88 (k0_pay78 v31)) (k0_pay89 bt) k0_pay90)

/-- The last quarter of the rows a grid point on the second map writes. -/
def l1d (z : BitVec 32) (bt : Vec F S4x64 .f32) (x : Vec F S1x64x96x96 .f32) (rw cw : Vec F S96x64 .f32) : Vec F S16x64 .f32 :=
  let x' : Vec F S1x16x96x96 .f32 := View.ld x (Rect.unit (s := S1x64x96x96) ![0, 48, 0, 0] S1x16x96x96.size (by decide))
  let v496 := k0_pay94 (v31Of z)
  let v498 := k0_pay95 (v31Of z)
  let v512 := k0_pay96 (v31Of z)
  let v514 := k0_pay97 (v31Of z)
  let v523 := k0_pay100 v496 v498 v512 v514 k0_pay98
  k0_pay7 (k0_pay93 x' cw rw)
    (k0_pay104 bt (k0_pay99 v498 v512 v514 k0_pay98) (k0_pay101 (F := F) v496 v498 v512 v514 k0_pay98) (k0_pay102 bt) (k0_pay103 bt))
    two (k0_pay105 v523) (k0_pay106 v523) 0#32

/-- The rows a grid point on the third map writes. -/
def l2 (z : BitVec 32) (bt : Vec F S4x64 .f32) (x : Vec F S1x256x2304 .f32) (w : Vec F S2304x64 .f32) : Vec F S256x64 .f32 :=
  let v66 := k0_pay115 (k0_pay112 z) (k0_pay114 z)
  k0_pay8 (k0_pay111 x w)
    (k0_pay121 (k0_pay113 z) (k0_pay116 (F := F) (k0_pay112 z) (k0_pay114 z)) (k0_pay117 bt) (k0_pay118 bt) (k0_pay119 bt) (k0_pay120 bt))
    (k0_pay122 v66) (k0_pay123 v66) k0_pay124

/-- The rows a grid point on the fourth map writes. -/
def l3 (z : BitVec 32) (bt : Vec F S4x64 .f32) (x : Vec F S1x256x576 .f32) (w : Vec F S576x64 .f32) : Vec F S256x64 .f32 :=
  let v66 := k0_pay133 (k0_pay130 z) (k0_pay132 z)
  k0_pay9 (k0_pay129 x w)
    (k0_pay139 (k0_pay131 z) (k0_pay134 (F := F) (k0_pay130 z) (k0_pay132 z)) (k0_pay135 bt) (k0_pay136 bt) (k0_pay137 bt) (k0_pay138 bt))
    (k0_pay140 v66) (k0_pay141 v66) k0_pay142

/-- What a grid point leaves in scratch, from its coordinate, the blocks it was given and what scratch held. -/
def step (i : grid0.Coords) (x1 : Vec F S64x4 .f32) (x2 : Vec F S1x16x192x192 .f32) (x3 : Vec F S1x64x96x96 .f32)
    (x4 : Vec F S1x256x2304 .f32) (x5 : Vec F S1x256x576 .f32) (s : St F) : St F :=
  let n := (i 0).val
  let z := BitVec.ofNat 32 n
  let bt := if n = 0 then k0_pay1 x1 else s.bt
  let ay := if n = 0 then ayOf bt else s.ay
  let ax := if n = 0 then axOf bt else s.ax
  let rw0 := if n = 0 then k0_pay4 ay else s.rw0
  let cw0 := if n = 0 then k0_pay5 ax else s.cw0
  let rw1 := if n = 12 then k0_pay42 ay else s.rw1
  let cw1 := if n = 12 then k0_pay43 ax else s.cw1
  let w2 := if n = 18 then w2Of ay ax else s.w2
  let w3 := if n = 21 then w3Of ay ax else s.w3
  let acc :=
    if n < 12 then
      VecWindow.put (VecWindow.put s.acc (k0_off1 i 0#32) S8x64.size (l0a z bt x2 rw0 cw0)) (k0_off1 i 8#32) S8x64.size (l0b z bt x2 rw0 cw0)
    else if n < 18 then
      VecWindow.put (VecWindow.put (VecWindow.put (VecWindow.put s.acc (k0_off2 i 0#32) S16x64.size (l1a z bt x3 rw1 cw1))
        (k0_off2 i 16#32) S16x64.size (l1b z bt x3 rw1 cw1)) (k0_off2 i 32#32) S16x64.size (l1c z bt x3 rw1 cw1))
        (k0_off2 i 48#32) S16x64.size (l1d z bt x3 rw1 cw1)
    else if n < 21 then VecWindow.put s.acc (k0_off3 i) S256x64.size (l2 z bt x4 w2)
    else VecWindow.put s.acc (k0_off4 i) S256x64.size (l3 z bt x5 w3)
  ⟨bt, acc, ay, ax, rw0, cw0, rw1, cw1, w2, w3⟩

/-- A coordinate of the grid is below 27. -/
theorem coord_lt (i : grid0.Coords) : (i 0).val < 27 := (i 0).isLt

/-- The set-up branch is taken at the first point only. -/
theorem cond1_iff (i : grid0.Coords) :
    Scalar.cmpi .ne (Scalar.extui (Scalar.cmpi .eq (BitVec.ofNat 32 (i 0).val) 0#32)) 0#32 = 1#1 ↔ (i 0).val = 0 := by
  have := coord_lt i
  word_cmp

/-- The branch on the first map is taken below point 12. -/
theorem cond3_iff (i : grid0.Coords) : k0_cond3 i = 1#1 ↔ (i 0).val < 12 := by
  have := coord_lt i
  simp only [k0_cond3]; word_cmp

/-- The branch on the second map is taken from point 12 to point 17. -/
theorem cond4_iff (i : grid0.Coords) : k0_cond4 i = 1#1 ↔ 12 ≤ (i 0).val ∧ (i 0).val < 18 := by
  have := coord_lt i
  simp only [k0_cond4]; word_cmp

/-- The set-up branch of the second map is taken at point 12 only. -/
theorem cond5_iff (i : grid0.Coords) :
    Scalar.cmpi .ne (Scalar.extui (Scalar.cmpi .eq (BitVec.ofNat 32 (i 0).val) 12#32)) 0#32 = 1#1 ↔ (i 0).val = 12 := by
  have := coord_lt i
  word_cmp

/-- The branch on the third map is taken from point 18 to point 20. -/
theorem cond6_iff (i : grid0.Coords) : k0_cond6 i = 1#1 ↔ 18 ≤ (i 0).val ∧ (i 0).val < 21 := by
  have := coord_lt i
  simp only [k0_cond6]; word_cmp

/-- The set-up branch of the third map is taken at point 18 only. -/
theorem cond7_iff (i : grid0.Coords) :
    Scalar.cmpi .ne (Scalar.extui (Scalar.cmpi .eq (BitVec.ofNat 32 (i 0).val) 18#32)) 0#32 = 1#1 ↔ (i 0).val = 18 := by
  have := coord_lt i
  word_cmp

/-- The branch on the fourth map is taken from point 21 on. -/
theorem cond8_iff (i : grid0.Coords) : k0_cond8 i = 1#1 ↔ 21 ≤ (i 0).val := by
  have := coord_lt i
  simp only [k0_cond8]; word_cmp

/-- The set-up branch of the fourth map is taken at point 21 only. -/
theorem cond9_iff (i : grid0.Coords) :
    Scalar.cmpi .ne (Scalar.extui (Scalar.cmpi .eq (BitVec.ofNat 32 (i 0).val) 21#32)) 0#32 = 1#1 ↔ (i 0).val = 21 := by
  have := coord_lt i
  word_cmp

/-- The result is handed over at the last point only. -/
theorem cond10_iff (i : grid0.Coords) : k0_cond10 i = 1#1 ↔ (i 0).val = 26 := by
  have := coord_lt i
  simp only [k0_cond10]; word_cmp

/-- The first of the rows each store on the first map writes. -/
theorem off1_eq (i : grid0.Coords) (h : (i 0).val < 12) (d : ℕ) (hd : d < 16) :
    k0_off1 i (BitVec.ofNat 32 d) = ![16 * (i 0).val + d, 0] := by
  have e : (Scalar.indexCast (Scalar.addi (Scalar.muli (BitVec.ofNat 32 (i 0).val) 16#32) (BitVec.ofNat 32 d))).toNat
      = 16 * (i 0).val + d := by
    simp only [Scalar.indexCast, Scalar.addi, Scalar.subi, Scalar.muli, IntOp.addi, IntOp.subi, IntOp.muli, BitVec.toNat_add, BitVec.toNat_sub, BitVec.toNat_mul, BitVec.toNat_ofNat]; omega
  simp only [k0_off1, e]

/-- The first of the rows each store on the second map writes. -/
theorem off2_eq (i : grid0.Coords) (h : 12 ≤ (i 0).val ∧ (i 0).val < 18) (d : ℕ) (hd : d < 64) :
    k0_off2 i (BitVec.ofNat 32 d) = ![192 + 64 * ((i 0).val - 12) + d, 0] := by
  have e : (Scalar.indexCast (Scalar.addi (Scalar.addi 192#32 (Scalar.muli (Scalar.subi (BitVec.ofNat 32 (i 0).val) 12#32) 64#32)) (BitVec.ofNat 32 d))).toNat
      = 192 + 64 * ((i 0).val - 12) + d := by
    simp only [Scalar.indexCast, Scalar.addi, Scalar.subi, Scalar.muli, IntOp.addi, IntOp.subi, IntOp.muli, BitVec.toNat_add, BitVec.toNat_sub, BitVec.toNat_mul, BitVec.toNat_ofNat]; omega
  simp only [k0_off2, e]

/-- The first of the rows the store on the third map writes. -/
theorem off3_eq (i : grid0.Coords) (h : 18 ≤ (i 0).val ∧ (i 0).val < 21) : k0_off3 i = ![576 + 256 * ((i 0).val - 18), 0] := by
  have e : (Scalar.indexCast (Scalar.addi 576#32 (Scalar.muli (Scalar.subi (BitVec.ofNat 32 (i 0).val) 18#32) 256#32))).toNat
      = 576 + 256 * ((i 0).val - 18) := by
    simp only [Scalar.indexCast, Scalar.addi, Scalar.subi, Scalar.muli, IntOp.addi, IntOp.subi, IntOp.muli, BitVec.toNat_add, BitVec.toNat_sub, BitVec.toNat_mul, BitVec.toNat_ofNat]; omega
  simp only [k0_off3, e]

/-- The first of the rows the store on the fourth map writes. -/
theorem off4_eq (i : grid0.Coords) (h : 21 ≤ (i 0).val) : k0_off4 i = ![1344 + 256 * ((i 0).val - 21), 0] := by
  have := coord_lt i
  have e : (Scalar.indexCast (Scalar.addi 1344#32 (Scalar.muli (Scalar.subi (BitVec.ofNat 32 (i 0).val) 21#32) 256#32))).toNat
      = 1344 + 256 * ((i 0).val - 21) := by
    simp only [Scalar.indexCast, Scalar.addi, Scalar.subi, Scalar.muli, IntOp.addi, IntOp.subi, IntOp.muli, BitVec.toNat_add, BitVec.toNat_sub, BitVec.toNat_mul, BitVec.toNat_ofNat]; omega
  simp only [k0_off4, e]

end Cert.KernelIdeal.Roi

end
-- ==== Proof.IdealBody.lean ====
module

public import proofs.«01_k».proof.Proof.IdealStep
public import Idealize.ShloMosaic.Lib.Tactic.Stretches

@[expose] public section

set_option maxRecDepth 16384

noncomputable section

/-! What one call of the kernel body does, in each of its cases. -/

namespace Cert.KernelIdeal.Roi

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A statement equivalent to another holds with it or fails with it. -/
theorem em_of {p q : Prop} (h : p ↔ q) : (p ∧ q) ∨ (¬ p ∧ ¬ q) := by
  by_cases hp : p
  · exact .inl ⟨hp, h.1 hp⟩
  · exact .inr ⟨hp, fun hq => hp (h.2 hq)⟩

/-- A load of a whole matrix reads what the buffer reads. -/
theorem readAt_mat {κ : Kind} {sp : Space} {e : EltTy} {Val : EltTy → Type} {a b : ℕ} (v : View sig κ sp ⟨2, ![a, b]⟩ e) (f : v.ty.Contents Val)
    {off : Fin 2 → ℕ} (inb) : v.readAt Val (Rect.unit (s := ⟨2, ![a, b]⟩) off ![a, b] inb).toLoadRect f = v.read Val f :=
  View.readAt_full v f inb

/-- A load of a whole stack of matrices reads what the buffer reads. -/
theorem readAt_cube {κ : Kind} {sp : Space} {e : EltTy} {Val : EltTy → Type} {a b c : ℕ} (v : View sig κ sp ⟨3, ![a, b, c]⟩ e) (f : v.ty.Contents Val)
    {off : Fin 3 → ℕ} (inb) : v.readAt Val (Rect.unit (s := ⟨3, ![a, b, c]⟩) off ![a, b, c] inb).toLoadRect f = v.read Val f :=
  View.readAt_full v f inb

/-- After a store of a whole matrix the buffer reads what was stored. -/
theorem read_writes_mat {κ : Kind} {sp : Space} {e : EltTy} {Val : EltTy → Type} {a b : ℕ} (v : View sig κ sp ⟨2, ![a, b]⟩ e) (f : v.ty.Contents Val)
    {off : Fin 2 → ℕ} (inb) (w) (L : List (View.Piece Val ⟨2, ![a, b]⟩ e)) :
    v.read Val (v.writes Val f (⟨Rect.unit (s := ⟨2, ![a, b]⟩) off ![a, b] inb, w⟩ :: L)) = w :=
  View.read_writes_full v f inb w L

/-- A load of a whole matrix after a store of it reads what was stored. -/
theorem readCov_mat {κ : Kind} {sp : Space} {e : EltTy} {Val : EltTy → Type} [∀ e, Nonempty (Val e)] {a b : ℕ} (v : View sig κ sp ⟨2, ![a, b]⟩ e)
    {off off' : Fin 2 → ℕ} (inb) (inb') (w) (L : List (View.Piece Val ⟨2, ![a, b]⟩ e)) :
    v.readCov (⟨Rect.unit (s := ⟨2, ![a, b]⟩) off' ![a, b] inb', w⟩ :: L) (Rect.unit (s := ⟨2, ![a, b]⟩) off ![a, b] inb).toLoadRect = w :=
  View.readCov_full v inb inb' w L

set_option sl_exec.dischHeartbeats 100000 in
set_option maxHeartbeats 400000000 in
/-- The body at a grid point, on sixteen whole buffers: it runs to the end, leaves the five input
    blocks as they were, the scratch as `step` says, and the result's buffer alone except at the
    last point, where it holds the accumulator transposed. -/
theorem body_triple (c : Dev nD) (i : grid0.Coords) (arg1 : Memref sig .tc .vmem S64x4 .f32) (harg1 : arg1.IsWhole) (arg2 : Memref sig .tc .vmem S1x16x192x192 .f32) (harg2 : arg2.IsWhole) (arg3 : Memref sig .tc .vmem S1x64x96x96 .f32) (harg3 : arg3.IsWhole) (arg4 : Memref sig .tc .vmem S1x256x2304 .f32) (harg4 : arg4.IsWhole) (arg5 : Memref sig .tc .vmem S1x256x576 .f32) (harg5 : arg5.IsWhole) (arg6 : Memref sig .tc .vmem S64x2880 .f32) (harg6 : arg6.IsWhole) (arg7 : Memref sig .tc .vmem S4x64 .f32) (harg7 : arg7.IsWhole) (arg8 : Memref sig .tc .vmem S2880x64 .f32) (harg8 : arg8.IsWhole) (arg9 : Memref sig .tc .vmem S192x64 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x64 .f32) (harg12 : arg12.IsWhole) (arg13 : Memref sig .tc .vmem S96x64 .f32) (harg13 : arg13.IsWhole) (arg14 : Memref sig .tc .vmem S96x64 .f32) (harg14 : arg14.IsWhole) (arg15 : Memref sig .tc .vmem S2304x64 .f32) (harg15 : arg15.IsWhole) (arg16 : Memref sig .tc .vmem S576x64 .f32) (harg16 : arg16.IsWhole)
    (x1 : Vec F S64x4 .f32) (x2 : Vec F S1x16x192x192 .f32) (x3 : Vec F S1x64x96x96 .f32) (x4 : Vec F S1x256x2304 .f32) (x5 : Vec F S1x256x576 .f32) (x6 : Vec F S64x2880 .f32) (s : St F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare s.bt ∗ owns (c : Thread nD τ) arg8 fullShare s.acc ∗ owns (c : Thread nD τ) arg9 fullShare s.ay ∗ owns (c : Thread nD τ) arg10 fullShare s.ax ∗ owns (c : Thread nD τ) arg11 fullShare s.rw0 ∗ owns (c : Thread nD τ) arg12 fullShare s.cw0 ∗ owns (c : Thread nD τ) arg13 fullShare s.rw1 ∗ owns (c : Thread nD τ) arg14 fullShare s.cw1 ∗ owns (c : Thread nD τ) arg15 fullShare s.w2 ∗ owns (c : Thread nD τ) arg16 fullShare s.w3
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (if (i 0).val = 26 then k0_pay10 (step i x1 x2 x3 x4 x5 s).acc else x6) ∗ owns (c : Thread nD τ) arg7 fullShare (step i x1 x2 x3 x4 x5 s).bt ∗ owns (c : Thread nD τ) arg8 fullShare (step i x1 x2 x3 x4 x5 s).acc ∗ owns (c : Thread nD τ) arg9 fullShare (step i x1 x2 x3 x4 x5 s).ay ∗ owns (c : Thread nD τ) arg10 fullShare (step i x1 x2 x3 x4 x5 s).ax ∗ owns (c : Thread nD τ) arg11 fullShare (step i x1 x2 x3 x4 x5 s).rw0 ∗ owns (c : Thread nD τ) arg12 fullShare (step i x1 x2 x3 x4 x5 s).cw0 ∗ owns (c : Thread nD τ) arg13 fullShare (step i x1 x2 x3 x4 x5 s).rw1 ∗ owns (c : Thread nD τ) arg14 fullShare (step i x1 x2 x3 x4 x5 s).cw1 ∗ owns (c : Thread nD τ) arg15 fullShare (step i x1 x2 x3 x4 x5 s).w2 ∗ owns (c : Thread nD τ) arg16 fullShare (step i x1 x2 x3 x4 x5 s).w3) -∗ K ⟨⟩))
      ⊢ wp frame (wpE (defs₀ (F := F)) Variants.none c none) E (cc0_roi_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have c1 := cond1_iff i
  have c3 := cond3_iff i
  have c4 := cond4_iff i
  have c5 := cond5_iff i
  have c6 := cond6_iff i
  have c7 := cond7_iff i
  have c8 := cond8_iff i
  have c9 := cond9_iff i
  have c10 := cond10_iff i
  have hlt := coord_lt i
  simp only [cc0_roi_fused_eq_skeleton]; unfold cc0_roi_fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  obtain ⟨h1, e1⟩ | ⟨h1, e1⟩ := em_of c1 <;> (obtain ⟨h3, e3⟩ | ⟨h3, e3⟩ := em_of c3 <;> try (exfalso; omega)) <;>
  (obtain ⟨h4, e4⟩ | ⟨h4, e4⟩ := em_of c4 <;> try (exfalso; omega)) <;>
  (obtain ⟨h5, e5⟩ | ⟨h5, e5⟩ := em_of c5 <;> try (exfalso; omega)) <;>
  (obtain ⟨h6, e6⟩ | ⟨h6, e6⟩ := em_of c6 <;> try (exfalso; omega)) <;>
  (obtain ⟨h7, e7⟩ | ⟨h7, e7⟩ := em_of c7 <;> try (exfalso; omega)) <;>
  (obtain ⟨h8, e8⟩ | ⟨h8, e8⟩ := em_of c8 <;> try (exfalso; omega)) <;>
  (obtain ⟨h9, e9⟩ | ⟨h9, e9⟩ := em_of c9 <;> try (exfalso; omega)) <;>
  (obtain ⟨h10, e10⟩ | ⟨h10, e10⟩ := em_of c10 <;> try (exfalso; omega))
  all_goals clear c1 c3 c4 c5 c6 c7 c8 c9 c10
  all_goals first
    | (letI o20 : ClosedOff (k0_off2 i 0#32) := ⟨_, off2_eq i e4 0 (by omega)⟩
       letI o21 : ClosedOff (k0_off2 i 16#32) := ⟨_, off2_eq i e4 16 (by omega)⟩
       letI o22 : ClosedOff (k0_off2 i 32#32) := ⟨_, off2_eq i e4 32 (by omega)⟩
       letI o23 : ClosedOff (k0_off2 i 48#32) := ⟨_, off2_eq i e4 48 (by omega)⟩)
    | letI o4 : ClosedOff (k0_off4 i) := ⟨_, off4_eq i e8⟩
    | skip
  all_goals
    sl_exec (disch := first | sl_exact h1 | sl_exact h3 | sl_exact h4 | sl_exact h5 | sl_exact h6 | sl_exact h7 | sl_exact h8 | sl_exact h9 | sl_exact h10)
    sl_step
    iapply Hk
    isplitl [H1]
    · iexists _; isplitr; swap; · iexact H1
      ipureintro
      exact hf1
    isplitl [H2]
    · iexists _; isplitr; swap; · iexact H2
      ipureintro
      exact hf2
    isplitl [H3]
    · iexists _; isplitr; swap; · iexact H3
      ipureintro
      exact hf3
    isplitl [H4]
    · iexists _; isplitr; swap; · iexact H4
      ipureintro
      exact hf4
    isplitl [H5]
    · iexists _; isplitr; swap; · iexact H5
      ipureintro
      exact hf5
    isplitl [H6]
    · iexists _; isplitr; swap; · iexact H6
      ipureintro
      first
      | (simp (disch := omega) only [step, if_pos, if_neg]; with_reducible exact hf6)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H7]
    · iexists _; isplitr; swap; · iexact H7
      ipureintro
      first
      | (simp (disch := omega) only [step, if_pos, if_neg]; with_reducible exact hf7)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H8]
    · iexists _; isplitr; swap; · iexact H8
      ipureintro
      first
      | (simp (disch := omega) only [step, if_pos, if_neg]; with_reducible exact hf8)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H9]
    · iexists _; isplitr; swap; · iexact H9
      ipureintro
      first
      | (simp (disch := omega) only [step, if_pos, if_neg]; with_reducible exact hf9)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H10]
    · iexists _; isplitr; swap; · iexact H10
      ipureintro
      first
      | (simp (disch := omega) only [step, if_pos, if_neg]; with_reducible exact hf10)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H11]
    · iexists _; isplitr; swap; · iexact H11
      ipureintro
      first
      | (simp (disch := omega) only [step, if_pos, if_neg]; with_reducible exact hf11)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H12]
    · iexists _; isplitr; swap; · iexact H12
      ipureintro
      first
      | (simp (disch := omega) only [step, if_pos, if_neg]; with_reducible exact hf12)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H13]
    · iexists _; isplitr; swap; · iexact H13
      ipureintro
      first
      | (simp (disch := omega) only [step, if_pos, if_neg]; with_reducible exact hf13)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H14]
    · iexists _; isplitr; swap; · iexact H14
      ipureintro
      first
      | (simp (disch := omega) only [step, if_pos, if_neg]; with_reducible exact hf14)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    isplitl [H15]
    · iexists _; isplitr; swap; · iexact H15
      ipureintro
      first
      | (simp (disch := omega) only [step, if_pos, if_neg]; with_reducible exact hf15)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)
    iexists _; isplitr; swap; · iexact H16
    ipureintro
    first
      | (simp (disch := omega) only [step, if_pos, if_neg]; with_reducible exact hf16)
      | (simp (disch := omega) only [step, if_pos, if_neg]
         sl_unfold_run_names
         simp only [read_writes_mat, readAt_mat, readAt_cube, readCov_mat, hf1, hf2, hf3, hf4, hf5, hf6, hf7, hf8, hf9, hf10, hf11, hf12, hf13, hf14, hf15, hf16]
         try simp only [View.read_writes_cons_put _ _ _ _ _ rfl, View.writes_nil, View.readAt_eq_ld, hf1, hf2, hf3, hf4, hf5, hf6, hf7, hf8, hf9, hf10, hf11, hf12, hf13, hf14, hf15, hf16]
         try rfl)

end Cert.KernelIdeal.Roi

end
-- ==== Proof.IdealKeep.lean ====
module

public import proofs.«01_k».proof.Proof.IdealStep

@[expose] public section

set_option maxRecDepth 16384

noncomputable section

/-! What scratch is known to hold after some number of grid points: the tables each from the point that
    makes it, and of the accumulator the rows written so far. -/

namespace Cert.KernelIdeal.Roi

open Cert.KernelIdeal.Gen
open Idealize.ShloMosaic Idealize.ShloMosaic.TcCoe Idealize.ShloMosaic.Tactic

variable {F : FTy → Type} [FloatOps F] [Named F]

/-- The blocks the kernel is given, point by point. -/
structure In (F : FTy → Type) where
  x1 : Fin 27 → Vec F S64x4 .f32
  x2 : Fin 27 → Vec F S1x16x192x192 .f32
  x3 : Fin 27 → Vec F S1x64x96x96 .f32
  x4 : Fin 27 → Vec F S1x256x2304 .f32
  x5 : Fin 27 → Vec F S1x256x576 .f32

namespace In

variable (I : In F)

/-- The transposed boxes. -/
def bt : Vec F S4x64 .f32 := k0_pay1 (I.x1 0)
/-- The row axis table. -/
def ay : Vec F S192x64 .f32 := ayOf I.bt
/-- The column axis table. -/
def ax : Vec F S192x64 .f32 := axOf I.bt
/-- The row table of the first map. -/
def rw0 : Vec F S192x64 .f32 := k0_pay4 I.ay
/-- The column table of the first map. -/
def cw0 : Vec F S192x64 .f32 := k0_pay5 I.ax
/-- The row table of the second map. -/
def rw1 : Vec F S96x64 .f32 := k0_pay42 I.ay
/-- The column table of the second map. -/
def cw1 : Vec F S96x64 .f32 := k0_pay43 I.ax
/-- The joint table of the third map. -/
def w2 : Vec F S2304x64 .f32 := w2Of I.ay I.ax
/-- The joint table of the fourth map. -/
def w3 : Vec F S576x64 .f32 := w3Of I.ay I.ax

/-- The accumulator with the rows of point `n` put into it. -/
def putPoint (n : Fin 27) (a : Vec F S2880x64 .f32) : Vec F S2880x64 .f32 :=
  let z := BitVec.ofNat 32 n.val
  if n.val < 12 then
    VecWindow.put (VecWindow.put a ![16 * n.val + 0, 0] S8x64.size (l0a z I.bt (I.x2 n) I.rw0 I.cw0))
      ![16 * n.val + 8, 0] S8x64.size (l0b z I.bt (I.x2 n) I.rw0 I.cw0)
  else if n.val < 18 then
    VecWindow.put (VecWindow.put (VecWindow.put (VecWindow.put a
      ![192 + 64 * (n.val - 12) + 0, 0] S16x64.size (l1a z I.bt (I.x3 n) I.rw1 I.cw1))
      ![192 + 64 * (n.val - 12) + 16, 0] S16x64.size (l1b z I.bt (I.x3 n) I.rw1 I.cw1))
      ![192 + 64 * (n.val - 12) + 32, 0] S16x64.size (l1c z I.bt (I.x3 n) I.rw1 I.cw1))
      ![192 + 64 * (n.val - 12) + 48, 0] S16x64.size (l1d z I.bt (I.x3 n) I.rw1 I.cw1)
  else if n.val < 21 then VecWindow.put a ![576 + 256 * (n.val - 18), 0] S256x64.size (l2 z I.bt (I.x4 n) I.w2)
  else VecWindow.put a ![1344 + 256 * (n.val - 21), 0] S256x64.size (l3 z I.bt (I.x5 n) I.w3)

/-- The accumulator after the first `n` points, from one that held zeros. -/
def chain : (n : ℕ) → n ≤ 27 → Vec F S2880x64 .f32
  | 0, _ => fun _ => Scalar.ofBits .f32 0#32
  | n + 1, h => I.putPoint ⟨n, h⟩ (chain n (Nat.le_of_succ_le h))

end In

/-- The number of rows written by the first `n` points. -/
def rows (n : ℕ) : ℕ :=
  if n ≤ 12 then 16 * n else if n ≤ 18 then 192 + 64 * (n - 12) else if n ≤ 21 then 576 + 256 * (n - 18) else 1344 + 256 * (n - 21)

/-- Two accumulators that agree below a row still agree, up to the end of the rows put, once the same rows are put at that row into both. -/
theorem put_agree {α : Type} {o sz : ℕ} {f g : S2880x64.Idx → α} (w : ((a : Fin 2) → Fin ((![sz, 64] : Fin 2 → ℕ) a)) → α)
    (h : ∀ y : S2880x64.Idx, (y 0).val < o → f y = g y) :
    ∀ y : S2880x64.Idx, (y 0).val < o + sz → VecWindow.put f ![o, 0] ![sz, 64] w y = VecWindow.put g ![o, 0] ![sz, 64] w y := by
  intro y hy
  unfold VecWindow.put
  split
  · rfl
  · next hn =>
    refine h y ?_
    by_contra hc
    refine hn (Fin.forall_fin_two.2 ⟨⟨?_, ?_⟩, ⟨Nat.zero_le _, ?_⟩⟩)
    · exact Nat.le_of_not_lt hc
    · exact hy
    · exact lt_of_lt_of_eq (y 1).isLt (by simp)

/-- The rows of point `n` put into two accumulators that agree on the rows written before. -/
theorem putPoint_agree (I : In F) (n : Fin 27) {f g : Vec F S2880x64 .f32}
    (h : ∀ y : S2880x64.Idx, (y 0).val < rows n.val → f y = g y) :
    ∀ y : S2880x64.Idx, (y 0).val < rows (n.val + 1) → I.putPoint n f y = I.putPoint n g y := by
  intro y hy
  have hn := n.isLt
  unfold rows at h hy
  unfold In.putPoint
  dsimp only
  split_ifs with h1 h2 h3
  · rw [if_pos (by omega)] at h hy
    exact put_agree _ (put_agree _ (fun y hy => h y (by omega))) y (by omega)
  · refine put_agree _ (put_agree _ (put_agree _ (put_agree _ (fun y hy => h y ?_)))) y ?_
    · split_ifs <;> omega
    · split_ifs at hy <;> omega
  · refine put_agree _ (fun y hy => h y ?_) y ?_
    · split_ifs <;> omega
    · split_ifs at hy <;> omega
  · refine put_agree _ (fun y hy => h y ?_) y ?_
    · split_ifs <;> omega
    · split_ifs at hy <;> omega

/-- What is known of scratch after the first `n` points. -/
structure Known (I : In F) (n : ℕ) (hn : n ≤ 27) (s : St F) : Prop where
  base : 1 ≤ n → s.bt = I.bt ∧ s.ay = I.ay ∧ s.ax = I.ax ∧ s.rw0 = I.rw0 ∧ s.cw0 = I.cw0
  second : 13 ≤ n → s.rw1 = I.rw1 ∧ s.cw1 = I.cw1
  third : 19 ≤ n → s.w2 = I.w2
  fourth : 22 ≤ n → s.w3 = I.w3
  acc : ∀ y : S2880x64.Idx, (y 0).val < rows n → s.acc y = I.chain n hn y

/-- Nothing is known at the start. -/
theorem known_zero (I : In F) (s : St F) : Known I 0 (by omega) s where
  base h := by omega
  second h := by omega
  third h := by omega
  fourth h := by omega
  acc y hy := absurd hy (by simp [rows])

/-- A grid point carries what is known one point further. -/
theorem known_step (I : In F) (i : grid0.Coords) (n : Fin 27) (hi : (i 0).val = n.val) (s : St F) (h : Known I n.val (Nat.le_of_lt n.isLt) s) :
    Known I (n.val + 1) n.isLt (step i (I.x1 n) (I.x2 n) (I.x3 n) (I.x4 n) (I.x5 n) s) := by
  have hlt := n.isLt
  have hbase : (step i (I.x1 n) (I.x2 n) (I.x3 n) (I.x4 n) (I.x5 n) s).bt = I.bt ∧ (step i (I.x1 n) (I.x2 n) (I.x3 n) (I.x4 n) (I.x5 n) s).ay = I.ay
      ∧ (step i (I.x1 n) (I.x2 n) (I.x3 n) (I.x4 n) (I.x5 n) s).ax = I.ax ∧ (step i (I.x1 n) (I.x2 n) (I.x3 n) (I.x4 n) (I.x5 n) s).rw0 = I.rw0
      ∧ (step i (I.x1 n) (I.x2 n) (I.x3 n) (I.x4 n) (I.x5 n) s).cw0 = I.cw0 := by
    unfold step
    dsimp only
    rw [hi]
    by_cases h0 : n.val = 0
    · obtain rfl : n = 0 := Fin.ext h0
      simp only [if_pos h0]
      exact ⟨rfl, rfl, rfl, rfl, rfl⟩
    · simp only [if_neg h0]
      exact h.base (by omega)
  obtain ⟨b1, b2, b3, b4, b5⟩ := hbase
  have hsecond : 12 ≤ n.val → (step i (I.x1 n) (I.x2 n) (I.x3 n) (I.x4 n) (I.x5 n) s).rw1 = I.rw1 ∧ (step i (I.x1 n) (I.x2 n) (I.x3 n) (I.x4 n) (I.x5 n) s).cw1 = I.cw1 := by
    intro h12
    by_cases h0 : n.val = 12
    · constructor
      · rw [In.rw1, ← b2]; simp only [step, hi, if_pos h0]
      · rw [In.cw1, ← b3]; simp only [step, hi, if_pos h0]
    · have := h.second (by omega)
      simp only [step, hi, if_neg h0]
      exact this
  have hthird : 18 ≤ n.val → (step i (I.x1 n) (I.x2 n) (I.x3 n) (I.x4 n) (I.x5 n) s).w2 = I.w2 := by
    intro h18
    by_cases h0 : n.val = 18
    · rw [In.w2, ← b2, ← b3]; simp only [step, hi, if_pos h0]
    · have := h.third (by omega)
      simp only [step, hi, if_neg h0]
      exact this
  have hfourth : 21 ≤ n.val → (step i (I.x1 n) (I.x2 n) (I.x3 n) (I.x4 n) (I.x5 n) s).w3 = I.w3 := by
    intro h21
    by_cases h0 : n.val = 21
    · rw [In.w3, ← b2, ← b3]; simp only [step, hi, if_pos h0]
    · have := h.fourth (by omega)
      simp only [step, hi, if_neg h0]
      exact this
  refine ⟨fun _ => ⟨b1, b2, b3, b4, b5⟩, fun q => hsecond (by omega), fun q => hthird (by omega), fun q => hfourth (by omega), fun y hy => ?_⟩
  have key : (step i (I.x1 n) (I.x2 n) (I.x3 n) (I.x4 n) (I.x5 n) s).acc = I.putPoint n s.acc := by
    have e : (step i (I.x1 n) (I.x2 n) (I.x3 n) (I.x4 n) (I.x5 n) s).acc
        = if (i 0).val < 12 then
            VecWindow.put (VecWindow.put s.acc (k0_off1 i (BitVec.ofNat 32 0)) S8x64.size (l0a (BitVec.ofNat 32 (i 0).val) (step i (I.x1 n) (I.x2 n) (I.x3 n) (I.x4 n) (I.x5 n) s).bt (I.x2 n) (step i (I.x1 n) (I.x2 n) (I.x3 n) (I.x4 n) (I.x5 n) s).rw0 (step i (I.x1 n) (I.x2 n) (I.x3 n) (I.x4 n) (I.x5 n) s).cw0)) (k0_off1 i (BitVec.ofNat 32 8)) S8x64.size (l0b (BitVec.ofNat 32 (i 0).val) (step i (I.x1 n) (I.x2 n) (I.x3 n) (I.x4 n) (I.x5 n) s).bt (I.x2 n) (step i (I.x1 n) (I.x2 n) (I.x3 n) (I.x4 n) (I.x5 n) s).rw0 (step i (I.x1 n) (I.x2 n) (I.x3 n) (I.x4 n) (I.x5 n) s).cw0)
          else if (i 0).val < 18 then
            VecWindow.put (VecWindow.put (VecWindow.put (VecWindow.put s.acc (k0_off2 i (BitVec.ofNat 32 0)) S16x64.size (l1a (BitVec.ofNat 32 (i 0).val) (step i (I.x1 n) (I.x2 n) (I.x3 n) (I.x4 n) (I.x5 n) s).bt (I.x3 n) (step i (I.x1 n) (I.x2 n) (I.x3 n) (I.x4 n) (I.x5 n) s).rw1 (step i (I.x1 n) (I.x2 n) (I.x3 n) (I.x4 n) (I.x5 n) s).cw1))
              (k0_off2 i (BitVec.ofNat 32 16)) S16x64.size (l1b (BitVec.ofNat 32 (i 0).val) (step i (I.x1 n) (I.x2 n) (I.x3 n) (I.x4 n) (I.x5 n) s).bt (I.x3 n) (step i (I.x1 n) (I.x2 n) (I.x3 n) (I.x4 n) (I.x5 n) s).rw1 (step i (I.x1 n) (I.x2 n) (I.x3 n) (I.x4 n) (I.x5 n) s).cw1)) (k0_off2 i (BitVec.ofNat 32 32)) S16x64.size (l1c (BitVec.ofNat 32 (i 0).val) (step i (I.x1 n) (I.x2 n) (I.x3 n) (I.x4 n) (I.x5 n) s).bt (I.x3 n) (step i (I.x1 n) (I.x2 n) (I.x3 n) (I.x4 n) (I.x5 n) s).rw1 (step i (I.x1 n) (I.x2 n) (I.x3 n) (I.x4 n) (I.x5 n) s).cw1))
              (k0_off2 i (BitVec.ofNat 32 48)) S16x64.size (l1d (BitVec.ofNat 32 (i 0).val) (step i (I.x1 n) (I.x2 n) (I.x3 n) (I.x4 n) (I.x5 n) s).bt (I.x3 n) (step i (I.x1 n) (I.x2 n) (I.x3 n) (I.x4 n) (I.x5 n) s).rw1 (step i (I.x1 n) (I.x2 n) (I.x3 n) (I.x4 n) (I.x5 n) s).cw1)
          else if (i 0).val < 21 then VecWindow.put s.acc (k0_off3 i) S256x64.size (l2 (BitVec.ofNat 32 (i 0).val) (step i (I.x1 n) (I.x2 n) (I.x3 n) (I.x4 n) (I.x5 n) s).bt (I.x4 n) (step i (I.x1 n) (I.x2 n) (I.x3 n) (I.x4 n) (I.x5 n) s).w2)
          else VecWindow.put s.acc (k0_off4 i) S256x64.size (l3 (BitVec.ofNat 32 (i 0).val) (step i (I.x1 n) (I.x2 n) (I.x3 n) (I.x4 n) (I.x5 n) s).bt (I.x5 n) (step i (I.x1 n) (I.x2 n) (I.x3 n) (I.x4 n) (I.x5 n) s).w3) := rfl
    rw [e, b1, b4, b5]
    unfold In.putPoint
    dsimp only
    rw [← hi]
    split_ifs with h1 h2 h3
    · rw [off1_eq i h1 0 (by omega), off1_eq i h1 8 (by omega)]
    · obtain ⟨c1, c2⟩ := hsecond (by omega)
      rw [c1, c2, off2_eq i (by omega) 0 (by omega), off2_eq i (by omega) 16 (by omega), off2_eq i (by omega) 32 (by omega), off2_eq i (by omega) 48 (by omega)]
    · rw [hthird (by omega), off3_eq i (by omega)]
    · rw [hfourth (by omega), off4_eq i (by omega)]
  rw [key]
  exact putPoint_agree I n h.acc y hy

/-- After the last point the accumulator holds the rows of all the points. -/
theorem known_last (I : In F) (s : St F) (h : Known I 27 (by omega) s) : s.acc = I.chain 27 (by omega) := by
  funext y
  exact h.acc y (lt_of_lt_of_eq (y 0).isLt (by simp [rows]))

end Cert.KernelIdeal.Roi

end
-- ==== Proof.IdealRun.lean ====
module

public import proofs.«01_k».proof.Proof.IdealBody
public import proofs.«01_k».proof.Proof.IdealKeep

@[expose] public section

set_option maxRecDepth 16384

noncomputable section

/-! The run of the whole program: the invariant between grid points, the body's obligation, the launch,
    and the frame claim. -/

namespace Cert.KernelIdeal.Roi

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffer window 0 is staged in at a point. -/
abbrev ms0 (t : Fin cfg0.N) : Memref sig .tc .vmem S64x4 .f32 := win0_0.stage (cfg0.slots t 0)
/-- The buffer window 1 is staged in at a point. -/
abbrev ms1 (t : Fin cfg0.N) : Memref sig .tc .vmem S1x16x192x192 .f32 := win0_1.stage (cfg0.slots t 1)
/-- The buffer window 2 is staged in at a point. -/
abbrev ms2 (t : Fin cfg0.N) : Memref sig .tc .vmem S1x64x96x96 .f32 := win0_2.stage (cfg0.slots t 2)
/-- The buffer window 3 is staged in at a point. -/
abbrev ms3 (t : Fin cfg0.N) : Memref sig .tc .vmem S1x256x2304 .f32 := win0_3.stage (cfg0.slots t 3)
/-- The buffer window 4 is staged in at a point. -/
abbrev ms4 (t : Fin cfg0.N) : Memref sig .tc .vmem S1x256x576 .f32 := win0_4.stage (cfg0.slots t 4)
/-- The buffer window 5 is staged in at a point. -/
abbrev ms5 (t : Fin cfg0.N) : Memref sig .tc .vmem S64x2880 .f32 := win0_5.stage (cfg0.slots t 5)

/-- The blocks core `c` is given, point by point, read off the arrays as the region finds them. -/
def inp (c : Dev nD) : In F where
  x1 n := iblk m c 0 (Fin.cast N_0.symm n)
  x2 n := iblk m c 1 (Fin.cast N_0.symm n)
  x3 n := iblk m c 2 (Fin.cast N_0.symm n)
  x4 n := iblk m c 3 (Fin.cast N_0.symm n)
  x5 n := iblk m c 4 (Fin.cast N_0.symm n)

/-- The ten scratch buffers at the values of `s`. -/
def scr (c : Dev nD) (s : St F) : sProp 𝕄 := iprop(owns (c : Thread nD τ) (Memref.whole cc0_scratch0 : Memref sig .tc .vmem S4x64 .f32) fullShare s.bt ∗ owns (c : Thread nD τ) (Memref.whole cc0_scratch1 : Memref sig .tc .vmem S2880x64 .f32) fullShare s.acc ∗ owns (c : Thread nD τ) (Memref.whole cc0_scratch2 : Memref sig .tc .vmem S192x64 .f32) fullShare s.ay ∗ owns (c : Thread nD τ) (Memref.whole cc0_scratch3 : Memref sig .tc .vmem S192x64 .f32) fullShare s.ax ∗ owns (c : Thread nD τ) (Memref.whole cc0_scratch4 : Memref sig .tc .vmem S192x64 .f32) fullShare s.rw0 ∗ owns (c : Thread nD τ) (Memref.whole cc0_scratch5 : Memref sig .tc .vmem S192x64 .f32) fullShare s.cw0 ∗ owns (c : Thread nD τ) (Memref.whole cc0_scratch6 : Memref sig .tc .vmem S96x64 .f32) fullShare s.rw1 ∗ owns (c : Thread nD τ) (Memref.whole cc0_scratch7 : Memref sig .tc .vmem S96x64 .f32) fullShare s.cw1 ∗ owns (c : Thread nD τ) (Memref.whole cc0_scratch8 : Memref sig .tc .vmem S2304x64 .f32) fullShare s.w2 ∗ owns (c : Thread nD τ) (Memref.whole cc0_scratch9 : Memref sig .tc .vmem S576x64 .f32) fullShare s.w3)

/-- The scratch buffers at any contents are what the launch hands the region. -/
theorem launch_eq (c : Dev nD) :
    (Pipeline.ΦA spec0 c : sProp 𝕄) = iprop(iprop((∃ d, owns (c : Thread nD τ) (Memref.whole cc0_scratch0 : Memref sig .tc .vmem S4x64 .f32) fullShare d) ∗ (∃ d, owns (c : Thread nD τ) (Memref.whole cc0_scratch1 : Memref sig .tc .vmem S2880x64 .f32) fullShare d) ∗ (∃ d, owns (c : Thread nD τ) (Memref.whole cc0_scratch2 : Memref sig .tc .vmem S192x64 .f32) fullShare d) ∗ (∃ d, owns (c : Thread nD τ) (Memref.whole cc0_scratch3 : Memref sig .tc .vmem S192x64 .f32) fullShare d) ∗ (∃ d, owns (c : Thread nD τ) (Memref.whole cc0_scratch4 : Memref sig .tc .vmem S192x64 .f32) fullShare d) ∗ (∃ d, owns (c : Thread nD τ) (Memref.whole cc0_scratch5 : Memref sig .tc .vmem S192x64 .f32) fullShare d) ∗ (∃ d, owns (c : Thread nD τ) (Memref.whole cc0_scratch6 : Memref sig .tc .vmem S96x64 .f32) fullShare d) ∗ (∃ d, owns (c : Thread nD τ) (Memref.whole cc0_scratch7 : Memref sig .tc .vmem S96x64 .f32) fullShare d) ∗ (∃ d, owns (c : Thread nD τ) (Memref.whole cc0_scratch8 : Memref sig .tc .vmem S2304x64 .f32) fullShare d) ∗ (∃ d, owns (c : Thread nD τ) (Memref.whole cc0_scratch9 : Memref sig .tc .vmem S576x64 .f32) fullShare d)) ∗ (∃ r, prngReg c r)) := by
  unfold Pipeline.ΦA; rw [scopedRest0_eq]; simp only [owns_whole]; try rfl

/-- Before point `n`: scratch at values of which all is known that the first `n` points established. -/
def inv (c : Dev nD) (n : ℕ) (hn : n ≤ cfg0.N) : sProp 𝕄 :=
  iprop(∃ s : St F, ⌜Known (inp m c) n (le_of_le_of_eq hn N_0) s⌝ ∗ scr c s ∗ (∃ r, prngReg c r))

/-- What the last point hands over: the accumulator of all points, transposed. -/
def outv (c : Dev nD) : Vec F S64x2880 .f32 := k0_pay10 ((inp m c).chain 27 (by omega))

/-- The proof data: arrays as the region finds them; each input block left in place; the result's buffer
    at the transposed accumulator where it is written; the invariant between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c
  Φ t := inv m c t.val (Nat.le_of_lt_succ t.isLt)
  q _ := fullShare
  owed _ := 0

/-- The proof data's arrays are the region's. -/
theorem A_eq (c : Dev nD) (w : Fin cfg0.W) : (dats m 0 c).A w = V m c (Pipeline.arrRef spec0 w) := by
  dsimp only [dats]

/-- The invariant at a point's start. -/
theorem inv_castSucc (c : Dev nD) (t : Fin cfg0.N) : (dats m 0 c).Φ t.castSucc = inv m c t.val (Nat.le_of_lt t.isLt) := by
  dsimp only [dats]; exact Pipeline.Dat.Φ_castSucc (inv m c) t

/-- The body leaves window 0's block in place. -/
theorem after_0 (c : Dev nD) (t : Fin cfg0.N) : (dats m 0 c).after 0 t = iblk m c 0 t := by dsimp only [dats]
/-- The body leaves window 1's block in place. -/
theorem after_1 (c : Dev nD) (t : Fin cfg0.N) : (dats m 0 c).after 1 t = iblk m c 1 t := by dsimp only [dats]
/-- The body leaves window 2's block in place. -/
theorem after_2 (c : Dev nD) (t : Fin cfg0.N) : (dats m 0 c).after 2 t = iblk m c 2 t := by dsimp only [dats]
/-- The body leaves window 3's block in place. -/
theorem after_3 (c : Dev nD) (t : Fin cfg0.N) : (dats m 0 c).after 3 t = iblk m c 3 t := by dsimp only [dats]
/-- The body leaves window 4's block in place. -/
theorem after_4 (c : Dev nD) (t : Fin cfg0.N) : (dats m 0 c).after 4 t = iblk m c 4 t := by dsimp only [dats]
/-- Where it is written the result's buffer holds the transposed accumulator. -/
theorem after_5 (c : Dev nD) (t : Fin cfg0.N) : (dats m 0 c).after 5 t = outv m c := by dsimp only [dats]

/-- Window 0's buffer holds its block at every point. -/
theorem before_0 (c : Dev nD) (t : Fin cfg0.N) (d) : (dats m 0 c).before 0 t d = iblk m c 0 t :=
  before0_0_of m (dats m 0 c) (A_eq m c 0) (after_0 m c) t d
/-- The body hands window 0's buffer back at its block. -/
theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
/-- Window 1's buffer holds its block at every point. -/
theorem before_1 (c : Dev nD) (t : Fin cfg0.N) (d) : (dats m 0 c).before 1 t d = iblk m c 1 t :=
  before0_1_of m (dats m 0 c) (A_eq m c 1) (after_1 m c) t d
/-- The body hands window 1's buffer back at its block. -/
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
/-- Window 2's buffer holds its block at every point. -/
theorem before_2 (c : Dev nD) (t : Fin cfg0.N) (d) : (dats m 0 c).before 2 t d = iblk m c 2 t :=
  before0_2_of m (dats m 0 c) (A_eq m c 2) (after_2 m c) t d
/-- The body hands window 2's buffer back at its block. -/
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
/-- Window 3's buffer holds its block at every point. -/
theorem before_3 (c : Dev nD) (t : Fin cfg0.N) (d) : (dats m 0 c).before 3 t d = iblk m c 3 t :=
  before0_3_of m (dats m 0 c) (A_eq m c 3) (after_3 m c) t d
/-- The body hands window 3's buffer back at its block. -/
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
/-- Window 4's buffer holds its block at every point. -/
theorem before_4 (c : Dev nD) (t : Fin cfg0.N) (d) : (dats m 0 c).before 4 t d = iblk m c 4 t :=
  before0_4_of m (dats m 0 c) (A_eq m c 4) (after_4 m c) t d
/-- The body hands window 4's buffer back at its block. -/
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]

/-- The number of a grid point is its coordinate. -/
theorem coords_val (t : Fin cfg0.N) : (grid0.coords t 0).val = t.val := by
  have e0 : (grid0.coords t 0).val = t.val / 1 % 27 := Pipeline.Grid.coords_val t 0 (by decide) rfl
  have := lt_of_lt_of_eq t.isLt N_0
  omega

/-- At a point before the last the result's buffer is handed back as it was found. -/
theorem leaves_5_idle (c : Dev nD) (t : Fin cfg0.N) (h : t.val ≠ 26) :
    (dats m 0 c).leavesExact 5 t = iprop(∃ d, owns (c : Thread nD τ) (ms5 t) fullShare ((dats m 0 c).before 5 t d)) := by
  have hlt := lt_of_lt_of_eq t.isLt N_0
  refine Dat.leavesExact_idle _ 5 t ?_ ?_
  · have hc : ¬ k0_cond10 (grid0.coords t) = 1#1 := fun hk => h ((coords_val t).symm.trans ((cond10_iff _).1 hk))
    show (!(k0_cond10 (grid0.coords t) == 1#1)) = true
    simpa using hc
  · have := mt (flush0_5 t).1 (by omega)
    simpa using this

/-- At the last point it is handed back at the transposed accumulator. -/
theorem leaves_5_last (c : Dev nD) (t : Fin cfg0.N) (h : t.val = 26) :
    (dats m 0 c).leavesExact 5 t = owns (c : Thread nD τ) (ms5 t) fullShare (outv m c) := by
  have hc : k0_cond10 (grid0.coords t) = 1#1 := (cond10_iff _).2 ((coords_val t).trans h)
  have hi : cfg0.idle 5 (cfg0.grid.coords t) = false := by
    show (!(k0_cond10 (grid0.coords t) == 1#1)) = false
    simpa using hc
  unfold Dat.leavesExact; rw [hi, after_5]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The body at any point keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = inv m c (t.val + 1) t.isLt from rfl, inv_castSucc,
    leaves_0, leaves_1, leaves_2, leaves_3, leaves_4]
  have hN : t.val < 27 := lt_of_lt_of_eq t.isLt N_0
  have hi := coords_val t
  unfold inv scr
  iintro ⟨⟨%s, %hs, ⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩⟩
  have hk := known_step (inp m c) (grid0.coords t) (Fin.cast N_0 t) hi s hs
  iapply (body_triple c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) ((dats m 0 c).before 5 t d5) s Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, S0, S1, S2, S3, S4, S5, S6, S7, S8, S9⟩
  isplitl [S0 S1 S2 S3 S4 S5 S6 S7 S8 S9 Hg]
  · iexists _
    isplitr
    · ipureintro; exact hk
    isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  by_cases h26 : t.val = 26
  · rw [leaves_5_last m c t h26, if_pos (hi.trans h26)]
    have e : (step (grid0.coords t) (iblk m c 0 t) (iblk m c 1 t) (iblk m c 2 t) (iblk m c 3 t) (iblk m c 4 t) s).acc = (inp m c).chain 27 (by omega) := by
      refine known_last _ _ ?_
      have e27 : (Fin.cast N_0 t).val + 1 = 27 := by show t.val + 1 = 27; omega
      have hk' := hk
      simp only [e27] at hk'
      exact hk'
    rw [e]
    iexact H5
  · rw [leaves_5_idle m c t h26, if_neg (fun q => h26 (hi.symm.trans q))]
    iexists _; iexact H5

/-- The body the pipeline calls at a point is the kernel's. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = inv m c 0 (Nat.zero_le _) from rfl, launch_eq]
  unfold inv scr
  iintro ⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩⟩, Hg⟩
  iexists (⟨d0, d1, d2, d3, d4, d5, d6, d7, d8, d9⟩ : St F)
  isplitr
  · ipureintro; exact known_zero _ _
  isplitl [S0 S1 S2 S3 S4 S5 S6 S7 S8 S9]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = inv m c cfg0.N le_rfl from rfl, launch_eq]
  unfold inv scr
  iintro ⟨%s, %hs, ⟨S0, S1, S2, S3, S4, S5, S6, S7, S8, S9⟩, Hg⟩
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  iexact Hg

set_option backward.isDefEq.respectTransparency.types false in
set_option maxHeartbeats 800000 in
/-- The whole program runs to the end from any memory, leaves each array as the proof data says and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the program terminates with its arguments unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Roi

end
-- ==== Proof.RefFrame.lean ====
module

public import proofs.«01_k».proof.Defs
public import proofs.«01_k».proof.Proof.Gen.ReferenceIdeal
public import Idealize.ShloMosaic.Lib.Claim

@[expose] public section

set_option maxRecDepth 16384

noncomputable section

/-! The reference program's frame claim. -/

namespace Cert.ReferenceIdeal.Roi

open Idealize.ShloMosaic Idealize.SL.Sem

attribute [local instance] Cert.ReferenceIdeal.Gen.facts in
set_option maxHeartbeats 16000000 in
/-- The reference terminates with its arguments unchanged and every counter at zero. -/
theorem frame_claim : Cert.quiescent_ReferenceIdeal := fun m g _ => by
  hlo_run
  all_goals first
    | exact fun _ => ⟨trivial, trivial, trivial, trivial, trivial⟩
    | exact sem_eq_zero_of_no_sems (sig := sig) (by decide) _

end Cert.ReferenceIdeal.Roi

end
-- ==== Proof.KBlocks.lean ====
module

public import proofs.«01_k».proof.Proof.IdealRun
public import Idealize.ShloMosaic.Lib.Pipeline.ValueKit
public import Idealize.ShloMosaic.Lib.Pointwise
public import Idealize.ShloMosaic.Lib.IdealHost
public import Idealize.ShloMosaic.Lib.StableHlo.RunRead

@[expose] public section

set_option maxRecDepth 16384

noncomputable section

/-! The blocks the grid points are given, in terms of the arguments. -/

namespace Cert.KernelIdeal.Roi

open Cert.KernelIdeal.Gen
open Idealize.ShloMosaic Idealize.ShloMosaic.TcCoe Idealize.SL.Sem

variable (m : (ℓ : Loc nD τ sig) → Buf (Elt Ideal) ℓ)

/-- Where each window's block lies, point by point. -/
theorem idx : ∀ t : Fin cfg0.N, win0_0.index t = ![0, 0] ∧ win0_1.index t = ![0, min t.val 11, 0, 0] ∧ win0_2.index t = ![0, min 5 (t.val - 12), 0, 0]
    ∧ win0_3.index t = ![0, min 2 (t.val - 18), 0] ∧ win0_4.index t = ![0, min 5 (t.val - 21), 0] :=
  (by decide +kernel : ∀ t : Fin grid0.N, _)

/-- The boxes. -/
theorem x1_at (c : Dev nD) (n : Fin 27) (k : Fin 64) (q : Fin 4) :
    @Eq EReal ((inp m c).x1 n (ix2 k q)) (m ((c : Thread nD τ).loc main_arg4) (ix2 k q)) := by
  obtain ⟨i0, -⟩ := idx (Fin.cast N_0.symm n)
  show @Eq EReal (iblk m c 0 (Fin.cast N_0.symm n) (ix2 k q)) _
  blk_ext [iblk, V, i0]

/-- The first map's channels at its points. -/
theorem x2_at (c : Dev nD) (n : Fin 27) (hn : n.val < 12) (g : Fin 16) (h w : Fin 192) :
    @Eq EReal ((inp m c).x2 n (ix4 0 g h w)) (m ((c : Thread nD τ).loc main_arg0) (ix4 0 ⟨16 * n + g, by omega⟩ h w)) := by
  obtain ⟨-, i1, -⟩ := idx (Fin.cast N_0.symm n)
  show @Eq EReal (iblk m c 1 (Fin.cast N_0.symm n) (ix4 0 g h w)) _
  blk_ext [iblk, V, i1]
  rw [Fin.val_cast]
  omega

/-- The second map's channels at its points. -/
theorem x3_at (c : Dev nD) (n : Fin 27) (hn : 12 ≤ n.val) (hn' : n.val < 18) (g : Fin 64) (h w : Fin 96) :
    @Eq EReal ((inp m c).x3 n (ix4 0 g h w)) (m ((c : Thread nD τ).loc main_arg1) (ix4 0 ⟨64 * (n - 12) + g, by omega⟩ h w)) := by
  obtain ⟨-, -, i2, -⟩ := idx (Fin.cast N_0.symm n)
  show @Eq EReal (iblk m c 2 (Fin.cast N_0.symm n) (ix4 0 g h w)) _
  blk_ext [iblk, V, i2]
  rw [Fin.val_cast]
  omega

/-- The third map, its lines laid end to end. -/
theorem flat2 (c : Dev nD) (j : Fin 768) (p : Fin 2304) :
    @Eq EReal (V m c main_v0 (ix3 0 j p)) (m ((c : Thread nD τ).loc main_arg2) (ix4 0 j ⟨p / 48, by omega⟩ ⟨p % 48, by omega⟩)) := by
  show @Eq EReal (StableHlo.after hostOps0 (fun b => m (c, b)) (Proc.devRef .tc main_v0) (ix3 0 j p)) _
  after_reads_simp
  pointwise

/-- The fourth map, its lines laid end to end. -/
theorem flat3 (c : Dev nD) (j : Fin 1536) (p : Fin 576) :
    @Eq EReal (V m c main_v1 (ix3 0 j p)) (m ((c : Thread nD τ).loc main_arg3) (ix4 0 j ⟨p / 24, by omega⟩ ⟨p % 24, by omega⟩)) := by
  show @Eq EReal (StableHlo.after hostOps0 (fun b => m (c, b)) (Proc.devRef .tc main_v1) (ix3 0 j p)) _
  after_reads_simp
  pointwise

/-- The third map's channels at its points. -/
theorem x4_at (c : Dev nD) (n : Fin 27) (hn : 18 ≤ n.val) (hn' : n.val < 21) (g : Fin 256) (p : Fin 2304) :
    @Eq EReal ((inp m c).x4 n (ix3 0 g p)) (V m c main_v0 (ix3 0 ⟨256 * (n - 18) + g, by omega⟩ p)) := by
  obtain ⟨-, -, -, i3, -⟩ := idx (Fin.cast N_0.symm n)
  show @Eq EReal (iblk m c 3 (Fin.cast N_0.symm n) (ix3 0 g p)) _
  blk_ext [iblk, i3]
  rw [Fin.val_cast]
  omega

/-- The fourth map's channels at its points. -/
theorem x5_at (c : Dev nD) (n : Fin 27) (hn : 21 ≤ n.val) (g : Fin 256) (p : Fin 576) :
    @Eq EReal ((inp m c).x5 n (ix3 0 g p)) (V m c main_v1 (ix3 0 ⟨256 * (n - 21) + g, by omega⟩ p)) := by
  obtain ⟨-, -, -, -, i4⟩ := idx (Fin.cast N_0.symm n)
  show @Eq EReal (iblk m c 4 (Fin.cast N_0.symm n) (ix3 0 g p)) _
  blk_ext [iblk, i4]
  rw [Fin.val_cast]
  omega

/-- The transposed boxes. -/
theorem bt_at (c : Dev nD) (q : Fin 4) (k : Fin 64) :
    @Eq EReal ((inp m c).bt (ix2 q k)) (m ((c : Thread nD τ).loc main_arg4) (ix2 k q)) := by
  unfold In.bt
  pointwise [k0_pay1]
  exact x1_at m c 0 k q

end Cert.KernelIdeal.Roi

end
-- ==== Proof.KChain.lean ====
module

public import proofs.«01_k».proof.Proof.IdealKeep
public import Idealize.ShloMosaic.Lib.Pointwise

@[expose] public section

set_option maxRecDepth 16384

noncomputable section

/-! The accumulator after all the points, when the rows of every point are known. -/

namespace Cert.KernelIdeal.Roi

open Cert.KernelIdeal.Gen
open Idealize.ShloMosaic Idealize.ShloMosaic.TcCoe

/-- Rows with known values put above rows with known values. -/
theorem put_spec {α : Type} {o sz : ℕ} {f : S2880x64.Idx → α} (G : ℕ → Fin 64 → α) (w : (⟨2, ![sz, 64]⟩ : Shape).Idx → α)
    (hw : ∀ (g : Fin sz) (k : Fin 64), w (ix2 g k) = G (o + g) k)
    (h : ∀ y : S2880x64.Idx, (y 0).val < o → f y = G (y 0).val (y 1)) :
    ∀ y : S2880x64.Idx, (y 0).val < o + sz → VecWindow.put f ![o, 0] ![sz, 64] w y = G (y 0).val (y 1) := by
  intro y hy
  unfold VecWindow.put
  split
  · next hn =>
    have h0 : o ≤ (y 0).val := (hn 0).1
    refine Eq.trans ?_ ((hw ⟨(y 0).val - o, by omega⟩ (y 1)).trans (congrArg (fun r => G r (y 1)) (show o + ((y 0).val - o) = (y 0).val by omega)))
    refine congrArg w ?_
    funext a
    apply Fin.ext
    match a with
    | ⟨0, _⟩ => rfl
    | ⟨1, _⟩ => exact Nat.sub_zero _
  · next hn =>
    refine h y ?_
    by_contra hc
    refine hn (Fin.forall_fin_two.2 ⟨⟨?_, ?_⟩, ⟨Nat.zero_le _, ?_⟩⟩)
    · exact Nat.le_of_not_lt hc
    · exact hy
    · exact lt_of_lt_of_eq (y 1).isLt (by simp)

variable {F : FTy → Type} [FloatOps F] [Named F]

/-- What the rows of every point have to be for the accumulator to hold `G`. -/
structure RowsAre (I : In F) (G : ℕ → Fin 64 → F .f32) : Prop where
  r0a : ∀ n : Fin 27, n.val < 12 → ∀ (g : Fin 8) (k : Fin 64), l0a (BitVec.ofNat 32 n.val) I.bt (I.x2 n) I.rw0 I.cw0 (ix2 g k) = G (16 * n.val + 0 + g) k
  r0b : ∀ n : Fin 27, n.val < 12 → ∀ (g : Fin 8) (k : Fin 64), l0b (BitVec.ofNat 32 n.val) I.bt (I.x2 n) I.rw0 I.cw0 (ix2 g k) = G (16 * n.val + 8 + g) k
  r1a : ∀ n : Fin 27, 12 ≤ n.val → n.val < 18 → ∀ (g : Fin 16) (k : Fin 64), l1a (BitVec.ofNat 32 n.val) I.bt (I.x3 n) I.rw1 I.cw1 (ix2 g k) = G (192 + 64 * (n.val - 12) + 0 + g) k
  r1b : ∀ n : Fin 27, 12 ≤ n.val → n.val < 18 → ∀ (g : Fin 16) (k : Fin 64), l1b (BitVec.ofNat 32 n.val) I.bt (I.x3 n) I.rw1 I.cw1 (ix2 g k) = G (192 + 64 * (n.val - 12) + 16 + g) k
  r1c : ∀ n : Fin 27, 12 ≤ n.val → n.val < 18 → ∀ (g : Fin 16) (k : Fin 64), l1c (BitVec.ofNat 32 n.val) I.bt (I.x3 n) I.rw1 I.cw1 (ix2 g k) = G (192 + 64 * (n.val - 12) + 32 + g) k
  r1d : ∀ n : Fin 27, 12 ≤ n.val → n.val < 18 → ∀ (g : Fin 16) (k : Fin 64), l1d (BitVec.ofNat 32 n.val) I.bt (I.x3 n) I.rw1 I.cw1 (ix2 g k) = G (192 + 64 * (n.val - 12) + 48 + g) k
  r2 : ∀ n : Fin 27, 18 ≤ n.val → n.val < 21 → ∀ (g : Fin 256) (k : Fin 64), l2 (BitVec.ofNat 32 n.val) I.bt (I.x4 n) I.w2 (ix2 g k) = G (576 + 256 * (n.val - 18) + g) k
  r3 : ∀ n : Fin 27, 21 ≤ n.val → ∀ (g : Fin 256) (k : Fin 64), l3 (BitVec.ofNat 32 n.val) I.bt (I.x5 n) I.w3 (ix2 g k) = G (1344 + 256 * (n.val - 21) + g) k

/-- The rows of a point put above known rows. -/
theorem putPoint_spec (I : In F) (G : ℕ → Fin 64 → F .f32) (H : RowsAre I G) (n : Fin 27) {f : Vec F S2880x64 .f32}
    (h : ∀ y : S2880x64.Idx, (y 0).val < rows n.val → f y = G (y 0).val (y 1)) :
    ∀ y : S2880x64.Idx, (y 0).val < rows (n.val + 1) → I.putPoint n f y = G (y 0).val (y 1) := by
  intro y hy
  have hn := n.isLt
  unfold rows at h hy
  unfold In.putPoint
  dsimp only
  split_ifs with h1 h2 h3
  · rw [if_pos (by omega)] at h hy
    exact put_spec G _ (H.r0b n h1) (put_spec G _ (H.r0a n h1) (fun y hy => h y (by omega))) y (by omega)
  · have p1 := put_spec (o := 192 + 64 * (n.val - 12) + 0) (sz := 16) (f := f) G _ (H.r1a n (by omega) h2) (fun y hy => h y (by split_ifs <;> omega))
    have p2 := put_spec (o := 192 + 64 * (n.val - 12) + 16) (sz := 16) G _ (H.r1b n (by omega) h2) (fun y hy => p1 y (by omega))
    have p3 := put_spec (o := 192 + 64 * (n.val - 12) + 32) (sz := 16) G _ (H.r1c n (by omega) h2) (fun y hy => p2 y (by omega))
    exact put_spec (o := 192 + 64 * (n.val - 12) + 48) (sz := 16) G _ (H.r1d n (by omega) h2) (fun y hy => p3 y (by omega)) y (by split_ifs at hy <;> omega)
  · refine put_spec G _ (H.r2 n (by omega) h3) (fun y hy => h y ?_) y ?_
    · split_ifs <;> omega
    · split_ifs at hy <;> omega
  · refine put_spec G _ (H.r3 n (by omega)) (fun y hy => h y ?_) y ?_
    · split_ifs <;> omega
    · split_ifs at hy <;> omega

/-- After `n` points the rows written so far are known. -/
theorem chain_spec (I : In F) (G : ℕ → Fin 64 → F .f32) (H : RowsAre I G) :
    ∀ (n : ℕ) (hn : n ≤ 27) (y : S2880x64.Idx), (y 0).val < rows n → I.chain n hn y = G (y 0).val (y 1)
  | 0, _, y, hy => absurd hy (by simp [rows])
  | n + 1, hn, y, hy => putPoint_spec I G H ⟨n, hn⟩ (chain_spec I G H n (Nat.le_of_succ_le hn)) y hy

/-- After the last point every row is known. -/
theorem chain_all (I : In F) (G : ℕ → Fin 64 → F .f32) (H : RowsAre I G) (c : Fin 2880) (k : Fin 64) :
    I.chain 27 (by omega) (ix2 c k) = G c k :=
  chain_spec I G H 27 (by omega) (ix2 c k) (lt_of_lt_of_eq c.isLt (by simp [rows]))

end Cert.KernelIdeal.Roi

end
-- ==== Proof.Spec.lean ====
module

public import Idealize.ShloMosaic.Lib.Pointwise
public import Idealize.ShloMosaic.Lib.IdealHost

set_option maxRecDepth 16384

@[expose] public section

noncomputable section

/-! The value both programs compute, in plain mathematics: tent weights, the axis weights of a box, the
    weighted sum of a map, the sine embedding of a box; and the few facts about extended reals used. -/

namespace Cert.Roi

open Idealize.ShloMosaic
open scoped BigOperators

/-! ### The printed constants -/

/-- The word of a half. -/
theorem c_half : Ideal.ofBits .f32 0x3F000000#32 = ((1 / 2 : ℝ) : EReal) := by
  simp [Ideal.ofBits, Ideal.ieee, -EReal.coe_mul]; norm_num
/-- The word of a quarter. -/
theorem c_quarter : Ideal.ofBits .f32 0x3E800000#32 = ((1 / 4 : ℝ) : EReal) := by
  simp [Ideal.ofBits, Ideal.ieee, -EReal.coe_mul]; norm_num
/-- The word of an eighth. -/
theorem c_eighth : Ideal.ofBits .f32 0x3E000000#32 = ((1 / 8 : ℝ) : EReal) := by
  simp [Ideal.ofBits, Ideal.ieee, -EReal.coe_mul]; norm_num
/-- The word of 2. -/
theorem c_2 : Ideal.ofBits .f32 0x40000000#32 = ((2 : ℝ) : EReal) := by
  simp [Ideal.ofBits, Ideal.ieee, -EReal.coe_mul]; norm_num
/-- The word of 4. -/
theorem c_4 : Ideal.ofBits .f32 0x40800000#32 = ((4 : ℝ) : EReal) := by
  simp [Ideal.ofBits, Ideal.ieee, -EReal.coe_mul]; norm_num
/-- The word of 7. -/
theorem c_7 : Ideal.ofBits .f32 0x40E00000#32 = ((7 : ℝ) : EReal) := by
  simp [Ideal.ofBits, Ideal.ieee, -EReal.coe_mul]; norm_num
/-- The word of 14. -/
theorem c_14 : Ideal.ofBits .f32 0x41600000#32 = ((14 : ℝ) : EReal) := by
  simp [Ideal.ofBits, Ideal.ieee, -EReal.coe_mul]; norm_num
/-- The word of 49. -/
theorem c_49 : Ideal.ofBits .f32 0x42440000#32 = ((49 : ℝ) : EReal) := by
  simp [Ideal.ofBits, Ideal.ieee, -EReal.coe_mul]; norm_num
/-- The word of minus one. -/
theorem c_neg1 : Ideal.ofBits .f32 0xBF800000#32 = ((-1 : ℝ) : EReal) := by
  simp [Ideal.ofBits, Ideal.ieee, -EReal.coe_mul, -EReal.coe_neg]; norm_num
/-- The word of 191. -/
theorem c_191 : Ideal.ofBits .f32 0x433F0000#32 = ((191 : ℝ) : EReal) := by
  simp [Ideal.ofBits, Ideal.ieee, -EReal.coe_mul]; norm_num
/-- The word of 192. -/
theorem c_192 : Ideal.ofBits .f32 0x43400000#32 = ((192 : ℝ) : EReal) := by
  simp [Ideal.ofBits, Ideal.ieee, -EReal.coe_mul]; norm_num
/-- The word of 95. -/
theorem c_95 : Ideal.ofBits .f32 0x42BE0000#32 = ((95 : ℝ) : EReal) := by
  simp [Ideal.ofBits, Ideal.ieee, -EReal.coe_mul]; norm_num
/-- The word of 47. -/
theorem c_47 : Ideal.ofBits .f32 0x423C0000#32 = ((47 : ℝ) : EReal) := by
  simp [Ideal.ofBits, Ideal.ieee, -EReal.coe_mul]; norm_num
/-- The word of 23. -/
theorem c_23 : Ideal.ofBits .f32 0x41B80000#32 = ((23 : ℝ) : EReal) := by
  simp [Ideal.ofBits, Ideal.ieee, -EReal.coe_mul]; norm_num
/-- The word of 720. -/
theorem c_720 : Ideal.ofBits .f32 0x44340000#32 = ((720 : ℝ) : EReal) := by
  simp [Ideal.ofBits, Ideal.ieee, -EReal.coe_mul]; norm_num
/-- The word of 768. -/
theorem c_768 : Ideal.ofBits .f32 0x44400000#32 = ((768 : ℝ) : EReal) := by
  simp [Ideal.ofBits, Ideal.ieee, -EReal.coe_mul]; norm_num
/-- The word of 10000. -/
theorem c_10000 : Ideal.ofBits .f32 0x461C4000#32 = ((10000 : ℝ) : EReal) := by
  simp [Ideal.ofBits, Ideal.ieee, -EReal.coe_mul]; norm_num

/-- The word of minus a half. -/
theorem c_neghalf : Ideal.ofBits .f32 0xBF000000#32 = ((-(1 / 2) : ℝ) : EReal) := by
  simp [Ideal.ofBits, Ideal.ieee, -EReal.coe_mul, -EReal.coe_neg]; norm_num
/-- The word of 95.5. -/
theorem c_95_5 : Ideal.ofBits .f32 0x42BF0000#32 = ((95.5 : ℝ) : EReal) := by
  simp [Ideal.ofBits, Ideal.ieee, -EReal.coe_mul]; norm_num
/-- The word of 47.5. -/
theorem c_47_5 : Ideal.ofBits .f32 0x423E0000#32 = ((47.5 : ℝ) : EReal) := by
  simp [Ideal.ofBits, Ideal.ieee, -EReal.coe_mul]; norm_num
/-- The word of 23.5. -/
theorem c_23_5 : Ideal.ofBits .f32 0x41BC0000#32 = ((23.5 : ℝ) : EReal) := by
  simp [Ideal.ofBits, Ideal.ieee, -EReal.coe_mul]; norm_num
/-- The word of the resize's threshold, 125 / 1048576. -/
theorem c_small : Ideal.ofBits .f32 0x38FA0000#32 = ((125 / 1048576 : ℝ) : EReal) := by
  simp [Ideal.ofBits, Ideal.ieee, -EReal.coe_mul]; norm_num

/-- The printed word of a full turn. -/
def turn : EReal := Ideal.ofBits .f32 0x40C90FDB#32

/-! ### Extended reals -/

/-- A finite sum of extended reals scaled by a nonnegative real is the sum of the scaled terms. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm,
      EReal.left_distrib_of_nonneg_of_ne_top (by exact_mod_cast ha) (EReal.coe_ne_top a), mul_comm, mul_comm (a : EReal)]

/-- The extended real of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- An extended real times a finite sum of nonnegative reals. -/
theorem mul_sum_coe {ι : Type*} (s : Finset ι) (x : EReal) (a : ι → ℝ) (ha : ∀ i ∈ s, 0 ≤ a i) :
    x * ((∑ i ∈ s, a i : ℝ) : EReal) = ∑ i ∈ s, x * (a i : EReal) := by
  classical
  induction s using Finset.induction_on with
  | empty => simp
  | insert i s hi ih =>
    have h0 : 0 ≤ a i := ha i (Finset.mem_insert_self _ _)
    have h1 : ∀ j ∈ s, 0 ≤ a j := fun j hj => ha j (Finset.mem_insert_of_mem hj)
    rw [Finset.sum_insert hi, Finset.sum_insert hi, EReal.coe_add,
      EReal.left_distrib_of_nonneg (by exact_mod_cast h0) (by exact_mod_cast Finset.sum_nonneg h1), ih h1]

/-- Weighted sums of weighted sums of the same terms are one weighted sum, all weights being nonnegative. -/
theorem comb {ι κ : Type*} (s : Finset ι) (t : Finset κ) (x : κ → EReal) (a : ι → κ → ℝ) (b : ι → ℝ)
    (ha : ∀ i q, 0 ≤ a i q) (hb : ∀ i, 0 ≤ b i) :
    ∑ i ∈ s, (∑ q ∈ t, x q * (a i q : EReal)) * (b i : EReal) = ∑ q ∈ t, x q * ((∑ i ∈ s, a i q * b i : ℝ) : EReal) := by
  rw [Finset.sum_congr rfl fun i _ => sum_mul_coe t _ (hb i), Finset.sum_comm]
  refine Finset.sum_congr rfl fun q _ => ?_
  rw [mul_sum_coe s _ _ fun i _ => mul_nonneg (ha i q) (hb i)]
  refine Finset.sum_congr rfl fun i _ => ?_
  rw [EReal.coe_mul, mul_assoc]

/-! ### The weights -/

/-- The tent of half width one about `r`, at `u`. -/
def tent (u r : ℝ) : ℝ := max 0 (1 - |u - r|)

/-- A tent is nowhere negative. -/
theorem tent_nonneg (u r : ℝ) : 0 ≤ tent u r := le_max_left _ _

/-- An extended real clipped to `[0, a]`, a real number. -/
def clip (a : ℝ) (z : EReal) : ℝ := (min (a : EReal) (max 0 z)).toReal

/-- The clipped number as an extended real. -/
theorem coe_clip {a : ℝ} (ha : 0 ≤ a) (z : EReal) : ((clip a z : ℝ) : EReal) = min (a : EReal) (max 0 z) := by
  refine EReal.coe_toReal ?_ ?_
  · exact ne_of_lt (lt_of_le_of_lt (min_le_left _ _) (EReal.coe_lt_top a))
  · refine ne_of_gt (lt_of_lt_of_le (EReal.bot_lt_coe 0) (le_min (by exact_mod_cast ha) (le_max_left _ _)))

/-- A clipped number is not negative. -/
theorem clip_nonneg {a : ℝ} (ha : 0 ≤ a) (z : EReal) : 0 ≤ clip a z := by
  have : (0 : EReal) ≤ ((clip a z : ℝ) : EReal) := by
    rw [coe_clip ha]; exact le_min (by exact_mod_cast ha) (le_max_left _ _)
  exact_mod_cast this

/-- A clipped number is at most the bound. -/
theorem clip_le {a : ℝ} (ha : 0 ≤ a) (z : EReal) : clip a z ≤ a := by
  have : ((clip a z : ℝ) : EReal) ≤ (a : EReal) := by rw [coe_clip ha]; exact min_le_left _ _
  exact_mod_cast this

/-- One where a sample point lies in the map widened by a pixel, else zero. -/
def inside (z : EReal) : ℝ := if ((-1 : ℝ) : EReal) < z ∧ z < ((192 : ℝ) : EReal) then 1 else 0

/-- The test is not negative. -/
theorem inside_nonneg (z : EReal) : 0 ≤ inside z := by unfold inside; split_ifs <;> norm_num

/-- The coordinate of the `s`-th of the fourteen sample points of a box between `lo` and `hi` pixels. -/
def samp (lo hi : EReal) (s : ℕ) : EReal :=
  lo * ((1 / 4 : ℝ) : EReal) + (((s + 1 / 2) / 14 : ℝ) : EReal) * max (hi * ((1 / 4 : ℝ) : EReal) - lo * ((1 / 4 : ℝ) : EReal)) 1

/-- The share of grid line `g` in a sample point. -/
def share (z : EReal) (g : ℝ) : ℝ := tent (clip 191 z) g * inside z

/-- A share is not negative. -/
theorem share_nonneg (z : EReal) (g : ℝ) : 0 ≤ share z g := mul_nonneg (tent_nonneg _ _) (inside_nonneg _)

/-- The mean share of grid line `g` in the fourteen sample points of a box axis. -/
def axw (lo hi : EReal) (g : ℝ) : ℝ := (∑ s : Fin 14, share (samp lo hi s) g) * (1 / 14)

/-- A mean share is not negative. -/
theorem axw_nonneg (lo hi : EReal) (g : ℝ) : 0 ≤ axw lo hi g :=
  mul_nonneg (Finset.sum_nonneg fun _ _ => share_nonneg _ _) (by norm_num)

/-- The share of line `r` of an `n`-line map in grid line `i` of the 192-line map it is resized to. -/
def up (n : ℝ) (i r : ℝ) : ℝ := tent (min (n - 1) (max 0 ((i + 1 / 2) * (n / 192) - 1 / 2))) r

/-- A resize weight is not negative. -/
theorem up_nonneg (n i r : ℝ) : 0 ≤ up n i r := tent_nonneg _ _

/-- The weight of line `r` of an `n`-line map along a box axis. -/
def line (n : ℝ) (lo hi : EReal) (r : ℝ) : ℝ := ∑ g : Fin 192, up n g r * axw lo hi g

/-- A line's weight is not negative. -/
theorem line_nonneg (n : ℝ) (lo hi : EReal) (r : ℝ) : 0 ≤ line n lo hi r :=
  Finset.sum_nonneg fun _ _ => mul_nonneg (up_nonneg _ _ _) (axw_nonneg _ _ _)

/-- The weighted sum of a square map over one box: rows by the box's second and fourth numbers, columns
    by its first and third. -/
def pool (n : ℕ) (x : Fin n → Fin n → EReal) (b : Fin 4 → EReal) : EReal :=
  ∑ h : Fin n, ∑ w : Fin n, x h w * ((line n (b 1) (b 3) h * line n (b 0) (b 2) w : ℝ) : EReal)

/-- The number whose sines and cosines embed block `q` of a box: centre row, centre column, width, height. -/
def quan (b : Fin 4 → EReal) (q : ℕ) : EReal :=
  let d (k : Fin 4) : EReal := b k * ((1 / 768 : ℝ) : EReal)
  if q = 0 then d 1 + (d 3 - d 1) * ((1 / 2 : ℝ) : EReal)
  else if q = 1 then d 0 + (d 2 - d 0) * ((1 / 2 : ℝ) : EReal)
  else if q = 2 then d 2 - d 0 else d 3 - d 1

/-- The wave length factor of channel `j` of a block. -/
def wave (j : ℕ) : ℝ := Real.exp (-Real.log 10000 * (2 * ((j / 2 : ℕ) : ℝ) / 720))

/-- The sine embedding of a box at channel `c`. -/
def pos (b : Fin 4 → EReal) (c : ℕ) : EReal :=
  let a := quan b (c / 720) * turn * ((wave (c % 720) : ℝ) : EReal)
  if c % 720 % 2 = 0 then Ideal.sin a else Ideal.cos a

end Cert.Roi

end
-- ==== Proof.Scalars.lean ====
module

public import proofs.«01_k».proof.Proof.Spec

@[expose] public section

set_option maxRecDepth 16384

noncomputable section

/-! The programs' scalar expressions as the plain mathematics of `Spec`. -/

namespace Cert.Roi

open Idealize.ShloMosaic

/-- A small natural number's word, converted to a float. -/
theorem sitofp_nat (k : ℕ) (h : k < 2 ^ 31) : FloatOps.sitofp (F := Ideal) .f32 (BitVec.ofNat 32 k) = ((k : ℝ) : EReal) := by
  show (((BitVec.ofNat 32 k).toInt : ℝ) : EReal) = _
  have : (BitVec.ofNat 32 k).toInt = (k : ℤ) := by
    rw [BitVec.toInt_ofNat', Int.bmod_eq_of_le (by norm_num) (by norm_num; omega)]
  rw [this]; norm_cast

/-- The extended real of a maximum of reals. -/
theorem coe_max (a b : ℝ) : ((max a b : ℝ) : EReal) = max (a : EReal) (b : EReal) := EReal.coe_strictMono.monotone.map_max

/-- The extended real of a minimum of reals. -/
theorem coe_min (a b : ℝ) : ((min a b : ℝ) : EReal) = min (a : EReal) (b : EReal) := EReal.coe_strictMono.monotone.map_min

/-- A tent, computed by a maximum and an absolute value. -/
theorem tent_word (u r : ℝ) : max 0 (1 - FloatOps.absf (F := Ideal) (φ := .f32) ((u : EReal) - (r : EReal))) = ((tent u r : ℝ) : EReal) := by
  show max (0 : EReal) (1 - max ((u : EReal) - (r : EReal)) (-((u : EReal) - (r : EReal)))) = _
  rw [← EReal.coe_sub, ← EReal.coe_neg, ← coe_max, ← EReal.coe_one, ← EReal.coe_sub, ← EReal.coe_zero, ← coe_max]
  rfl

/-- A sample point's coordinate, computed with a division by fourteen. -/
theorem samp_word (lo hi : EReal) (s : ℕ) (hs : s < 14) :
    lo * Ideal.ofBits .f32 0x3E800000#32
      + Ideal.div (FloatOps.sitofp (F := Ideal) .f32 (BitVec.ofNat 32 s) + Ideal.ofBits .f32 0x3F000000#32) (Ideal.ofBits .f32 0x41600000#32)
        * max (hi * Ideal.ofBits .f32 0x3E800000#32 - lo * Ideal.ofBits .f32 0x3E800000#32) 1 = samp lo hi s := by
  rw [sitofp_nat s (by omega), c_quarter, c_half, c_14, Ideal.div_coe (by norm_num), ← EReal.coe_add, ← EReal.coe_mul, samp]
  congr 3
  push_cast
  norm_num [div_eq_mul_inv]

/-- The test that a sample point lies in the widened map, converted to a float. -/
theorem inside_word (z : EReal) :
    FloatOps.sitofp (F := Ideal) .f32 (BitVec.setWidth 32 (IntOp.andi (BitVec.ofBool (decide (Ideal.ofBits .f32 0xBF800000#32 < z)))
      (BitVec.ofBool (decide (z < Ideal.ofBits .f32 0x43400000#32))))) = ((inside z : ℝ) : EReal) := by
  rw [c_neg1, c_192]
  show (((BitVec.setWidth 32 (IntOp.andi _ _)).toInt : ℝ) : EReal) = _
  have e : ∀ p q : Bool, (BitVec.setWidth 32 (IntOp.andi (BitVec.ofBool p) (BitVec.ofBool q))).toInt = if p = true ∧ q = true then 1 else 0 := by decide
  rw [e, inside]
  simp only [decide_eq_true_eq]
  split_ifs <;> norm_num

/-- A clipped sample point's share, as computed. -/
theorem share_word (z : EReal) (g : ℕ) (hg : g < 2 ^ 31) :
    max 0 (1 - FloatOps.absf (F := Ideal) (φ := .f32) (min (Ideal.ofBits .f32 0x433F0000#32) (max 0 z) - FloatOps.sitofp (F := Ideal) .f32 (BitVec.ofNat 32 g)))
      * FloatOps.sitofp (F := Ideal) .f32 (BitVec.setWidth 32 (IntOp.andi (BitVec.ofBool (decide (Ideal.ofBits .f32 0xBF800000#32 < z)))
          (BitVec.ofBool (decide (z < Ideal.ofBits .f32 0x43400000#32))))) = ((share z g : ℝ) : EReal) := by
  rw [inside_word, sitofp_nat g hg, c_191, ← coe_clip (by norm_num), tent_word, ← EReal.coe_mul]
  rfl

/-- The resize weight of a map of fewer lines, as computed from the grid line's and the line's words. -/
theorem up_word {n : ℝ} (hn : 1 ≤ n) (i : ℕ) (hi : i < 2 ^ 31) (r : ℕ) {a q : EReal}
    (ha : a = ((n - 1 : ℝ) : EReal)) (hq : q = ((n / 192 : ℝ) : EReal)) {w : BitVec 32} (hw : w = BitVec.ofNat 32 r) (hr : r < 2 ^ 31) :
    max 0 (1 - FloatOps.absf (F := Ideal) (φ := .f32) (min a (max 0 ((FloatOps.sitofp (F := Ideal) .f32 (BitVec.ofNat 32 i) + Ideal.ofBits .f32 0x3F000000#32) * q
      - Ideal.ofBits .f32 0x3F000000#32)) - FloatOps.sitofp (F := Ideal) .f32 w)) = ((up n i r : ℝ) : EReal) := by
  rw [hw, ha, hq, sitofp_nat i hi, sitofp_nat r hr, c_half, ← EReal.coe_add, ← EReal.coe_mul, ← EReal.coe_sub, ← EReal.coe_zero, ← coe_max,
    ← coe_min, EReal.coe_zero, tent_word]
  rfl

end Cert.Roi

end
-- ==== Proof.KTab.lean ====
module

public import proofs.«01_k».proof.Proof.IdealStep
public import proofs.«01_k».proof.Proof.Scalars

@[expose] public section

set_option maxRecDepth 16384

noncomputable section

/-! The kernel's weight tables, read at an index. -/

namespace Cert.KernelIdeal.Roi

open Cert.KernelIdeal.Gen
open Idealize.ShloMosaic Idealize.ShloMosaic.TcCoe Idealize.SL.Sem
open Cert.Roi

/-- An axis table's entry, as the kernel computes it, is the mean share. -/
theorem axw_word (lo hi : EReal) (g : ℕ) (hg : g < 2 ^ 31) :
    (∑ x : Fin 14,
        max 0
            (1 -
              FloatOps.absf (F := Ideal) (φ := .f32)
                (min (Ideal.ofBits .f32 0x433F0000#32)
                    (max 0
                      (lo * Ideal.ofBits .f32 0x3E800000#32 +
                        Ideal.div (FloatOps.sitofp (F := Ideal) .f32 (BitVec.ofNat 32 x) + Ideal.ofBits .f32 0x3F000000#32) (Ideal.ofBits .f32 0x41600000#32) *
                          max (hi * Ideal.ofBits .f32 0x3E800000#32 - lo * Ideal.ofBits .f32 0x3E800000#32) 1)) -
                  FloatOps.sitofp (F := Ideal) .f32 (BitVec.ofNat 32 g))) *
          FloatOps.sitofp (F := Ideal) .f32
            (BitVec.setWidth 32
              (IntOp.andi
                (BitVec.ofBool
                  (decide
                    (Ideal.ofBits .f32 0xBF800000#32 <
                      lo * Ideal.ofBits .f32 0x3E800000#32 +
                        Ideal.div (FloatOps.sitofp (F := Ideal) .f32 (BitVec.ofNat 32 x) + Ideal.ofBits .f32 0x3F000000#32) (Ideal.ofBits .f32 0x41600000#32) *
                          max (hi * Ideal.ofBits .f32 0x3E800000#32 - lo * Ideal.ofBits .f32 0x3E800000#32) 1)))
                (BitVec.ofBool
                  (decide
                    (lo * Ideal.ofBits .f32 0x3E800000#32 +
                        Ideal.div (FloatOps.sitofp (F := Ideal) .f32 (BitVec.ofNat 32 x) + Ideal.ofBits .f32 0x3F000000#32) (Ideal.ofBits .f32 0x41600000#32) *
                          max (hi * Ideal.ofBits .f32 0x3E800000#32 - lo * Ideal.ofBits .f32 0x3E800000#32) 1 <
                      Ideal.ofBits .f32 0x43400000#32)))))) *
      Named.named (F := Ideal) (φ := .f32) κ "inv_samples" 0x3D924925#32 = ((axw lo hi g : ℝ) : EReal) := by
  rw [show Named.named (F := Ideal) (φ := .f32) κ "inv_samples" 0x3D924925#32 = ((1 / 14 : ℝ) : EReal) from
    IdealRules.named_const.ideal_named_scalar _ _ _ _ rfl, axw, EReal.coe_mul, coe_sum]
  refine congrArg (· * _) (Finset.sum_congr rfl fun x _ => ?_)
  rw [samp_word lo hi x (by omega), share_word _ g hg]

/-- The floor of the quotient of two signed words, as the kernel computes it. -/
def divW (a b : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt b 0#32)) (Scalar.extui (Scalar.cmpi .slt b 0#32))))
      (IntOp.cmpi .ne (IntOp.remsi .vector a b) 0#32))
    (IntOp.subi (IntOp.divsi .vector a b) 1#32)
    (IntOp.divsi .vector a b)

/-- The kernel's column axis table. -/
theorem axOf_at (bt : Vec Ideal S4x64 .f32) (g : Fin 192) (k : Fin 64) :
    axOf bt (ix2 g k) = ((axw (bt (ix2 0 k)) (bt (ix2 2 k)) g : ℝ) : EReal) := by
  pointwise [axOf, k0_pay2, k0_pay17, k0_pay12, k0_pay11]
  exact axw_word _ _ g (by omega)

/-- The kernel's row axis table. -/
theorem ayOf_at (bt : Vec Ideal S4x64 .f32) (g : Fin 192) (k : Fin 64) :
    ayOf bt (ix2 g k) = ((axw (bt (ix2 1 k)) (bt (ix2 3 k)) g : ℝ) : EReal) := by
  pointwise [ayOf, k0_pay16, k0_pay14, k0_pay15, k0_pay13, k0_pay11]
  exact axw_word _ _ g (by omega)

/-- An axis table carried to the lines of the first map. -/
theorem pay4_at (a : Vec Ideal S192x64 .f32) (f : ℕ → ℝ) (k : Fin 64) (ha : ∀ g : Fin 192, a (ix2 g k) = ((f g : ℝ) : EReal)) (r : Fin 192) :
    k0_pay4 a (ix2 r k) = ((∑ g : Fin 192, up 192 g r * f g : ℝ) : EReal) := by
  pointwise [k0_pay4, k0_pay3]
  rw [coe_sum]
  refine Finset.sum_congr rfl fun g _ => ?_
  rw [ha, EReal.coe_mul, ← up_word (n := 192) (by norm_num) g (by omega) r (a := Ideal.ofBits .f32 0x433F0000#32) (q := 1) (by rw [c_191]; norm_num) (by norm_num) rfl (by omega), mul_one]

/-- The column table of the first map, computed as the row table is. -/
theorem pay5_at (a : Vec Ideal S192x64 .f32) (f : ℕ → ℝ) (k : Fin 64) (ha : ∀ g : Fin 192, a (ix2 g k) = ((f g : ℝ) : EReal)) (r : Fin 192) :
    k0_pay5 a (ix2 r k) = ((∑ g : Fin 192, up 192 g r * f g : ℝ) : EReal) := pay4_at a f k ha r

/-- An axis table carried to the lines of the second map. -/
theorem pay42_at (a : Vec Ideal S192x64 .f32) (f : ℕ → ℝ) (k : Fin 64) (ha : ∀ g : Fin 192, a (ix2 g k) = ((f g : ℝ) : EReal)) (r : Fin 96) :
    k0_pay42 a (ix2 r k) = ((∑ g : Fin 192, up 96 g r * f g : ℝ) : EReal) := by
  pointwise [k0_pay42, k0_pay41]
  rw [coe_sum]
  refine Finset.sum_congr rfl fun g _ => ?_
  rw [ha, EReal.coe_mul, ← up_word (n := 96) (by norm_num) g (by omega) r (a := Ideal.ofBits .f32 0x42BE0000#32) (q := Ideal.ofBits .f32 0x3F000000#32)
    (by rw [c_95]; norm_num) (by rw [c_half]; norm_num) rfl (by omega)]

/-- The column table of the second map, computed as the row table is. -/
theorem pay43_at (a : Vec Ideal S192x64 .f32) (f : ℕ → ℝ) (k : Fin 64) (ha : ∀ g : Fin 192, a (ix2 g k) = ((f g : ℝ) : EReal)) (r : Fin 96) :
    k0_pay43 a (ix2 r k) = ((∑ g : Fin 192, up 96 g r * f g : ℝ) : EReal) := pay42_at a f k ha r

/-- The row and the column of a position of the third map, as the kernel computes them from the position's word. -/
theorem words48 : ∀ p : Fin 2304, divW (BitVec.ofNat 32 p) 48#32 = BitVec.ofNat 32 (p / 48)
    ∧ IntOp.subi (BitVec.ofNat 32 p) (IntOp.muli (divW (BitVec.ofNat 32 p) 48#32) 48#32) = BitVec.ofNat 32 (p % 48) := by decide +kernel

/-- The same of a position of the fourth map. -/
theorem words24 : ∀ p : Fin 576, divW (BitVec.ofNat 32 p) 24#32 = BitVec.ofNat 32 (p / 24)
    ∧ IntOp.subi (BitVec.ofNat 32 p) (IntOp.muli (divW (BitVec.ofNat 32 p) 24#32) 24#32) = BitVec.ofNat 32 (p % 24) := by decide +kernel

/-- The joint table of the third map. -/
theorem w2Of_at (ay ax : Vec Ideal S192x64 .f32) (f e : ℕ → ℝ) (k : Fin 64) (hy : ∀ g : Fin 192, ay (ix2 g k) = ((f g : ℝ) : EReal))
    (hx : ∀ g : Fin 192, ax (ix2 g k) = ((e g : ℝ) : EReal)) (p : Fin 2304) :
    w2Of ay ax (ix2 p k) = (((∑ g : Fin 192, up 48 g (p / 48 : ℕ) * f g) * (∑ g : Fin 192, up 48 g (p % 48 : ℕ) * e g) : ℝ) : EReal) := by
  pointwise [w2Of, k0_pay110, k0_pay107, k0_pay109, k0_pay108]
  rw [EReal.coe_mul, coe_sum, coe_sum]
  refine congrArg₂ (· * ·) (Finset.sum_congr rfl fun g _ => ?_) (Finset.sum_congr rfl fun g _ => ?_)
  · rw [hy, EReal.coe_mul, ← up_word (n := 48) (by norm_num) g (by omega) (p / 48) (a := Ideal.ofBits .f32 0x423C0000#32) (q := Ideal.ofBits .f32 0x3E800000#32)
      (by rw [c_47]; norm_num) (by rw [c_quarter]; norm_num) (words48 p).1 (by omega)]
    rfl
  · rw [hx, EReal.coe_mul, ← up_word (n := 48) (by norm_num) g (by omega) (p % 48) (a := Ideal.ofBits .f32 0x423C0000#32) (q := Ideal.ofBits .f32 0x3E800000#32)
      (by rw [c_47]; norm_num) (by rw [c_quarter]; norm_num) (words48 p).2 (by omega)]
    rfl

/-- The joint table of the fourth map. -/
theorem w3Of_at (ay ax : Vec Ideal S192x64 .f32) (f e : ℕ → ℝ) (k : Fin 64) (hy : ∀ g : Fin 192, ay (ix2 g k) = ((f g : ℝ) : EReal))
    (hx : ∀ g : Fin 192, ax (ix2 g k) = ((e g : ℝ) : EReal)) (p : Fin 576) :
    w3Of ay ax (ix2 p k) = (((∑ g : Fin 192, up 24 g (p / 24 : ℕ) * f g) * (∑ g : Fin 192, up 24 g (p % 24 : ℕ) * e g) : ℝ) : EReal) := by
  pointwise [w3Of, k0_pay128, k0_pay125, k0_pay127, k0_pay126]
  rw [EReal.coe_mul, coe_sum, coe_sum]
  refine congrArg₂ (· * ·) (Finset.sum_congr rfl fun g _ => ?_) (Finset.sum_congr rfl fun g _ => ?_)
  · rw [hy, EReal.coe_mul, ← up_word (n := 24) (by norm_num) g (by omega) (p / 24) (a := Ideal.ofBits .f32 0x41B80000#32) (q := Ideal.ofBits .f32 0x3E000000#32)
      (by rw [c_23]; norm_num) (by rw [c_eighth]; norm_num) (words24 p).1 (by omega)]
    rfl
  · rw [hx, EReal.coe_mul, ← up_word (n := 24) (by norm_num) g (by omega) (p % 24) (a := Ideal.ofBits .f32 0x41B80000#32) (q := Ideal.ofBits .f32 0x3E000000#32)
      (by rw [c_23]; norm_num) (by rw [c_eighth]; norm_num) (words24 p).2 (by omega)]
    rfl

end Cert.KernelIdeal.Roi

end
-- ==== Proof.KRows.lean ====
module

public import proofs.«01_k».proof.Proof.KTab

@[expose] public section

set_option maxRecDepth 16384

noncomputable section

/-! The rows a grid point writes, read at an index: a weighted sum of the map and the embedding. -/

namespace Cert.KernelIdeal.Roi

open Cert.KernelIdeal.Gen
open Idealize.ShloMosaic Idealize.ShloMosaic.TcCoe Idealize.SL.Sem
open Cert.Roi

/-- The parity of a word, as the kernel computes it. -/
def modW (a : BitVec 32) : BitVec 32 :=
  Scalar.select
    (IntOp.andi (IntOp.xori (IntOp.cmpi .slt (IntOp.remsi .vector a two) 0#32) (Scalar.cmpi .slt two 0#32))
      (IntOp.cmpi .ne (IntOp.remsi .vector a two) 0#32))
    (IntOp.addi (IntOp.remsi .vector a two) two) (IntOp.remsi .vector a two)

/-- The channel's place in its block, as the kernel computes it. -/
def remW (c : BitVec 32) : BitVec 32 := IntOp.subi c (IntOp.muli (divW c 720#32) 720#32)

/-- The embedding's angle at the channel of word `c`, as the kernel computes it. -/
def angW (b : Fin 4 → EReal) (c : BitVec 32) : EReal :=
  Scalar.select (IntOp.cmpi .eq (divW c 720#32) 0#32)
    (Ideal.div (b 1) (Ideal.ofBits .f32 0x44400000#32)
      + (Ideal.div (b 3) (Ideal.ofBits .f32 0x44400000#32) - Ideal.div (b 1) (Ideal.ofBits .f32 0x44400000#32)) * Ideal.ofBits .f32 0x3F000000#32)
    (Scalar.select (IntOp.cmpi .eq (divW c 720#32) 1#32)
      (Ideal.div (b 0) (Ideal.ofBits .f32 0x44400000#32)
        + (Ideal.div (b 2) (Ideal.ofBits .f32 0x44400000#32) - Ideal.div (b 0) (Ideal.ofBits .f32 0x44400000#32)) * Ideal.ofBits .f32 0x3F000000#32)
      (Scalar.select (IntOp.cmpi .eq (divW c 720#32) 2#32)
        (Ideal.div (b 2) (Ideal.ofBits .f32 0x44400000#32) - Ideal.div (b 0) (Ideal.ofBits .f32 0x44400000#32))
        (Ideal.div (b 3) (Ideal.ofBits .f32 0x44400000#32) - Ideal.div (b 1) (Ideal.ofBits .f32 0x44400000#32))))
    * Ideal.ofBits .f32 0x40C90FDB#32
    * Ideal.exp (Named.named (F := Ideal) (φ := .f32) κ "neg_log_base" 0xC1135D8E#32
        * Ideal.div (Ideal.ofBits .f32 0x40000000#32 * FloatOps.sitofp (F := Ideal) .f32 (divW (remW c) 2#32)) (Ideal.ofBits .f32 0x44340000#32))

/-- The embedding at the channel of word `c`, as the kernel computes it. -/
def posW (b : Fin 4 → EReal) (c : BitVec 32) : EReal :=
  Scalar.select (IntOp.cmpi .eq (modW (remW c)) 0#32) (Ideal.sin (angW b c)) (Ideal.cos (angW b c))

/-- A row a point of the third map puts: the flattened map's row summed with the joint table, plus the embedding at the row's channel. -/
theorem l2_at (z : BitVec 32) (bt : Vec Ideal S4x64 .f32) (x : Vec Ideal S1x256x2304 .f32) (w : Vec Ideal S2304x64 .f32) (g : Fin 256) (k : Fin 64) :
    l2 z bt x w (ix2 g k) = (∑ p : Fin 2304, (x (ix3 0 g p) : EReal) * (w (ix2 p k) : EReal))
      + posW (fun q => bt (ix2 q k)) (IntOp.addi (Scalar.addi 576#32 (Scalar.muli (Scalar.subi z 18#32) 256#32)) (BitVec.ofNat 32 g)) := by
  pointwise [l2, k0_pay8, k0_pay111, k0_pay112, k0_pay113, k0_pay114, k0_pay115, k0_pay116, k0_pay117, k0_pay118, k0_pay119, k0_pay120, k0_pay121, k0_pay122, k0_pay123, k0_pay124]
  rfl

/-- A row a point of the fourth map puts, likewise. -/
theorem l3_at (z : BitVec 32) (bt : Vec Ideal S4x64 .f32) (x : Vec Ideal S1x256x576 .f32) (w : Vec Ideal S576x64 .f32) (g : Fin 256) (k : Fin 64) :
    l3 z bt x w (ix2 g k) = (∑ p : Fin 576, (x (ix3 0 g p) : EReal) * (w (ix2 p k) : EReal))
      + posW (fun q => bt (ix2 q k)) (IntOp.addi (Scalar.addi 1344#32 (Scalar.muli (Scalar.subi z 21#32) 256#32)) (BitVec.ofNat 32 g)) := by
  pointwise [l3, k0_pay9, k0_pay129, k0_pay130, k0_pay131, k0_pay132, k0_pay133, k0_pay134, k0_pay135, k0_pay136, k0_pay137, k0_pay138, k0_pay139, k0_pay140, k0_pay141, k0_pay142]
  rfl

/-- A row of the first half a point of the first map puts: the map summed with the column and the row table, plus the embedding at the row's channel. -/
theorem l0a_at (z : BitVec 32) (bt : Vec Ideal S4x64 .f32) (x : Vec Ideal S1x16x192x192 .f32) (rw cw : Vec Ideal S192x64 .f32) (g : Fin 8) (k : Fin 64) :
    l0a z bt x rw cw (ix2 g k) = (∑ h : Fin 192, (∑ w : Fin 192, (x (ix4 0 ⟨g, by omega⟩ h w) : EReal) * (cw (ix2 w k) : EReal)) * (rw (ix2 h k) : EReal))
      + posW (fun q => bt (ix2 q k)) (IntOp.addi (Scalar.addi (Scalar.muli z 16#32) 0#32) (BitVec.ofNat 32 g)) := by
  pointwise [l0a, k0_pay18, k0_pay19, k0_pay20, k0_pay21, k0_pay22, k0_pay23, k0_pay24, k0_pay25, k0_pay26, k0_pay27, k0_pay28, k0_pay29, k0_pay30, k0_pay31]
  rfl

/-- A row of the second half. -/
theorem l0b_at (z : BitVec 32) (bt : Vec Ideal S4x64 .f32) (x : Vec Ideal S1x16x192x192 .f32) (rw cw : Vec Ideal S192x64 .f32) (g : Fin 8) (k : Fin 64) :
    l0b z bt x rw cw (ix2 g k) = (∑ h : Fin 192, (∑ w : Fin 192, (x (ix4 0 ⟨8 + g, by omega⟩ h w) : EReal) * (cw (ix2 w k) : EReal)) * (rw (ix2 h k) : EReal))
      + posW (fun q => bt (ix2 q k)) (IntOp.addi (Scalar.addi (Scalar.muli z 16#32) 8#32) (BitVec.ofNat 32 g)) := by
  pointwise [l0b, k0_pay6, k0_pay32, k0_pay33, k0_pay34, k0_pay35, k0_pay36, k0_pay37, k0_pay38, k0_pay39, k0_pay40]
  rfl

/-- A row of the first quarter a point of the second map puts, likewise. -/
theorem l1a_at (z : BitVec 32) (bt : Vec Ideal S4x64 .f32) (x : Vec Ideal S1x64x96x96 .f32) (rw cw : Vec Ideal S96x64 .f32) (g : Fin 16) (k : Fin 64) :
    l1a z bt x rw cw (ix2 g k) = (∑ h : Fin 96, (∑ w : Fin 96, (x (ix4 0 ⟨g, by omega⟩ h w) : EReal) * (cw (ix2 w k) : EReal)) * (rw (ix2 h k) : EReal))
      + posW (fun q => bt (ix2 q k)) (IntOp.addi (Scalar.addi (v31Of z) 0#32) (BitVec.ofNat 32 g)) := by
  pointwise [l1a, k0_pay44, k0_pay45, k0_pay46, k0_pay47, k0_pay48, k0_pay49, k0_pay50, k0_pay51, k0_pay52, k0_pay53, k0_pay54, k0_pay55, k0_pay56]
  rfl

/-- A row of the second quarter. -/
theorem l1b_at (z : BitVec 32) (bt : Vec Ideal S4x64 .f32) (x : Vec Ideal S1x64x96x96 .f32) (rw cw : Vec Ideal S96x64 .f32) (g : Fin 16) (k : Fin 64) :
    l1b z bt x rw cw (ix2 g k) = (∑ h : Fin 96, (∑ w : Fin 96, (x (ix4 0 ⟨16 + g, by omega⟩ h w) : EReal) * (cw (ix2 w k) : EReal)) * (rw (ix2 h k) : EReal))
      + posW (fun q => bt (ix2 q k)) (IntOp.addi (Scalar.addi (v31Of z) 16#32) (BitVec.ofNat 32 g)) := by
  pointwise [l1b, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  rfl

/-- A row of the third quarter. -/
theorem l1c_at (z : BitVec 32) (bt : Vec Ideal S4x64 .f32) (x : Vec Ideal S1x64x96x96 .f32) (rw cw : Vec Ideal S96x64 .f32) (g : Fin 16) (k : Fin 64) :
    l1c z bt x rw cw (ix2 g k) = (∑ h : Fin 96, (∑ w : Fin 96, (x (ix4 0 ⟨32 + g, by omega⟩ h w) : EReal) * (cw (ix2 w k) : EReal)) * (rw (ix2 h k) : EReal))
      + posW (fun q => bt (ix2 q k)) (IntOp.addi (Scalar.addi (v31Of z) 32#32) (BitVec.ofNat 32 g)) := by
  pointwise [l1c, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  rfl

/-- A row of the last quarter. -/
theorem l1d_at (z : BitVec 32) (bt : Vec Ideal S4x64 .f32) (x : Vec Ideal S1x64x96x96 .f32) (rw cw : Vec Ideal S96x64 .f32) (g : Fin 16) (k : Fin 64) :
    l1d z bt x rw cw (ix2 g k) = (∑ h : Fin 96, (∑ w : Fin 96, (x (ix4 0 ⟨48 + g, by omega⟩ h w) : EReal) * (cw (ix2 w k) : EReal)) * (rw (ix2 h k) : EReal))
      + posW (fun q => bt (ix2 q k)) (IntOp.addi (Scalar.addi (v31Of z) 48#32) (BitVec.ofNat 32 g)) := by
  pointwise [l1d, k0_pay7, k0_pay93, k0_pay94, k0_pay95, k0_pay96, k0_pay97, k0_pay98, k0_pay99, k0_pay100, k0_pay101, k0_pay102, k0_pay103, k0_pay104, k0_pay105, k0_pay106]
  rfl

end Cert.KernelIdeal.Roi

end
-- ==== Proof.KPos.lean ====
module

public import proofs.«01_k».proof.Proof.KRows

@[expose] public section

set_option maxRecDepth 16384

noncomputable section

/-! The kernel's embedding is the sine embedding of `Spec`, and the channel numbers its points compute. -/

namespace Cert.KernelIdeal.Roi

open Cert.KernelIdeal.Gen
open Idealize.ShloMosaic Idealize.ShloMosaic.TcCoe Idealize.SL.Sem
open Cert.Roi

/-- The words of a channel: its block, its place in the block, the half of the place, and the place's parity. -/
theorem chan_words : ∀ c : Fin 2880, divW (BitVec.ofNat 32 c) 720#32 = BitVec.ofNat 32 (c / 720)
    ∧ divW (remW (BitVec.ofNat 32 c)) 2#32 = BitVec.ofNat 32 (c % 720 / 2)
    ∧ modW (remW (BitVec.ofNat 32 c)) = BitVec.ofNat 32 (c % 720 % 2) := by decide +kernel

/-- A choice made on the block number's word. -/
theorem select_eq_word {α : Type} (n k : ℕ) (hn : n < 2 ^ 32) (hk : k < 2 ^ 32) (x y : α) :
    Scalar.select (IntOp.cmpi .eq (BitVec.ofNat 32 n) (BitVec.ofNat 32 k)) x y = if n = k then x else y := by
  have e : (BitVec.ofNat 32 n = BitVec.ofNat 32 k) ↔ n = k := by
    constructor
    · intro h
      have := congrArg BitVec.toNat h
      rwa [BitVec.toNat_ofNat, BitVec.toNat_ofNat, Nat.mod_eq_of_lt hn, Nat.mod_eq_of_lt hk] at this
    · rintro rfl; rfl
  unfold Scalar.select IntOp.cmpi
  by_cases h : n = k
  · subst h; simp
  · have h' : (BitVec.ofNat 32 n == BitVec.ofNat 32 k) = false := beq_eq_false_iff_ne.2 (mt e.1 h)
    simp [h, h']

/-- The kernel's embedding at the word of channel `c` is the sine embedding at `c`. -/
theorem posW_nat (b : Fin 4 → EReal) (c : ℕ) (hc : c < 2880) : posW b (BitVec.ofNat 32 c) = pos b c := by
  obtain ⟨h1, h2, h3⟩ := chan_words ⟨c, hc⟩
  dsimp only at h1 h2 h3
  have ha : angW b (BitVec.ofNat 32 c) = quan b (c / 720) * turn * ((wave (c % 720) : ℝ) : EReal) := by
    unfold angW
    rw [h1, h2, show (0#32 : BitVec 32) = BitVec.ofNat 32 0 from rfl, show (1#32 : BitVec 32) = BitVec.ofNat 32 1 from rfl,
      show (2#32 : BitVec 32) = BitVec.ofNat 32 2 from rfl, select_eq_word _ _ (by omega) (by omega), select_eq_word _ _ (by omega) (by omega),
      select_eq_word _ _ (by omega) (by omega), sitofp_nat _ (by omega),
      show Named.named (F := Ideal) (φ := .f32) κ "neg_log_base" 0xC1135D8E#32 = ((-Real.log 10000 : ℝ) : EReal) from
        IdealRules.named_const.ideal_named_scalar _ _ _ _ rfl,
      c_768, c_half, c_2, c_720]
    simp only [Ideal.div_coe (show (768 : ℝ) ≠ 0 by norm_num), Ideal.div_coe (show (720 : ℝ) ≠ 0 by norm_num)]
    rw [← EReal.coe_mul, ← EReal.coe_mul, ← EReal.coe_mul]
    refine congrArg₂ (· * ·) rfl ?_
    show ((Real.exp _ : ℝ) : EReal) = _
    unfold wave
    rw [mul_one_div]
  unfold posW
  rw [h3, ha, show (0#32 : BitVec 32) = BitVec.ofNat 32 0 from rfl, select_eq_word _ _ (by omega) (by omega)]
  rfl

/-- The channel a row of the first map's points has. -/
theorem base0 : ∀ n : Fin 12, (∀ g : Fin 8, IntOp.addi (Scalar.addi (Scalar.muli (BitVec.ofNat 32 n) 16#32) 0#32) (BitVec.ofNat 32 g) = BitVec.ofNat 32 (16 * n + 0 + g))
    ∧ (∀ g : Fin 8, IntOp.addi (Scalar.addi (Scalar.muli (BitVec.ofNat 32 n) 16#32) 8#32) (BitVec.ofNat 32 g) = BitVec.ofNat 32 (16 * n + 8 + g)) := by
  decide +kernel

/-- The channel a row of the second map's points has. -/
theorem base1 : ∀ n : Fin 6, ∀ q : Fin 4, ∀ g : Fin 16, IntOp.addi (Scalar.addi (v31Of (BitVec.ofNat 32 (12 + n))) (BitVec.ofNat 32 (16 * q))) (BitVec.ofNat 32 g)
    = BitVec.ofNat 32 (192 + 64 * n + 16 * q + g) := by decide +kernel

/-- The channel a row of the third map's points has. -/
theorem base2 : ∀ n : Fin 3, ∀ g : Fin 256, IntOp.addi (Scalar.addi 576#32 (Scalar.muli (Scalar.subi (BitVec.ofNat 32 (18 + n)) 18#32) 256#32)) (BitVec.ofNat 32 g)
    = BitVec.ofNat 32 (576 + 256 * n + g) := by decide +kernel

/-- The channel a row of the fourth map's points has. -/
theorem base3 : ∀ n : Fin 6, ∀ g : Fin 256, IntOp.addi (Scalar.addi 1344#32 (Scalar.muli (Scalar.subi (BitVec.ofNat 32 (21 + n)) 21#32) 256#32)) (BitVec.ofNat 32 g)
    = BitVec.ofNat 32 (1344 + 256 * n + g) := by decide +kernel

end Cert.KernelIdeal.Roi

end
-- ==== Proof.Tents.lean ====
module

public import proofs.«01_k».proof.Proof.Spec

@[expose] public section

set_option maxRecDepth 16384

noncomputable section

/-! Tents as bilinear weights, and the weights of the resize. -/

namespace Cert.Roi

open Idealize.ShloMosaic
open scoped BigOperators

/-- A tent is supported on the line below its centre and the next one, with weights adding up to one. -/
theorem tent_split {n : ℕ} {u : ℝ} (h0 : 0 ≤ u) (h1 : u ≤ (n : ℝ) - 1) (a b r : Fin n) (ha : (a : ℕ) = ⌊u⌋₊) (hb : (b : ℕ) = min (⌊u⌋₊ + 1) (n - 1)) :
    tent u r = (if r = a then 1 - (u - (a : ℕ)) else 0) + (if r = b then u - (a : ℕ) else 0) := by
  have l := Nat.floor_le h0
  have g := Nat.lt_floor_add_one u
  rw [← ha] at l g hb
  have hr : (r : ℕ) < n := r.isLt
  have han : (a : ℕ) < n := a.isLt
  unfold tent
  by_cases e1 : r = a
  · subst e1
    rw [if_pos rfl, abs_of_nonneg (by linarith), max_eq_right (by linarith)]
    by_cases e2 : r = b
    · have hn : (r : ℕ) + 1 = n := by rw [← e2] at hb; omega
      have : ((r : ℕ) : ℝ) + 1 = n := by exact_mod_cast hn
      rw [if_pos e2]; linarith
    · rw [if_neg e2]; ring
  · rw [if_neg e1, zero_add]
    have e1' : (r : ℕ) ≠ a := fun h => e1 (Fin.ext h)
    by_cases e2 : r = b
    · rw [if_pos e2]
      have hs : (r : ℕ) = a + 1 := by rw [← e2] at hb; omega
      have hs' : ((r : ℕ) : ℝ) = a + 1 := by exact_mod_cast hs
      rw [hs', abs_of_nonpos (by linarith), max_eq_right (by linarith)]; ring
    · rw [if_neg e2]
      have e2' : (r : ℕ) ≠ b := fun h => e2 (Fin.ext h)
      refine max_eq_left ?_
      rcases lt_or_gt_of_ne e1' with h | h
      · have : ((r : ℕ) : ℝ) + 1 ≤ a := by exact_mod_cast h
        rw [abs_of_nonneg (by linarith)]; linarith
      · have h3 : (a : ℕ) + 2 ≤ r := by omega
        have : ((a : ℕ) : ℝ) + 2 ≤ r := by exact_mod_cast h3
        rw [abs_of_nonpos (by linarith)]; linarith

/-- A tent-weighted sum over the lines is the interpolation between two neighbours. -/
theorem sum_tent {n : ℕ} {u : ℝ} (h0 : 0 ≤ u) (h1 : u ≤ (n : ℝ) - 1) (a b : Fin n) (ha : (a : ℕ) = ⌊u⌋₊) (hb : (b : ℕ) = min (⌊u⌋₊ + 1) (n - 1))
    (f : Fin n → EReal) :
    ∑ r : Fin n, f r * ((tent u r : ℝ) : EReal) = f a * ((1 - (u - (a : ℕ)) : ℝ) : EReal) + f b * ((u - (a : ℕ) : ℝ) : EReal) := by
  have l := Nat.floor_le h0
  have g := Nat.lt_floor_add_one u
  rw [← ha] at l g
  have e : ∀ r : Fin n, f r * ((tent u r : ℝ) : EReal) = (if r = a then f r * ((1 - (u - (a : ℕ)) : ℝ) : EReal) else 0) + (if r = b then f r * ((u - (a : ℕ) : ℝ) : EReal) else 0) := by
    intro r
    have p1 : 0 ≤ (if r = a then 1 - (u - (a : ℕ)) else 0) := by split_ifs <;> linarith
    have p2 : 0 ≤ (if r = b then u - (a : ℕ) else 0) := by split_ifs <;> linarith
    rw [tent_split h0 h1 a b r ha hb, EReal.coe_add, EReal.left_distrib_of_nonneg (by exact_mod_cast p1) (by exact_mod_cast p2)]
    split_ifs <;> simp
  rw [Finset.sum_congr rfl fun r _ => e r, Finset.sum_add_distrib]
  simp

/-- Interpolating a map between four neighbours is summing it with the product of two tents. -/
theorem bilinear {n : ℕ} {u v : ℝ} (hu : 0 ≤ u) (hu' : u ≤ (n : ℝ) - 1) (hv : 0 ≤ v) (hv' : v ≤ (n : ℝ) - 1) (a b c d : Fin n)
    (ha : (a : ℕ) = ⌊u⌋₊) (hb : (b : ℕ) = min (⌊u⌋₊ + 1) (n - 1)) (hc : (c : ℕ) = ⌊v⌋₊) (hd : (d : ℕ) = min (⌊v⌋₊ + 1) (n - 1))
    (f : Fin n → Fin n → EReal) :
    f a c * (((1 - (u - (a : ℕ)) : ℝ) : EReal) * ((1 - (v - (c : ℕ)) : ℝ) : EReal)) + f a d * (((1 - (u - (a : ℕ)) : ℝ) : EReal) * ((v - (c : ℕ) : ℝ) : EReal))
      + f b c * (((u - (a : ℕ) : ℝ) : EReal) * ((1 - (v - (c : ℕ)) : ℝ) : EReal)) + f b d * (((u - (a : ℕ) : ℝ) : EReal) * ((v - (c : ℕ) : ℝ) : EReal))
      = ∑ h : Fin n, ∑ w : Fin n, f h w * ((tent u h * tent v w : ℝ) : EReal) := by
  have l := Nat.floor_le hu
  have g := Nat.lt_floor_add_one u
  rw [← ha] at l g
  have e : ∀ h : Fin n, ∑ w : Fin n, f h w * ((tent u h * tent v w : ℝ) : EReal)
      = (f h c * ((1 - (v - (c : ℕ)) : ℝ) : EReal) + f h d * ((v - (c : ℕ) : ℝ) : EReal)) * ((tent u h : ℝ) : EReal) := by
    intro h
    rw [← sum_tent hv hv' c d hc hd, sum_mul_coe _ _ (tent_nonneg _ _)]
    refine Finset.sum_congr rfl fun w _ => ?_
    rw [mul_comm (tent u h), EReal.coe_mul, mul_assoc]
  have di : ∀ (x y : EReal) {t : ℝ}, 0 ≤ t → (x + y) * (t : EReal) = x * t + y * t := by
    intro x y t ht
    have := sum_mul_coe (Finset.univ : Finset (Fin 2)) ![x, y] ht
    simpa [Fin.sum_univ_two] using this
  rw [Finset.sum_congr rfl fun h _ => e h, sum_tent hu hu' a b ha hb, di _ _ (by linarith), di _ _ (by linarith)]
  simp only [mul_assoc]
  rw [mul_comm ((1 - (v - (c : ℕ)) : ℝ) : EReal) ((1 - (u - (a : ℕ)) : ℝ) : EReal), mul_comm ((v - (c : ℕ) : ℝ) : EReal) ((1 - (u - (a : ℕ)) : ℝ) : EReal),
    mul_comm ((1 - (v - (c : ℕ)) : ℝ) : EReal) ((u - (a : ℕ) : ℝ) : EReal), mul_comm ((v - (c : ℕ) : ℝ) : EReal) ((u - (a : ℕ) : ℝ) : EReal)]
  simp only [add_assoc]

/-- The tents at a point of the map add up to one. -/
theorem tents_one {n : ℕ} {u : ℝ} (h0 : 0 ≤ u) (h1 : u ≤ (n : ℝ) - 1) : ∑ r : Fin n, tent u r = 1 := by
  have hl := Nat.floor_le h0
  have hf : ⌊u⌋₊ < n := by
    have : ((⌊u⌋₊ : ℕ) : ℝ) < n := by linarith
    exact_mod_cast this
  have := sum_tent h0 h1 ⟨⌊u⌋₊, hf⟩ ⟨min (⌊u⌋₊ + 1) (n - 1), by omega⟩ rfl rfl fun _ => 1
  simp only [one_mul] at this
  rw [← coe_sum, ← EReal.coe_add] at this
  rw [EReal.coe_injective this]; ring

/-- A tent centred before the first line: its weights, and that they are the first line's alone. -/
theorem tent_before {n : ℕ} (hn : 0 < n) {u : ℝ} (h : -(1 / 2) < u) (h0 : u < 0) (r : Fin n) : tent u r = (1 + u) * tent 0 r := by
  unfold tent
  rcases Nat.eq_zero_or_pos (r : ℕ) with e | e
  · rw [e, abs_of_nonpos (by push_cast; linarith), max_eq_right (by push_cast; linarith)]; norm_num
  · have : (1 : ℝ) ≤ (r : ℕ) := by exact_mod_cast e
    rw [abs_of_nonpos (by linarith), abs_of_nonpos (by linarith), max_eq_left (by linarith), max_eq_left (by linarith), mul_zero]

/-- A tent centred after the last line likewise. -/
theorem tent_after {n : ℕ} {u : ℝ} (h : u < (n : ℝ) - 1 / 2) (h0 : (n : ℝ) - 1 < u) (r : Fin n) : tent u r = ((n : ℝ) - u) * tent ((n : ℝ) - 1) r := by
  unfold tent
  have hr : (r : ℕ) + 1 ≤ n := r.isLt
  rcases Nat.eq_or_lt_of_le hr with e | e
  · have e' : ((r : ℕ) : ℝ) = n - 1 := by
      have : ((r : ℕ) : ℝ) + 1 = n := by exact_mod_cast e
      linarith
    rw [e', abs_of_nonneg (by linarith), max_eq_right (by linarith)]; norm_num; ring
  · have e' : ((r : ℕ) : ℝ) + 2 ≤ n := by exact_mod_cast e
    rw [abs_of_nonneg (by linarith), abs_of_nonneg (by linarith), max_eq_left (by linarith), max_eq_left (by linarith), mul_zero]

/-- Where a grid line lies on the smaller map. -/
def centre (n : ℝ) (i : ℕ) : ℝ := ((i : ℝ) + 1 / 2) * (n / 192) - 1 / 2

/-- A grid line lies inside the smaller map, up to half a line. -/
theorem centre_mem {n : ℕ} (hn : 0 < n) {i : ℕ} (hi : i < 192) : -(1 / 2) < centre n i ∧ centre n i < (n : ℝ) - 1 / 2 := by
  have h1 : (0 : ℝ) < n := by exact_mod_cast hn
  have h2 : (i : ℝ) + 1 ≤ 192 := by exact_mod_cast hi
  have h3 : (0 : ℝ) ≤ i := Nat.cast_nonneg _
  unfold centre
  constructor
  · have : 0 < ((i : ℝ) + 1 / 2) * (n / 192) := by positivity
    linarith
  · have : ((i : ℝ) + 1 / 2) * (n / 192) < n := by
      rw [mul_div_assoc', div_lt_iff₀ (by norm_num)]
      nlinarith
    linarith

/-- The tents of a grid line are at least a half in all, and divided by their sum are the resize's weights. -/
theorem tents_up {n : ℕ} (hn : 2 ≤ n) {i : ℕ} (hi : i < 192) :
    1 / 2 < ∑ r : Fin n, tent (centre n i) r ∧ ∀ r : Fin n, tent (centre n i) r * (1 / ∑ r : Fin n, tent (centre n i) r) = up n i r := by
  obtain ⟨h1, h2⟩ := centre_mem (by omega : 0 < n) hi
  have hn' : (2 : ℝ) ≤ n := by exact_mod_cast hn
  have hu : ∀ r : Fin n, up n i r = tent (min ((n : ℝ) - 1) (max 0 (centre n i))) r := fun r => rfl
  simp only [hu]
  rcases lt_or_ge (centre n i) 0 with h | h
  · have e : min ((n : ℝ) - 1) (max 0 (centre n i)) = 0 := by rw [max_eq_left h.le, min_eq_right (by linarith)]
    have s : ∑ r : Fin n, tent (centre n i) r = 1 + centre n i := by
      rw [Finset.sum_congr rfl fun r _ => tent_before (by omega) h1 h r, ← Finset.mul_sum, tents_one le_rfl (by linarith), mul_one]
    rw [s, e]
    refine ⟨by linarith, fun r => ?_⟩
    rw [tent_before (by omega) h1 h r]
    have : (1 + centre n i) ≠ 0 := by linarith
    field_simp
  · rcases lt_or_ge ((n : ℝ) - 1) (centre n i) with g | g
    · have e : min ((n : ℝ) - 1) (max 0 (centre n i)) = (n : ℝ) - 1 := by rw [max_eq_right h, min_eq_left g.le]
      have s : ∑ r : Fin n, tent (centre n i) r = (n : ℝ) - centre n i := by
        rw [Finset.sum_congr rfl fun r _ => tent_after h2 g r, ← Finset.mul_sum, tents_one (by linarith) le_rfl, mul_one]
      rw [s, e]
      refine ⟨by linarith, fun r => ?_⟩
      rw [tent_after h2 g r]
      have : (n : ℝ) - centre n i ≠ 0 := by linarith
      field_simp
    · have e : min ((n : ℝ) - 1) (max 0 (centre n i)) = centre n i := by rw [max_eq_right h, min_eq_right g]
      rw [e, tents_one h g]
      exact ⟨by norm_num, fun r => by ring⟩

/-- A 192-line map is resized to itself. -/
theorem up_self (i r : Fin 192) : up 192 (i : ℕ) (r : ℕ) = if r = i then 1 else 0 := by
  have h2 : ((i : ℕ) : ℝ) + 1 ≤ 192 := by exact_mod_cast i.isLt
  have h3 : (0 : ℝ) ≤ (i : ℕ) := Nat.cast_nonneg _
  have e : min ((192 : ℝ) - 1) (max 0 ((((i : ℕ) : ℝ) + 1 / 2) * (192 / 192) - 1 / 2)) = (i : ℕ) := by
    rw [max_eq_right (by linarith), min_eq_right (by linarith)]; ring
  unfold up
  rw [e, tent_split (n := 192) h3 (by push_cast; linarith) i ⟨min ((i : ℕ) + 1) (192 - 1), by omega⟩ r (by simp) (by simp)]
  simp

/-- Summing a resized map with axis weights is the weighted sum of the map itself. -/
theorem pool_resized (n : ℕ) (x : Fin n → Fin n → EReal) (b : Fin 4 → EReal) (F : Fin 192 → Fin 192 → EReal)
    (hF : ∀ g k : Fin 192, F g k = ∑ h : Fin n, ∑ w : Fin n, x h w * ((up n (g : ℕ) (h : ℕ) * up n (k : ℕ) (w : ℕ) : ℝ) : EReal)) :
    ∑ g : Fin 192, ∑ k : Fin 192, F g k * ((axw (b 1) (b 3) (g : ℕ) * axw (b 0) (b 2) (k : ℕ) : ℝ) : EReal) = pool n x b := by
  unfold pool line
  rw [← Fintype.sum_prod_type' (f := fun (g k : Fin 192) => F g k * ((axw (b 1) (b 3) (g : ℕ) * axw (b 0) (b 2) (k : ℕ) : ℝ) : EReal)),
    ← Fintype.sum_prod_type' (f := fun (h w : Fin n) => x h w * (((∑ g : Fin 192, up n (g : ℕ) (h : ℕ) * axw (b 1) (b 3) (g : ℕ)) * ∑ g : Fin 192, up n (g : ℕ) (w : ℕ) * axw (b 0) (b 2) (g : ℕ) : ℝ) : EReal))]
  have := comb (Finset.univ : Finset (Fin 192 × Fin 192)) (Finset.univ : Finset (Fin n × Fin n)) (fun q => x q.1 q.2)
    (fun i q => up n (i.1 : ℕ) (q.1 : ℕ) * up n (i.2 : ℕ) (q.2 : ℕ)) (fun i => axw (b 1) (b 3) (i.1 : ℕ) * axw (b 0) (b 2) (i.2 : ℕ))
    (fun _ _ => mul_nonneg (up_nonneg _ _ _) (up_nonneg _ _ _)) (fun _ => mul_nonneg (axw_nonneg _ _ _) (axw_nonneg _ _ _))
  refine Eq.trans (Finset.sum_congr rfl fun i _ => ?_) (this.trans (Finset.sum_congr rfl fun q _ => ?_))
  · rw [hF, ← Fintype.sum_prod_type' (f := fun (h w : Fin n) => x h w * ((up n (i.1 : ℕ) (h : ℕ) * up n (i.2 : ℕ) (w : ℕ) : ℝ) : EReal))]
  · rw [Finset.sum_mul_sum, Fintype.sum_prod_type]
    refine congrArg (fun z : ℝ => x q.1 q.2 * (z : EReal)) (Finset.sum_congr rfl fun g _ => Finset.sum_congr rfl fun k _ => ?_)
    ring

/-- The mean over the two by two samples of a bin and then over the seven by seven bins is the sum with the axis weights. -/
theorem mean_shares (F : Fin 192 → Fin 192 → EReal) (b : Fin 4 → EReal) :
    (∑ p : Fin 7, ∑ q : Fin 7, (∑ s : Fin 2, ∑ t : Fin 2,
        ∑ g : Fin 192, ∑ k : Fin 192, F g k * ((share (samp (b 1) (b 3) (2 * p + s)) (g : ℕ) * share (samp (b 0) (b 2) (2 * q + t)) (k : ℕ) : ℝ) : EReal))
          * ((1 / 4 : ℝ) : EReal)) * ((1 / 49 : ℝ) : EReal)
      = ∑ g : Fin 192, ∑ k : Fin 192, F g k * ((axw (b 1) (b 3) (g : ℕ) * axw (b 0) (b 2) (k : ℕ) : ℝ) : EReal) := by
  have tile : ∀ f : ℕ → ℝ, ∑ p : Fin 7, ∑ s : Fin 2, f (2 * p + s) = ∑ s : Fin 14, f s := by
    intro f; simp [Fin.sum_univ_succ]; ring
  have h := comb (Finset.univ : Finset ((Fin 7 × Fin 7) × (Fin 2 × Fin 2))) (Finset.univ : Finset (Fin 192 × Fin 192)) (fun q => F q.1 q.2)
    (fun i q => share (samp (b 1) (b 3) (2 * i.1.1 + i.2.1)) (q.1 : ℕ) * share (samp (b 0) (b 2) (2 * i.1.2 + i.2.2)) (q.2 : ℕ)) (fun _ => 1 / 4 * (1 / 49))
    (fun _ _ => mul_nonneg (share_nonneg _ _) (share_nonneg _ _)) (fun _ => by norm_num)
  refine Eq.trans ?_ (h.trans ?_)
  · rw [Fintype.sum_prod_type]
    rw [Fintype.sum_prod_type]
    rw [sum_mul_coe _ _ (by norm_num)]
    refine Finset.sum_congr rfl fun p _ => ?_
    rw [sum_mul_coe _ _ (by norm_num)]
    refine Finset.sum_congr rfl fun q _ => ?_
    rw [mul_assoc, ← EReal.coe_mul, sum_mul_coe _ _ (by norm_num), Fintype.sum_prod_type]
    refine Finset.sum_congr rfl fun s _ => ?_
    rw [sum_mul_coe _ _ (by norm_num)]
    refine Finset.sum_congr rfl fun t _ => ?_
    rw [Fintype.sum_prod_type]
  · rw [Fintype.sum_prod_type]
    refine Finset.sum_congr rfl fun g _ => Finset.sum_congr rfl fun k _ => congrArg (fun z : ℝ => F g k * (z : EReal)) ?_
    dsimp only
    unfold axw
    rw [← tile fun s => share (samp (b 1) (b 3) s) (g : ℕ), ← tile fun s => share (samp (b 0) (b 2) s) (k : ℕ)]
    simp only [Fintype.sum_prod_type]
    rw [mul_mul_mul_comm, Finset.sum_mul_sum]
    rw [Finset.sum_mul]
    refine Finset.sum_congr rfl fun p _ => ?_
    rw [Finset.sum_mul]
    refine Finset.sum_congr rfl fun q _ => ?_
    rw [Finset.sum_mul_sum, Finset.sum_mul]
    refine Finset.sum_congr rfl fun s _ => ?_
    rw [Finset.sum_mul]
    refine Finset.sum_congr rfl fun t _ => ?_
    ring

end Cert.Roi

end
-- ==== Proof.Samples.lean ====
module

public import proofs.«01_k».proof.Proof.Scalars
public import proofs.«01_k».proof.Proof.Tents

@[expose] public section

set_option maxRecDepth 16384

noncomputable section

/-! The reference's scalar expressions at a sample point: its neighbours, its fractions, its place in the map. -/

namespace Cert.Roi

open Idealize.ShloMosaic
open scoped BigOperators

/-- The signed value of a small natural number's word. -/
theorem toInt_nat (k : ℕ) (h : k < 2 ^ 31) : (BitVec.ofNat 32 k).toInt = (k : ℤ) := by
  rw [BitVec.toInt_ofNat', Int.bmod_eq_of_le (by norm_num) (by norm_num; omega)]

/-- A coordinate clipped into the map, as the reference computes it. -/
theorem clip_word (z : EReal) : min (FloatOps.sitofp (F := Ideal) .f32 191#32) (max 0 z) = ((clip 191 z : ℝ) : EReal) := by
  rw [show (191#32 : BitVec 32) = BitVec.ofNat 32 191 from rfl, sitofp_nat 191 (by norm_num), coe_clip (by norm_num)]
  norm_num

/-- The line below a coordinate, as the reference computes it. -/
theorem floor_word {u : ℝ} (h0 : 0 ≤ u) (h1 : u ≤ 191) :
    FloatOps.fptosi (F := Ideal) (φ := .f32) 32 (Ideal.liftRound Int.floor (u : EReal)) = BitVec.ofNat 32 ⌊u⌋₊ := by
  show BitVec.ofInt 32 (Ideal.toIntClamped _ _ (((⌊u⌋ : ℤ) : ℝ) : EReal)) = _
  have e : (⌊u⌋ : ℤ) = ((⌊u⌋₊ : ℕ) : ℤ) := (Int.natCast_floor_eq_floor h0).symm
  have hl : ⌊u⌋₊ ≤ 191 := by
    have := Nat.floor_le_floor h1
    simpa using this
  rw [e, Ideal.toIntClamped_coe, Int.cast_natCast, if_pos (Nat.cast_nonneg _), Int.floor_natCast, min_eq_right (by norm_num; omega), max_eq_right (by norm_num)]
  rfl

/-- The next line, as the reference computes it. -/
theorem next_word : ∀ n : Fin 192, IntOp.minsi (IntOp.addi (BitVec.ofNat 32 n) 1#32) 191#32 = BitVec.ofNat 32 (min (n + 1) (192 - 1)) := by decide +kernel

/-- The fraction of a coordinate above the line below it. -/
theorem frac_word {u : ℝ} (n : ℕ) (hn : n < 2 ^ 31) : (u : EReal) - FloatOps.sitofp (F := Ideal) .f32 (BitVec.ofNat 32 n) = ((u - (n : ℕ) : ℝ) : EReal) := by
  rw [sitofp_nat n hn, EReal.coe_sub]

/-- What is left of one. -/
theorem rest_word (t : ℝ) : (1 : EReal) - (t : EReal) = ((1 - t : ℝ) : EReal) := by
  rw [EReal.coe_sub, EReal.coe_one]

/-- A position in the flattened map, as the reference computes it from the two lines. -/
theorem place_word (a b : ℕ) (ha : a < 192) (hb : b < 192) :
    Scalar.select (IntOp.cmpi .slt (IntOp.addi (IntOp.muli (BitVec.ofNat 32 a) 192#32) (BitVec.ofNat 32 b)) 0#32)
      (IntOp.addi (IntOp.addi (IntOp.muli (BitVec.ofNat 32 a) 192#32) (BitVec.ofNat 32 b)) 36864#32)
      (IntOp.addi (IntOp.muli (BitVec.ofNat 32 a) 192#32) (BitVec.ofNat 32 b)) = BitVec.ofNat 32 (a * 192 + b) := by
  have e : IntOp.addi (IntOp.muli (BitVec.ofNat 32 a) 192#32) (BitVec.ofNat 32 b) = BitVec.ofNat 32 (a * 192 + b) := by
    show BitVec.ofNat 32 a * BitVec.ofNat 32 192 + BitVec.ofNat 32 b = _
    rw [← BitVec.ofNat_mul, ← BitVec.ofNat_add]
  rw [e]
  have l : IntOp.cmpi .slt (BitVec.ofNat 32 (a * 192 + b)) 0#32 = 0#1 := by
    show BitVec.ofBool (BitVec.slt _ _) = _
    have : BitVec.slt (BitVec.ofNat 32 (a * 192 + b)) 0#32 = false := by
      rw [BitVec.slt, toInt_nat _ (by omega)]
      simp
      positivity
    rw [this]; rfl
  rw [l]; rfl

/-- The test that a sample point lies in the widened map, as the reference computes it. -/
def validW (y x : EReal) : BitVec 1 :=
  IntOp.andi (IntOp.andi (IntOp.andi (BitVec.ofBool (decide (Ideal.ofBits .f32 0xBF800000#32 < y))) (BitVec.ofBool (decide (y < Ideal.ofBits .f32 0x43400000#32))))
    (BitVec.ofBool (decide (Ideal.ofBits .f32 0xBF800000#32 < x)))) (BitVec.ofBool (decide (x < Ideal.ofBits .f32 0x43400000#32)))

/-- Keeping a value where the sample point lies in the map is multiplying it with the two tests. -/
theorem select_valid (y x v : EReal) : Scalar.select (validW y x) v 0 = v * ((inside y * inside x : ℝ) : EReal) := by
  have e : ∀ p q r s : Bool, IntOp.andi (IntOp.andi (IntOp.andi (BitVec.ofBool p) (BitVec.ofBool q)) (BitVec.ofBool r)) (BitVec.ofBool s)
      = if (p = true ∧ q = true) ∧ (r = true ∧ s = true) then 1#1 else 0#1 := by decide
  unfold validW inside
  rw [e, c_neg1, c_192]
  simp only [decide_eq_true_eq]
  by_cases h1 : ((-1 : ℝ) : EReal) < y ∧ y < ((192 : ℝ) : EReal)
  · by_cases h2 : ((-1 : ℝ) : EReal) < x ∧ x < ((192 : ℝ) : EReal)
    · rw [if_pos ⟨h1, h2⟩, if_pos h1, if_pos h2]; simp [Scalar.select]
    · rw [if_neg (fun h => h2 h.2), if_neg h2]; simp [Scalar.select]
  · rw [if_neg (fun h => h1 h.1), if_neg h1]; simp [Scalar.select]

/-- A sample point's value: the map summed with the shares of its lines. -/
theorem sample (y x : EReal) (f : Fin 192 → Fin 192 → EReal) (a b c d : Fin 192)
    (ha : (a : ℕ) = ⌊clip 191 y⌋₊) (hb : (b : ℕ) = min (⌊clip 191 y⌋₊ + 1) (192 - 1)) (hc : (c : ℕ) = ⌊clip 191 x⌋₊) (hd : (d : ℕ) = min (⌊clip 191 x⌋₊ + 1) (192 - 1)) :
    Scalar.select (validW y x)
      (f a c * (((1 - (clip 191 y - (a : ℕ)) : ℝ) : EReal) * ((1 - (clip 191 x - (c : ℕ)) : ℝ) : EReal)) + f a d * (((1 - (clip 191 y - (a : ℕ)) : ℝ) : EReal) * ((clip 191 x - (c : ℕ) : ℝ) : EReal))
        + f b c * (((clip 191 y - (a : ℕ) : ℝ) : EReal) * ((1 - (clip 191 x - (c : ℕ)) : ℝ) : EReal)) + f b d * (((clip 191 y - (a : ℕ) : ℝ) : EReal) * ((clip 191 x - (c : ℕ) : ℝ) : EReal))) 0
      = ∑ h : Fin 192, ∑ w : Fin 192, f h w * ((share y (h : ℕ) * share x (w : ℕ) : ℝ) : EReal) := by
  rw [bilinear (n := 192) (clip_nonneg (by norm_num) y) ((clip_le (by norm_num) y).trans (by norm_num)) (clip_nonneg (by norm_num) x)
    ((clip_le (by norm_num) x).trans (by norm_num)) a b c d ha hb hc hd f, select_valid,
    sum_mul_coe _ _ (mul_nonneg (inside_nonneg _) (inside_nonneg _))]
  refine Finset.sum_congr rfl fun h _ => ?_
  rw [sum_mul_coe _ _ (mul_nonneg (inside_nonneg _) (inside_nonneg _))]
  refine Finset.sum_congr rfl fun w _ => ?_
  rw [mul_assoc, ← EReal.coe_mul]
  refine congrArg (fun z : ℝ => f h w * (z : EReal)) ?_
  unfold share
  ring

/-- The line below a clipped coordinate is a line of the map. -/
theorem floor_lt (z : EReal) : ⌊clip 191 z⌋₊ < 192 := by
  have := Nat.floor_le_floor (clip_le (a := 191) (by norm_num) z)
  have h : ⌊(191 : ℝ)⌋₊ = 191 := by simp
  omega

end Cert.Roi

end
-- ==== Proof.Resize.lean ====
module

public import proofs.«01_k».proof.Proof.Tents
public import proofs.«01_k».proof.Proof.Samples

@[expose] public section

set_option maxRecDepth 16384

noncomputable section

/-! The weights of the reference's resize, and the resized map. -/

namespace Cert.Roi

open Idealize.ShloMosaic
open scoped BigOperators

/-- The centre of a grid line in the smaller map, as the resize computes it. -/
theorem centre_word {n : ℕ} (i : Fin 192) {q : EReal} (hq : q = ((n / 192 : ℝ) : EReal)) :
    (FloatOps.sitofp (F := Ideal) .f32 (BitVec.ofNat 32 (i : ℕ)) + Ideal.ofBits .f32 0x3F000000#32) * q - Ideal.ofBits .f32 0x3F000000#32
      = ((centre n i : ℝ) : EReal) := by
  rw [sitofp_nat _ (by omega), c_half, hq, ← EReal.coe_add, ← EReal.coe_mul, ← EReal.coe_sub]
  rfl

/-- The resize's tent, whose distance is divided by one. -/
theorem tent_word' (u : ℝ) (r : ℕ) (hr : r < 2 ^ 31) {d : EReal} (hd : d = ((1 : ℝ) : EReal)) :
    max 0 (1 - FloatOps.absf (F := Ideal) (φ := .f32) (Ideal.div (FloatOps.absf (F := Ideal) (φ := .f32) ((u : EReal) - FloatOps.sitofp (F := Ideal) .f32 (BitVec.ofNat 32 r))) d))
      = ((tent u r : ℝ) : EReal) := by
  rw [sitofp_nat _ hr, hd, Ideal.div_coe one_ne_zero, ← EReal.coe_sub]
  show max (0 : EReal) (1 - max (max ((u - r : ℝ) : EReal) (-((u - r : ℝ) : EReal)) * ((1 / 1 : ℝ) : EReal)) (-(max ((u - r : ℝ) : EReal) (-((u - r : ℝ) : EReal)) * ((1 / 1 : ℝ) : EReal)))) = _
  rw [← EReal.coe_neg, ← coe_max, ← EReal.coe_mul, ← EReal.coe_neg, ← coe_max, ← EReal.coe_one, ← EReal.coe_sub, ← EReal.coe_zero, ← coe_max]
  refine congrArg _ ?_
  unfold tent
  rw [show max (u - r) (-(u - r)) = |u - r| from rfl, show (1 : ℝ) / 1 = 1 by norm_num, mul_one,
    show max (|u - r|) (-|u - r|) = |u - r| from max_eq_left (by linarith [abs_nonneg (u - r)])]

/-- The whole of a resize weight: a tent over the sum of the tents, kept where the centre lies in the map, is the weight `up`. -/
theorem weight_word {n : ℕ} (hn : 2 ≤ n) (hN : n < 2 ^ 31) (i : Fin 192) (r : Fin n) (u l t s : EReal)
    (hu : u = ((centre n i : ℝ) : EReal)) (hl : l = (((n : ℝ) - 1 / 2 : ℝ) : EReal)) (ht : t = ((tent (centre n i) r : ℝ) : EReal))
    (hs : s = ((∑ r : Fin n, tent (centre n i) r : ℝ) : EReal))
    [d1 : Decidable (Ideal.ofBits .f32 0x38FA0000#32 < FloatOps.absf (F := Ideal) (φ := .f32) s)] [d2 : Decidable (s ≠ 0)]
    [d3 : Decidable (Ideal.ofBits .f32 0xBF000000#32 ≤ u)] [d4 : Decidable (u ≤ l)] :
    (Scalar.select (IntOp.andi (BitVec.ofBool (decide (Ideal.ofBits .f32 0xBF000000#32 ≤ u))) (BitVec.ofBool (decide (u ≤ l))))
      (if Ideal.ofBits .f32 0x38FA0000#32 < FloatOps.absf (F := Ideal) (φ := .f32) s then
        Ideal.div t (if s ≠ 0 then s else FloatOps.sitofp (F := Ideal) .f32 1#32) else FloatOps.sitofp (F := Ideal) .f32 0#32)
      (FloatOps.sitofp (F := Ideal) .f32 0#32) : EReal) = ((up n (i : ℕ) (r : ℕ) : ℝ) : EReal) := by
  obtain ⟨h1, h2⟩ := centre_mem (n := n) (by omega) i.isLt
  obtain ⟨h3, h4⟩ := tents_up hn i.isLt
  have a1 : Ideal.ofBits .f32 0xBF000000#32 ≤ u := by rw [hu, c_neghalf]; exact_mod_cast h1.le
  have a2 : u ≤ l := by rw [hu, hl]; exact_mod_cast h2.le
  have a3 : s ≠ 0 := by rw [hs]; exact_mod_cast ne_of_gt (show (0 : ℝ) < _ by linarith)
  have a4 : Ideal.ofBits .f32 0x38FA0000#32 < FloatOps.absf (F := Ideal) (φ := .f32) s := by
    show _ < max s (-s)
    refine lt_of_lt_of_le ?_ (le_max_left _ _)
    rw [hs, c_small]
    exact_mod_cast (by linarith : (125 / 1048576 : ℝ) < _)
  rw [decide_eq_true a1, decide_eq_true a2, if_pos a4, if_pos a3]
  show Ideal.div t s = _
  rw [hs, ht, Ideal.div_coe (ne_of_gt (by linarith)), ← EReal.coe_mul, h4]

/-- Resizing lines and then columns is one sum over the smaller map. -/
theorem resized {n : ℕ} (X : Fin n → Fin n → EReal) (a b : Fin n → ℝ) (ha : ∀ r, 0 ≤ a r) (hb : ∀ r, 0 ≤ b r) :
    ∑ w, (∑ h, ((a h : ℝ) : EReal) * X h w) * ((b w : ℝ) : EReal) = ∑ h, ∑ w, X h w * ((a h * b w : ℝ) : EReal) := by
  rw [Finset.sum_comm]
  refine Finset.sum_congr rfl fun w _ => ?_
  rw [sum_mul_coe _ _ (hb w)]
  refine Finset.sum_congr rfl fun h _ => ?_
  rw [EReal.coe_mul, mul_comm ((a h : ℝ) : EReal), mul_assoc]

end Cert.Roi

end
-- ==== Proof.Chan.lean ====
module

public import proofs.«01_k».proof.Proof.Resize

@[expose] public section

set_option maxRecDepth 16384

noncomputable section

/-! The four maps' channels one after another, and what the whole computation gives for a box and a channel. -/

namespace Cert.Roi

open Idealize.ShloMosaic
open scoped BigOperators

/-- Four families of values, of 192, 384, 768 and 1536 members, one after another. -/
def join (f0 : Fin 192 → EReal) (f1 : Fin 384 → EReal) (f2 : Fin 768 → EReal) (f3 : Fin 1536 → EReal) (c : ℕ) : EReal :=
  if h : c < 192 then f0 ⟨c, h⟩ else if h : c - 192 < 384 then f1 ⟨c - 192, h⟩
  else if h : c - 576 < 768 then f2 ⟨c - 576, h⟩ else if h : c - 1344 < 1536 then f3 ⟨c - 1344, h⟩ else 0

section
variable (f0 : Fin 192 → EReal) (f1 : Fin 384 → EReal) (f2 : Fin 768 → EReal) (f3 : Fin 1536 → EReal)

/-- A member of the first family. -/
theorem join0 (j : Fin 192) : join f0 f1 f2 f3 j = f0 j := by
  unfold join; rw [dif_pos j.isLt]

/-- A member of the second family. -/
theorem join1 (j : Fin 384) : join f0 f1 f2 f3 (192 + j) = f1 j := by
  have := j.isLt
  unfold join; rw [dif_neg (by omega), dif_pos (by omega)]
  exact congrArg f1 (Fin.ext (by simp))

/-- A member of the third family. -/
theorem join2 (j : Fin 768) : join f0 f1 f2 f3 (576 + j) = f2 j := by
  have := j.isLt
  unfold join; rw [dif_neg (by omega), dif_neg (by omega), dif_pos (by omega)]
  exact congrArg f2 (Fin.ext (by simp))

/-- A member of the fourth family. -/
theorem join3 (j : Fin 1536) : join f0 f1 f2 f3 (1344 + j) = f3 j := by
  have := j.isLt
  unfold join; rw [dif_neg (by omega), dif_neg (by omega), dif_neg (by omega), dif_pos (by omega)]
  exact congrArg f3 (Fin.ext (by simp))

end

section
variable (a0 : Fin 192 → Fin 192 → Fin 192 → EReal) (a1 : Fin 384 → Fin 96 → Fin 96 → EReal) (a2 : Fin 768 → Fin 48 → Fin 48 → EReal)
  (a3 : Fin 1536 → Fin 24 → Fin 24 → EReal) (b : Fin 4 → EReal)

/-- What the computation gives for box `b` at channel `c`: the pooled map plus the embedding. -/
def value (c : ℕ) : EReal :=
  join (fun j => pool 192 (a0 j) b) (fun j => pool 96 (a1 j) b) (fun j => pool 48 (a2 j) b) (fun j => pool 24 (a3 j) b) c + pos b c

/-- A map of `n` lines resized, at a grid point. -/
def resize (n : ℕ) (x : Fin n → Fin n → EReal) (g k : Fin 192) : EReal :=
  ∑ h : Fin n, ∑ w : Fin n, x h w * ((up n (g : ℕ) (h : ℕ) * up n (k : ℕ) (w : ℕ) : ℝ) : EReal)

/-- Resizing a map to its own size changes nothing. -/
theorem resize_self (x : Fin 192 → Fin 192 → EReal) (g k : Fin 192) : x g k = resize 192 x g k := by
  unfold resize
  rw [Finset.sum_eq_single g, Finset.sum_eq_single k]
  · rw [show (((192 : ℕ) : ℝ)) = 192 by norm_num, up_self, up_self, if_pos rfl, if_pos rfl, one_mul, EReal.coe_one, mul_one]
  · intro w _ hw
    rw [show (((192 : ℕ) : ℝ)) = 192 by norm_num, up_self k w, if_neg hw, mul_zero, EReal.coe_zero, mul_zero]
  · intro h; exact absurd (Finset.mem_univ _) h
  · intro h _ hh
    refine Finset.sum_eq_zero fun w _ => ?_
    rw [show (((192 : ℕ) : ℝ)) = 192 by norm_num, up_self g h, if_neg hh, zero_mul, EReal.coe_zero, mul_zero]
  · intro h; exact absurd (Finset.mem_univ _) h

/-- Pooling the joined resized maps is joining the pooled maps. -/
theorem pool_join (c : Fin 2880) :
    ∑ g : Fin 192, ∑ k : Fin 192, join (fun j => a0 j g k) (fun j => resize 96 (a1 j) g k) (fun j => resize 48 (a2 j) g k) (fun j => resize 24 (a3 j) g k) c
        * ((axw (b 1) (b 3) (g : ℕ) * axw (b 0) (b 2) (k : ℕ) : ℝ) : EReal)
      = join (fun j => pool 192 (a0 j) b) (fun j => pool 96 (a1 j) b) (fun j => pool 48 (a2 j) b) (fun j => pool 24 (a3 j) b) c := by
  have hc := c.isLt
  unfold join
  by_cases h0 : (c : ℕ) < 192
  · simp only [dif_pos h0]
    exact pool_resized 192 _ b _ fun g k => resize_self _ g k
  by_cases h1 : (c : ℕ) - 192 < 384
  · simp only [dif_neg h0, dif_pos h1]
    exact pool_resized 96 _ b _ fun g k => rfl
  by_cases h2 : (c : ℕ) - 576 < 768
  · simp only [dif_neg h0, dif_neg h1, dif_pos h2]
    exact pool_resized 48 _ b _ fun g k => rfl
  · simp only [dif_neg h0, dif_neg h1, dif_neg h2, dif_pos (show (c : ℕ) - 1344 < 1536 by omega)]
    exact pool_resized 24 _ b _ fun g k => rfl

end

end Cert.Roi

end
-- ==== Proof.KLevels.lean ====
module

public import proofs.«01_k».proof.Proof.KBlocks
public import proofs.«01_k».proof.Proof.KChain
public import proofs.«01_k».proof.Proof.KPos
public import proofs.«01_k».proof.Proof.Chan

@[expose] public section

set_option maxRecDepth 16384

noncomputable section

/-! The kernel's rows: every row of the accumulator holds, box by box, the value of its channel. -/

namespace Cert.KernelIdeal.Roi

open Cert.KernelIdeal.Gen
open Idealize.ShloMosaic Idealize.ShloMosaic.TcCoe Idealize.SL.Sem
open Cert.Roi
open scoped BigOperators

/-- A map summed with a column table and then a row table is the pooled map. -/
theorem pool_sum (n : ℕ) (x : Fin n → Fin n → EReal) (b : Fin 4 → EReal) (X : Fin n → Fin n → EReal) (rw cw : Fin n → EReal) (hX : ∀ h w : Fin n, X h w = x h w)
    (hr : ∀ h : Fin n, rw h = ((line n (b 1) (b 3) (h : ℕ) : ℝ) : EReal)) (hc : ∀ w : Fin n, cw w = ((line n (b 0) (b 2) (w : ℕ) : ℝ) : EReal)) :
    ∑ h, (∑ w, X h w * cw w) * rw h = pool n x b := by
  unfold Cert.Roi.pool
  refine Finset.sum_congr rfl fun h _ => ?_
  rw [hr h, sum_mul_coe _ _ (line_nonneg _ _ _ _)]
  refine Finset.sum_congr rfl fun w _ => ?_
  rw [hX h w, hc w, mul_assoc, ← EReal.coe_mul, mul_comm (line _ _ _ _)]

/-- A flattened map summed with a joint table is the pooled map. -/
theorem pool_flat (n N : ℕ) (hN : n * n = N) (x : Fin n → Fin n → EReal) (b : Fin 4 → EReal) (X w : Fin N → EReal)
    (hX : ∀ (i j : Fin n) (p : Fin N), p.val = i.val * n + j.val → X p = x i j)
    (hw : ∀ (i j : Fin n) (p : Fin N), p.val = i.val * n + j.val → w p = ((line n (b 1) (b 3) (i : ℕ) * line n (b 0) (b 2) (j : ℕ) : ℝ) : EReal)) :
    ∑ p, X p * w p = pool n x b := by
  unfold Cert.Roi.pool
  rw [Fin.sum_univ_tiles n n hN]
  refine Finset.sum_congr rfl fun i _ => Finset.sum_congr rfl fun j _ => ?_
  rw [hX i j _ rfl, hw i j _ rfl]

variable (m : (ℓ : Loc nD τ sig) → Buf (Elt Ideal) ℓ)

/-- The numbers of box `k`. -/
abbrev box (c : Dev nD) (k : Fin 64) (q : Fin 4) : EReal := m ((c : Thread nD τ).loc main_arg4) (ix2 k q)
/-- The first map. -/
abbrev map0 (c : Dev nD) (j : Fin 192) (h w : Fin 192) : EReal := m ((c : Thread nD τ).loc main_arg0) (ix4 0 j h w)
/-- The second map. -/
abbrev map1 (c : Dev nD) (j : Fin 384) (h w : Fin 96) : EReal := m ((c : Thread nD τ).loc main_arg1) (ix4 0 j h w)
/-- The third map. -/
abbrev map2 (c : Dev nD) (j : Fin 768) (h w : Fin 48) : EReal := m ((c : Thread nD τ).loc main_arg2) (ix4 0 j h w)
/-- The fourth map. -/
abbrev map3 (c : Dev nD) (j : Fin 1536) (h w : Fin 24) : EReal := m ((c : Thread nD τ).loc main_arg3) (ix4 0 j h w)

/-- What the kernel's result holds at channel `r` of box `k`. -/
def goal (c : Dev nD) (r : ℕ) (k : Fin 64) : EReal := value (map0 m c) (map1 m c) (map2 m c) (map3 m c) (box m c k) r

/-- The column of the transposed boxes is the box. -/
theorem bt_box (c : Dev nD) (k : Fin 64) : (fun q => (inp m c).bt (ix2 q k)) = box m c k := funext fun q => bt_at m c q k

/-- The row axis table. -/
theorem ay_at (c : Dev nD) (k : Fin 64) (g : Fin 192) : @Eq EReal ((inp m c).ay (ix2 g k)) ((axw (box m c k 1) (box m c k 3) (g : ℕ) : ℝ) : EReal) := by
  refine (ayOf_at (inp m c).bt g k).trans ?_
  rw [bt_at, bt_at]
/-- The column axis table. -/
theorem ax_at (c : Dev nD) (k : Fin 64) (g : Fin 192) : @Eq EReal ((inp m c).ax (ix2 g k)) ((axw (box m c k 0) (box m c k 2) (g : ℕ) : ℝ) : EReal) := by
  refine (axOf_at (inp m c).bt g k).trans ?_
  rw [bt_at, bt_at]
/-- The row table of the first map. -/
theorem rw0_at (c : Dev nD) (k : Fin 64) (h : Fin 192) : @Eq EReal ((inp m c).rw0 (ix2 h k)) ((line (192 : ℕ) (box m c k 1) (box m c k 3) (h : ℕ) : ℝ) : EReal) :=
  pay4_at _ (fun g => axw (box m c k 1) (box m c k 3) g) k (ay_at m c k) h
/-- The column table of the first map. -/
theorem cw0_at (c : Dev nD) (k : Fin 64) (h : Fin 192) : @Eq EReal ((inp m c).cw0 (ix2 h k)) ((line (192 : ℕ) (box m c k 0) (box m c k 2) (h : ℕ) : ℝ) : EReal) :=
  pay5_at _ (fun g => axw (box m c k 0) (box m c k 2) g) k (ax_at m c k) h
/-- The row table of the second map. -/
theorem rw1_at (c : Dev nD) (k : Fin 64) (h : Fin 96) : @Eq EReal ((inp m c).rw1 (ix2 h k)) ((line (96 : ℕ) (box m c k 1) (box m c k 3) (h : ℕ) : ℝ) : EReal) :=
  pay42_at _ (fun g => axw (box m c k 1) (box m c k 3) g) k (ay_at m c k) h
/-- The column table of the second map. -/
theorem cw1_at (c : Dev nD) (k : Fin 64) (h : Fin 96) : @Eq EReal ((inp m c).cw1 (ix2 h k)) ((line (96 : ℕ) (box m c k 0) (box m c k 2) (h : ℕ) : ℝ) : EReal) :=
  pay43_at _ (fun g => axw (box m c k 0) (box m c k 2) g) k (ax_at m c k) h
/-- The joint table of the third map. -/
theorem w2_at (c : Dev nD) (k : Fin 64) (i j : Fin 48) (p : Fin 2304) (hp : p.val = i.val * 48 + j.val) :
    @Eq EReal ((inp m c).w2 (ix2 p k)) ((line (48 : ℕ) (box m c k 1) (box m c k 3) (i : ℕ) * line (48 : ℕ) (box m c k 0) (box m c k 2) (j : ℕ) : ℝ) : EReal) := by
  refine (w2Of_at _ _ (fun g => axw (box m c k 1) (box m c k 3) g) (fun g => axw (box m c k 0) (box m c k 2) g) k (ay_at m c k) (ax_at m c k) p).trans ?_
  rw [show (p : ℕ) / 48 = i by omega, show (p : ℕ) % 48 = j by omega]
  rfl
/-- The joint table of the fourth map. -/
theorem w3_at (c : Dev nD) (k : Fin 64) (i j : Fin 24) (p : Fin 576) (hp : p.val = i.val * 24 + j.val) :
    @Eq EReal ((inp m c).w3 (ix2 p k)) ((line (24 : ℕ) (box m c k 1) (box m c k 3) (i : ℕ) * line (24 : ℕ) (box m c k 0) (box m c k 2) (j : ℕ) : ℝ) : EReal) := by
  refine (w3Of_at _ _ (fun g => axw (box m c k 1) (box m c k 3) g) (fun g => axw (box m c k 0) (box m c k 2) g) k (ay_at m c k) (ax_at m c k) p).trans ?_
  rw [show (p : ℕ) / 24 = i by omega, show (p : ℕ) % 24 = j by omega]
  rfl

/-- A row of the first map: the pooled sum and the embedding are the value at its channel. -/
theorem row0 (c : Dev nD) (n : Fin 27) (hn : n.val < 12) (g : Fin 16) (k : Fin 64) (r : BitVec 32) (d : ℕ) (hd : d = 16 * n.val + g) (hr : r = BitVec.ofNat 32 d) :
    (∑ h : Fin 192, (∑ w : Fin 192, ((inp m c).x2 n (ix4 0 g h w) : EReal) * ((inp m c).cw0 (ix2 w k) : EReal)) * ((inp m c).rw0 (ix2 h k) : EReal))
      + posW (fun q => (inp m c).bt (ix2 q k)) r = goal m c d k := by
  have hg := g.isLt
  rw [hr, posW_nat _ d (by omega), bt_box]
  unfold goal value
  refine congrArg (· + _) ?_
  have e : d = ((⟨16 * n + g, by omega⟩ : Fin 192) : ℕ) := hd
  rw [e, join0]
  exact pool_sum 192 _ (box m c k) _ _ _ (x2_at m c n hn g) (rw0_at m c k) (cw0_at m c k)

/-- A row of the second map. -/
theorem row1 (c : Dev nD) (n : Fin 27) (hn : 12 ≤ n.val) (hn' : n.val < 18) (g : Fin 64) (k : Fin 64) (r : BitVec 32) (d : ℕ) (hd : d = 192 + (64 * (n.val - 12) + g))
    (hr : r = BitVec.ofNat 32 d) :
    (∑ h : Fin 96, (∑ w : Fin 96, ((inp m c).x3 n (ix4 0 g h w) : EReal) * ((inp m c).cw1 (ix2 w k) : EReal)) * ((inp m c).rw1 (ix2 h k) : EReal))
      + posW (fun q => (inp m c).bt (ix2 q k)) r = goal m c d k := by
  have hg := g.isLt
  rw [hr, posW_nat _ d (by omega), bt_box]
  unfold goal value
  refine congrArg (· + _) ?_
  have e : d = 192 + ((⟨64 * (n.val - 12) + g, by omega⟩ : Fin 384) : ℕ) := hd
  rw [e, join1]
  exact pool_sum 96 _ (box m c k) _ _ _ (x3_at m c n hn hn' g) (rw1_at m c k) (cw1_at m c k)

/-- A row of the third map. -/
theorem row2 (c : Dev nD) (n : Fin 27) (hn : 18 ≤ n.val) (hn' : n.val < 21) (g : Fin 256) (k : Fin 64) (r : BitVec 32) (d : ℕ) (hd : d = 576 + (256 * (n.val - 18) + g))
    (hr : r = BitVec.ofNat 32 d) :
    (∑ p : Fin 2304, ((inp m c).x4 n (ix3 0 g p) : EReal) * ((inp m c).w2 (ix2 p k) : EReal)) + posW (fun q => (inp m c).bt (ix2 q k)) r = goal m c d k := by
  have hg := g.isLt
  rw [hr, posW_nat _ d (by omega), bt_box]
  unfold goal value
  refine congrArg (· + _) ?_
  have e : d = 576 + ((⟨256 * (n.val - 18) + g, by omega⟩ : Fin 768) : ℕ) := hd
  rw [e, join2]
  refine pool_flat 48 2304 rfl _ (box m c k) _ _ (fun i j p hp => ?_) (w2_at m c k)
  have hj := j.isLt
  refine ((x4_at m c n hn hn' g p).trans (flat2 m c _ p)).trans ?_
  exact congrArg (m ((c : Thread nD τ).loc main_arg2)) (congr (congrArg (ix4 0 _) (Fin.ext (by dsimp only; omega))) (Fin.ext (by dsimp only; omega)))

/-- A row of the fourth map. -/
theorem row3 (c : Dev nD) (n : Fin 27) (hn : 21 ≤ n.val) (g : Fin 256) (k : Fin 64) (r : BitVec 32) (d : ℕ) (hd : d = 1344 + (256 * (n.val - 21) + g))
    (hr : r = BitVec.ofNat 32 d) :
    (∑ p : Fin 576, ((inp m c).x5 n (ix3 0 g p) : EReal) * ((inp m c).w3 (ix2 p k) : EReal)) + posW (fun q => (inp m c).bt (ix2 q k)) r = goal m c d k := by
  have hg := g.isLt
  have hn' := n.isLt
  rw [hr, posW_nat _ d (by omega), bt_box]
  unfold goal value
  refine congrArg (· + _) ?_
  have e : d = 1344 + ((⟨256 * (n.val - 21) + g, by omega⟩ : Fin 1536) : ℕ) := hd
  rw [e, join3]
  refine pool_flat 24 576 rfl _ (box m c k) _ _ (fun i j p hp => ?_) (w3_at m c k)
  have hj := j.isLt
  refine ((x5_at m c n hn g p).trans (flat3 m c _ p)).trans ?_
  exact congrArg (m ((c : Thread nD τ).loc main_arg3)) (congr (congrArg (ix4 0 _) (Fin.ext (by dsimp only; omega))) (Fin.ext (by dsimp only; omega)))

/-- A point's number, counted from a phase's first point. -/
theorem off_word (n : Fin 27) (a : ℕ) (h : a ≤ n.val) : BitVec.ofNat 32 n.val = BitVec.ofNat 32 (a + (n.val - a)) :=
  congrArg _ (Nat.add_sub_cancel' h).symm

/-- Every row the kernel puts holds the value of its channel. -/
theorem rows_are (c : Dev nD) : RowsAre (inp m c) (goal m c) where
  r0a n hn g k := (l0a_at _ _ _ _ _ g k).trans (row0 m c n hn ⟨g, by omega⟩ k _ _ (by dsimp only; omega) ((base0 ⟨n, hn⟩).1 g))
  r0b n hn g k := (l0b_at _ _ _ _ _ g k).trans (row0 m c n hn ⟨8 + g, by omega⟩ k _ _ (by dsimp only; omega) ((base0 ⟨n, hn⟩).2 g))
  r1a n hn hn' g k := (l1a_at _ _ _ _ _ g k).trans (row1 m c n hn hn' ⟨g, by omega⟩ k _ _ (by dsimp only; omega)
    ((congrArg (fun z => IntOp.addi (Scalar.addi (v31Of z) 0#32) (BitVec.ofNat 32 g)) (off_word n 12 hn)).trans (base1 ⟨n - 12, by omega⟩ 0 g)))
  r1b n hn hn' g k := (l1b_at _ _ _ _ _ g k).trans (row1 m c n hn hn' ⟨16 + g, by omega⟩ k _ _ (by dsimp only; omega)
    ((congrArg (fun z => IntOp.addi (Scalar.addi (v31Of z) 16#32) (BitVec.ofNat 32 g)) (off_word n 12 hn)).trans (base1 ⟨n - 12, by omega⟩ 1 g)))
  r1c n hn hn' g k := (l1c_at _ _ _ _ _ g k).trans (row1 m c n hn hn' ⟨32 + g, by omega⟩ k _ _ (by dsimp only; omega)
    ((congrArg (fun z => IntOp.addi (Scalar.addi (v31Of z) 32#32) (BitVec.ofNat 32 g)) (off_word n 12 hn)).trans (base1 ⟨n - 12, by omega⟩ 2 g)))
  r1d n hn hn' g k := (l1d_at _ _ _ _ _ g k).trans (row1 m c n hn hn' ⟨48 + g, by omega⟩ k _ _ (by dsimp only; omega)
    ((congrArg (fun z => IntOp.addi (Scalar.addi (v31Of z) 48#32) (BitVec.ofNat 32 g)) (off_word n 12 hn)).trans (base1 ⟨n - 12, by omega⟩ 3 g)))
  r2 n hn hn' g k := (l2_at _ _ _ _ g k).trans (row2 m c n hn hn' g k _ _ (by omega)
    ((congrArg (fun z => IntOp.addi (Scalar.addi 576#32 (Scalar.muli (Scalar.subi z 18#32) 256#32)) (BitVec.ofNat 32 g)) (off_word n 18 hn)).trans (base2 ⟨n - 18, by omega⟩ g)))
  r3 n hn g k := (l3_at _ _ _ _ g k).trans (row3 m c n hn g k _ _ (by omega)
    ((congrArg (fun z => IntOp.addi (Scalar.addi 1344#32 (Scalar.muli (Scalar.subi z 21#32) 256#32)) (BitVec.ofNat 32 g)) (off_word n 21 hn)).trans (base3 ⟨n - 21, by omega⟩ g)))

/-- What the last point hands over, at a box and a channel. -/
theorem outv_at (c : Dev nD) (k : Fin 64) (r : Fin 2880) : @Eq EReal (outv m c (ix2 k r)) (goal m c r k) := by
  unfold outv
  pointwise [k0_pay10]
  exact chain_all (inp m c) (goal m c) (rows_are m c) r k

end Cert.KernelIdeal.Roi

end
-- ==== Proof.KRun.lean ====
module

public import proofs.«01_k».proof.Proof.KLevels
public import Idealize.ShloMosaic.Lib.Claim

@[expose] public section

set_option maxRecDepth 16384

noncomputable section

/-! The kernel's run: what its result holds at the end. -/

namespace Cert.KernelIdeal.Roi

open Cert.KernelIdeal.Gen
open Idealize.ShloMosaic Idealize.ShloMosaic.TcCoe Idealize.SL.Sem
open Cert.Roi

variable (m : (ℓ : Loc nD τ sig) → Buf (Elt Ideal) ℓ)

/-- The kernel's result: at box `j 1` and channel `j 2` the value of the computation. -/
def result (c : Dev nD) : Vec Ideal S1x64x2880 .f32 := fun j => goal m c (j 2).val (j 1)

/-- What the region leaves: the values, box by box. -/
theorem arr_eq (c : Dev nD) : (dats m 0 c).arrAt 5 (cfgs 0).N = (fun j => goal m c (j 1).val (j 0) : Vec Ideal S64x2880 .f32) := by
  refine (dats m 0 c).arrAt_eq_of_covers 5 _ (by decide +kernel) fun t hf j => ?_
  blk_simp
  rw [after_5]
  have hi : win0_5.index t 1 = 0 ∧ win0_5.index t 0 = 0 := ⟨rfl, rfl⟩
  refine (congrArg (outv m c) ?_ : outv m c j = outv m c (ix2 (j 0) (j 1))).trans ?_
  · funext a
    match a with
    | ⟨0, _⟩ => rfl
    | ⟨1, _⟩ => rfl
  refine (outv_at m c (j 0) (j 1)).trans ?_
  refine congrArg₂ (goal m c) ?_ ?_
  · rw [hi.1]; omega
  · apply Fin.ext
    blk_simp
    rw [hi.2]; omega

set_option maxHeartbeats 1600000 in
/-- The kernel's run ends with its result as stated. -/
theorem run_value (ρ : Dev nD → PrngReg) : θ_run defs (onTc (τ := τ) (main (F := Ideal))) ⟨m, fun _ => 0, ρ⟩ fun r => ∀ c : Dev nD,
    r.2.mem ((c.tc : Thread nD τ).loc main_v3) = result m c := by
  run_from run_main m ρ
  unfold Pipeline.afterTail₀
  after_reads_simp
  funext j
  refine (broadcastInDim_apply _ _ _ j (ix2 (j 1) (j 2)) fun a => ?_).trans ?_
  · match a with
    | ⟨0, _⟩ => rfl
    | ⟨1, _⟩ => rfl
  exact congrFun ((Pipeline.withArrays_arr (cfgs 0).spec (by decide) c (V0 m c) (fun w => (dats m 0 c).arrAt w (cfgs 0).N) 5).trans (arr_eq m c)) _

end Cert.KernelIdeal.Roi

end
-- ==== Proof.RefOps.lean ====
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

/-! The reference's operations, as one list. -/

namespace Cert.ReferenceIdeal.Roi

open Cert.ReferenceIdeal.Gen
open Idealize.ShloMosaic Idealize.ShloMosaic.StableHlo Idealize.SL.Sem

attribute [local instance] Cert.ReferenceIdeal.Gen.facts

variable {F : FTy → Type} [FloatOps F]

/-- The reference's operations, in order, and that its program is their straight line. -/
def line : { ops : List (HloOp τ sig (Elt F)) // ∀ d, IsSeq (main (F := F) d) ops } := by
  apply Subtype.mk
  hlo_seq

/-- The reference's operations. -/
def ops : List (HloOp τ sig (Elt F)) := (line (F := F)).1

end Cert.ReferenceIdeal.Roi

end
-- ==== Proof.RefA.lean ====
module

public import proofs.«01_k».proof.Proof.RefOps
public import proofs.«01_k».proof.Proof.Resize

@[expose] public section

set_option maxRecDepth 16384

noncomputable section

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-! The three maps resized to the finest grid. -/

/-- The operations of resize 1. -/
def opsA1 : List (HloOp τ sig (Elt Ideal)) := (ops (F := Ideal)).take 137

/-- Reading what resize 1 gives back is reading the array. -/
theorem cast_out1 {p q r} (x : (⟨S1x384x192x192, .f32⟩ : BufTy).Contents (Elt Ideal)) : (TRef.of (T := ⟨S1x384x192x192, .f32⟩) main_v0 p q r).toBuf (Val := Elt Ideal) x = x := rfl
/-- Reading what resize 1 is given is reading the array. -/
theorem cast_in1 {p q r} (x : (⟨S1x384x96x96, .f32⟩ : BufTy).Contents (Elt Ideal)) : (TRef.of (T := ⟨S1x384x96x96, .f32⟩) main_arg1 p q r).ofBuf (Val := Elt Ideal) x = x := rfl

/-- The 96-line map, resized. -/
theorem v0_at (W : Valuation τ sig (Elt Ideal)) (X : Vec Ideal S1x384x96x96 .f32) (hX : W (Proc.devRef .tc main_arg1) = X) (c : Fin 384) (y x : Fin 192) :
    @Eq EReal (after opsA1 W (Proc.devRef .tc main_v0) (ix4 0 c y x))
      (∑ h : Fin 96, ∑ w : Fin 96, (X (ix4 0 c h w) : EReal) * ((up ((96 : ℕ) : ℝ) (y : ℕ) (h : ℕ) * up ((96 : ℕ) : ℝ) (x : ℕ) (w : ℕ) : ℝ) : EReal)) := by
  after_reads_simp [TRef.ofBuf_toBuf]
  rw [cast_out1, hX, cast_in1]
  simp only [id_eq]
  pointwise
  have hq : Ideal.ofBits .f32 0x3F000000#32 = ((((96 : ℕ) : ℝ) / 192 : ℝ) : EReal) := by rw [c_half]; norm_num
  have hd : max (Ideal.ofBits .f32 0x3F000000#32) 1 = ((1 : ℝ) : EReal) := by
    rw [c_half, ← EReal.coe_one, ← coe_max]; norm_num
  have hl : Ideal.ofBits .f32 0x42BF0000#32 = ((((96 : ℕ) : ℝ) - 1 / 2 : ℝ) : EReal) := by rw [c_95_5]; norm_num
  have ht : ∀ (i : Fin 192) (r : Fin 96), _ = ((tent (centre ((96 : ℕ) : ℝ) i) r : ℝ) : EReal) := fun i r => tent_word' (centre ((96 : ℕ) : ℝ) i) r (by omega) hd
  simp only [centre_word (n := 96) _ hq, ht, ← coe_sum]
  refine Eq.trans ?_ (resized (fun h w => X (ix4 0 c h w)) (fun h => up ((96 : ℕ) : ℝ) (y : ℕ) (h : ℕ)) (fun w => up ((96 : ℕ) : ℝ) (x : ℕ) (w : ℕ)) (fun _ => up_nonneg _ _ _) fun _ => up_nonneg _ _ _)
  refine Finset.sum_congr rfl fun w _ => ?_
  refine congr (congrArg _ (Finset.sum_congr rfl fun h _ => congrArg (· * _) ?_)) ?_
  · exact weight_word (by norm_num) (by norm_num) y h _ _ _ _ rfl hl rfl rfl
  · exact weight_word (by norm_num) (by norm_num) x w _ _ _ _ rfl hl rfl rfl

/-- The operations of resize 2. -/
def opsA2 : List (HloOp τ sig (Elt Ideal)) := ((ops (F := Ideal)).drop 137).take 137

/-- Reading what resize 2 gives back is reading the array. -/
theorem cast_out2 {p q r} (x : (⟨S1x768x192x192, .f32⟩ : BufTy).Contents (Elt Ideal)) : (TRef.of (T := ⟨S1x768x192x192, .f32⟩) main_v1 p q r).toBuf (Val := Elt Ideal) x = x := rfl
/-- Reading what resize 2 is given is reading the array. -/
theorem cast_in2 {p q r} (x : (⟨S1x768x48x48, .f32⟩ : BufTy).Contents (Elt Ideal)) : (TRef.of (T := ⟨S1x768x48x48, .f32⟩) main_arg2 p q r).ofBuf (Val := Elt Ideal) x = x := rfl

/-- The 48-line map, resized. -/
theorem v1_at (W : Valuation τ sig (Elt Ideal)) (X : Vec Ideal S1x768x48x48 .f32) (hX : W (Proc.devRef .tc main_arg2) = X) (c : Fin 768) (y x : Fin 192) :
    @Eq EReal (after opsA2 W (Proc.devRef .tc main_v1) (ix4 0 c y x))
      (∑ h : Fin 48, ∑ w : Fin 48, (X (ix4 0 c h w) : EReal) * ((up ((48 : ℕ) : ℝ) (y : ℕ) (h : ℕ) * up ((48 : ℕ) : ℝ) (x : ℕ) (w : ℕ) : ℝ) : EReal)) := by
  after_reads_simp [TRef.ofBuf_toBuf]
  rw [cast_out2, hX, cast_in2]
  simp only [id_eq]
  pointwise
  have hq : Ideal.ofBits .f32 0x3E800000#32 = ((((48 : ℕ) : ℝ) / 192 : ℝ) : EReal) := by rw [c_quarter]; norm_num
  have hd : max (Ideal.ofBits .f32 0x3E800000#32) 1 = ((1 : ℝ) : EReal) := by
    rw [c_quarter, ← EReal.coe_one, ← coe_max]; norm_num
  have hl : Ideal.ofBits .f32 0x423E0000#32 = ((((48 : ℕ) : ℝ) - 1 / 2 : ℝ) : EReal) := by rw [c_47_5]; norm_num
  have ht : ∀ (i : Fin 192) (r : Fin 48), _ = ((tent (centre ((48 : ℕ) : ℝ) i) r : ℝ) : EReal) := fun i r => tent_word' (centre ((48 : ℕ) : ℝ) i) r (by omega) hd
  simp only [centre_word (n := 48) _ hq, ht, ← coe_sum]
  refine Eq.trans ?_ (resized (fun h w => X (ix4 0 c h w)) (fun h => up ((48 : ℕ) : ℝ) (y : ℕ) (h : ℕ)) (fun w => up ((48 : ℕ) : ℝ) (x : ℕ) (w : ℕ)) (fun _ => up_nonneg _ _ _) fun _ => up_nonneg _ _ _)
  refine Finset.sum_congr rfl fun w _ => ?_
  refine congr (congrArg _ (Finset.sum_congr rfl fun h _ => congrArg (· * _) ?_)) ?_
  · exact weight_word (by norm_num) (by norm_num) y h _ _ _ _ rfl hl rfl rfl
  · exact weight_word (by norm_num) (by norm_num) x w _ _ _ _ rfl hl rfl rfl

/-- The operations of resize 3. -/
def opsA3 : List (HloOp τ sig (Elt Ideal)) := ((ops (F := Ideal)).drop 274).take 137

/-- Reading what resize 3 gives back is reading the array. -/
theorem cast_out3 {p q r} (x : (⟨S1x1536x192x192, .f32⟩ : BufTy).Contents (Elt Ideal)) : (TRef.of (T := ⟨S1x1536x192x192, .f32⟩) main_v2 p q r).toBuf (Val := Elt Ideal) x = x := rfl
/-- Reading what resize 3 is given is reading the array. -/
theorem cast_in3 {p q r} (x : (⟨S1x1536x24x24, .f32⟩ : BufTy).Contents (Elt Ideal)) : (TRef.of (T := ⟨S1x1536x24x24, .f32⟩) main_arg3 p q r).ofBuf (Val := Elt Ideal) x = x := rfl

/-- The 24-line map, resized. -/
theorem v2_at (W : Valuation τ sig (Elt Ideal)) (X : Vec Ideal S1x1536x24x24 .f32) (hX : W (Proc.devRef .tc main_arg3) = X) (c : Fin 1536) (y x : Fin 192) :
    @Eq EReal (after opsA3 W (Proc.devRef .tc main_v2) (ix4 0 c y x))
      (∑ h : Fin 24, ∑ w : Fin 24, (X (ix4 0 c h w) : EReal) * ((up ((24 : ℕ) : ℝ) (y : ℕ) (h : ℕ) * up ((24 : ℕ) : ℝ) (x : ℕ) (w : ℕ) : ℝ) : EReal)) := by
  after_reads_simp [TRef.ofBuf_toBuf]
  rw [cast_out3, hX, cast_in3]
  simp only [id_eq]
  pointwise
  have hq : Ideal.ofBits .f32 0x3E000000#32 = ((((24 : ℕ) : ℝ) / 192 : ℝ) : EReal) := by rw [c_eighth]; norm_num
  have hd : max (Ideal.ofBits .f32 0x3E000000#32) 1 = ((1 : ℝ) : EReal) := by
    rw [c_eighth, ← EReal.coe_one, ← coe_max]; norm_num
  have hl : Ideal.ofBits .f32 0x41BC0000#32 = ((((24 : ℕ) : ℝ) - 1 / 2 : ℝ) : EReal) := by rw [c_23_5]; norm_num
  have ht : ∀ (i : Fin 192) (r : Fin 24), _ = ((tent (centre ((24 : ℕ) : ℝ) i) r : ℝ) : EReal) := fun i r => tent_word' (centre ((24 : ℕ) : ℝ) i) r (by omega) hd
  simp only [centre_word (n := 24) _ hq, ht, ← coe_sum]
  refine Eq.trans ?_ (resized (fun h w => X (ix4 0 c h w)) (fun h => up ((24 : ℕ) : ℝ) (y : ℕ) (h : ℕ)) (fun w => up ((24 : ℕ) : ℝ) (x : ℕ) (w : ℕ)) (fun _ => up_nonneg _ _ _) fun _ => up_nonneg _ _ _)
  refine Finset.sum_congr rfl fun w _ => ?_
  refine congr (congrArg _ (Finset.sum_congr rfl fun h _ => congrArg (· * _) ?_)) ?_
  · exact weight_word (by norm_num) (by norm_num) y h _ _ _ _ rfl hl rfl rfl
  · exact weight_word (by norm_num) (by norm_num) x w _ _ _ _ rfl hl rfl rfl

end Cert.ReferenceIdeal.Roi

end
-- ==== Proof.RefB.lean ====
module

public import proofs.«01_k».proof.Proof.RefOps
public import proofs.«01_k».proof.Proof.Samples

@[expose] public section

set_option maxRecDepth 16384

noncomputable section

/-! The reference's joined map and the coordinates of its sample points. -/

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-- The operations from the joined map to the sample points. -/
def opsB : List (HloOp τ sig (Elt Ideal)) := ((ops (F := Ideal)).drop 411).take 57

/-- A sample point's coordinate, with its bin and its place in the bin apart. -/
theorem samp_word' (lo hi : EReal) (s : Fin 14) :
    lo * Ideal.ofBits .f32 0x3E800000#32
      + (FloatOps.sitofp (F := Ideal) .f32 (BitVec.ofNat 32 ((s : ℕ) / 2))
          + Ideal.div (FloatOps.sitofp (F := Ideal) .f32 (BitVec.ofNat 32 ((s : ℕ) % 2)) + Ideal.ofBits .f32 0x3F000000#32) (Ideal.ofBits .f32 0x40000000#32))
        * Ideal.div (max (hi * Ideal.ofBits .f32 0x3E800000#32 - lo * Ideal.ofBits .f32 0x3E800000#32) 1) (Ideal.ofBits .f32 0x40E00000#32) = samp lo hi s := by
  rw [sitofp_nat _ (by omega), sitofp_nat _ (by omega), c_quarter, c_half, c_2, c_7, Ideal.div_coe (by norm_num), Ideal.div_coe (by norm_num), ← EReal.coe_add, ← EReal.coe_mul, ← EReal.coe_add,
    samp, mul_comm _ ((1 / 7 : ℝ) : EReal), ← mul_assoc, ← EReal.coe_mul]
  have e : (((s : ℕ) / 2 : ℕ) : ℝ) * 2 + (((s : ℕ) % 2 : ℕ) : ℝ) = (s : ℕ) := by exact_mod_cast Nat.div_add_mod' (s : ℕ) 2
  rw [show ((((s : ℕ) / 2 : ℕ) : ℝ) + ((((s : ℕ) % 2 : ℕ) : ℝ) + 1 / 2) * (1 / 2)) * (1 / 7) = ((s : ℕ) + 1 / 2) / 14 by linarith]

/-- The joined map: its channel blocks are the finest map and the three resized ones. -/
theorem v4_at (W : Valuation τ sig (Elt Ideal)) (a0 : Vec Ideal S1x192x192x192 .f32) (a1 : Vec Ideal S1x384x192x192 .f32) (a2 : Vec Ideal S1x768x192x192 .f32) (a3 : Vec Ideal S1x1536x192x192 .f32)
    (h0 : W (Proc.devRef .tc main_arg0) = a0) (h1 : W (Proc.devRef .tc main_v0) = a1) (h2 : W (Proc.devRef .tc main_v1) = a2) (h3 : W (Proc.devRef .tc main_v2) = a3)
    (y x : Fin 192) (f : ℕ → EReal)
    (e0 : ∀ j : Fin 192, a0 (ix4 0 j y x) = f j) (e1 : ∀ j : Fin 384, a1 (ix4 0 j y x) = f (192 + j))
    (e2 : ∀ j : Fin 768, a2 (ix4 0 j y x) = f (576 + j)) (e3 : ∀ j : Fin 1536, a3 (ix4 0 j y x) = f (1344 + j)) (c : Fin 2880) :
    @Eq EReal (after opsB W (Proc.devRef .tc main_v4) (ix3 c y x)) (f c) := by
  after_reads_simp
  pointwise
  by_cases g0 : (c : ℕ) < 192
  · rw [dif_pos g0]
    after_reads_simp
    rw [h0, e0]
  rw [dif_neg g0]
  by_cases g1 : (c : ℕ) - 192 < 384
  · rw [dif_pos g1]
    after_reads_simp
    rw [h1, e1]
    exact congrArg f (by dsimp only; omega)
  rw [dif_neg g1]
  by_cases g2 : (c : ℕ) - 192 - 384 < 768
  · rw [dif_pos g2]
    after_reads_simp
    rw [h2, e2]
    exact congrArg f (by dsimp only; omega)
  rw [dif_neg g2]
  after_reads_simp
  rw [h3, e3]
  exact congrArg f (by dsimp only; omega)

/-- The row coordinates of a box's sample points. -/
theorem v44_at (W : Valuation τ sig (Elt Ideal)) (B : Vec Ideal S64x4 .f32) (hB : W (Proc.devRef .tc main_arg4) = B) (k : Fin 64) (s : Fin 14) :
    @Eq EReal (after opsB W (Proc.devRef .tc main_v44) (ix2 k s)) (samp (B (ix2 k 1)) (B (ix2 k 3)) s) := by
  after_reads_simp
  simp only [hB]
  pointwise
  exact samp_word' _ _ s

/-- The column coordinates of a box's sample points. -/
theorem v52_at (W : Valuation τ sig (Elt Ideal)) (B : Vec Ideal S64x4 .f32) (hB : W (Proc.devRef .tc main_arg4) = B) (k : Fin 64) (s : Fin 14) :
    @Eq EReal (after opsB W (Proc.devRef .tc main_v52) (ix2 k s)) (samp (B (ix2 k 0)) (B (ix2 k 2)) s) := by
  after_reads_simp
  simp only [hB]
  pointwise
  exact samp_word' _ _ s

end Cert.ReferenceIdeal.Roi

end
-- ==== Proof.RefC1.lean ====
module

public import proofs.«01_k».proof.Proof.RefOps
public import proofs.«01_k».proof.Proof.Samples

@[expose] public section

set_option maxRecDepth 16384

noncomputable section

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-- The operations from the sample points to their neighbours and fractions. -/
def opsC1 : List (HloOp τ sig (Elt Ideal)) := ((ops (F := Ideal)).drop 468).take 64

/-- The joined map, its lines laid end to end. -/
theorem v92_at (W : Valuation τ sig (Elt Ideal)) (M : Vec Ideal S2880x192x192 .f32) (hM : W (Proc.devRef .tc main_v4) = M) (c : Fin 2880) (y x : Fin 192) :
    @Eq EReal (after opsC1 W (Proc.devRef .tc main_v92) (ix2 c ⟨y * 192 + x, by omega⟩)) (M (ix3 c y x)) := by
  after_reads_simp
  simp only [hM]
  pointwise

/-! Reading an array a called function is given or gives back is reading the array. -/

/-- The clipped row coordinates. -/
theorem cast_v70 {p q r} (x : (⟨S12544, .f32⟩ : BufTy).Contents (Elt Ideal)) : (TRef.of (T := ⟨S12544, .f32⟩) main_v70 p q r).toBuf (Val := Elt Ideal) x = x := rfl
/-- The row coordinates. -/
theorem cast_v55 {p q r} (x : (⟨S12544, .f32⟩ : BufTy).Contents (Elt Ideal)) : (TRef.of (T := ⟨S12544, .f32⟩) main_v55 p q r).ofBuf (Val := Elt Ideal) x = x := rfl
/-- The upper bound of a row coordinate. -/
theorem cast_c {p q r} (x : (⟨S_, .i32⟩ : BufTy).Contents (Elt Ideal)) : (TRef.of (T := ⟨S_, .i32⟩) main_c p q r).ofBuf (Val := Elt Ideal) x = x := rfl
/-- The lower bound of a row coordinate. -/
theorem cast_cst_10 {p q r} (x : (⟨S_, .f32⟩ : BufTy).Contents (Elt Ideal)) : (TRef.of (T := ⟨S_, .f32⟩) main_cst_10 p q r).ofBuf (Val := Elt Ideal) x = x := rfl
/-- The clipped column coordinates. -/
theorem cast_v71 {p q r} (x : (⟨S12544, .f32⟩ : BufTy).Contents (Elt Ideal)) : (TRef.of (T := ⟨S12544, .f32⟩) main_v71 p q r).toBuf (Val := Elt Ideal) x = x := rfl
/-- The column coordinates. -/
theorem cast_v58 {p q r} (x : (⟨S12544, .f32⟩ : BufTy).Contents (Elt Ideal)) : (TRef.of (T := ⟨S12544, .f32⟩) main_v58 p q r).ofBuf (Val := Elt Ideal) x = x := rfl
/-- The upper bound of a column coordinate. -/
theorem cast_c_12 {p q r} (x : (⟨S_, .i32⟩ : BufTy).Contents (Elt Ideal)) : (TRef.of (T := ⟨S_, .i32⟩) main_c_12 p q r).ofBuf (Val := Elt Ideal) x = x := rfl
/-- The lower bound of a column coordinate. -/
theorem cast_cst_11 {p q r} (x : (⟨S_, .f32⟩ : BufTy).Contents (Elt Ideal)) : (TRef.of (T := ⟨S_, .f32⟩) main_cst_11 p q r).ofBuf (Val := Elt Ideal) x = x := rfl

/-- The row coordinate of sample `p`. -/
abbrev sy (Y : Vec Ideal S64x14 .f32) (p : Fin 12544) : EReal := Y (ix2 ⟨p / 196, by omega⟩ ⟨p / 14 % 14, by omega⟩)
/-- The column coordinate of sample `p`. -/
abbrev sx (X : Vec Ideal S64x14 .f32) (p : Fin 12544) : EReal := X (ix2 ⟨p / 196, by omega⟩ ⟨p % 14, by omega⟩)

/-- Whether a sample lies in the map. -/
theorem v69_at (W : Valuation τ sig (Elt Ideal)) (Y X : Vec Ideal S64x14 .f32) (hY : W (Proc.devRef .tc main_v44) = Y) (hX : W (Proc.devRef .tc main_v52) = X) (p : Fin 12544) :
    (after opsC1 W (Proc.devRef .tc main_v69) : Vec Ideal S12544 .i1) (ix1 p) = validW (sy Y p) (sx X p) := by
  after_reads_simp
  simp only [hX, hY]
  pointwise
  rfl

/-- The row below a sample. -/
theorem v73_at (W : Valuation τ sig (Elt Ideal)) (Y X : Vec Ideal S64x14 .f32) (hY : W (Proc.devRef .tc main_v44) = Y) (hX : W (Proc.devRef .tc main_v52) = X) (p : Fin 12544) :
    (after opsC1 W (Proc.devRef .tc main_v73) : Vec Ideal S12544 .i32) (ix1 p) = BitVec.ofNat 32 ⌊clip 191 (sy Y p)⌋₊ := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _)]

/-- The column below a sample. -/
theorem v75_at (W : Valuation τ sig (Elt Ideal)) (Y X : Vec Ideal S64x14 .f32) (hY : W (Proc.devRef .tc main_v44) = Y) (hX : W (Proc.devRef .tc main_v52) = X) (p : Fin 12544) :
    (after opsC1 W (Proc.devRef .tc main_v75) : Vec Ideal S12544 .i32) (ix1 p) = BitVec.ofNat 32 ⌊clip 191 (sx X p)⌋₊ := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _)]

/-- The row above a sample. -/
theorem v79_at (W : Valuation τ sig (Elt Ideal)) (Y X : Vec Ideal S64x14 .f32) (hY : W (Proc.devRef .tc main_v44) = Y) (hX : W (Proc.devRef .tc main_v52) = X) (p : Fin 12544) :
    (after opsC1 W (Proc.devRef .tc main_v79) : Vec Ideal S12544 .i32) (ix1 p) = BitVec.ofNat 32 (min (⌊clip 191 (sy Y p)⌋₊ + 1) (192 - 1)) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _)]
  exact next_word ⟨_, floor_lt _⟩

/-- The column above a sample. -/
theorem v83_at (W : Valuation τ sig (Elt Ideal)) (Y X : Vec Ideal S64x14 .f32) (hY : W (Proc.devRef .tc main_v44) = Y) (hX : W (Proc.devRef .tc main_v52) = X) (p : Fin 12544) :
    (after opsC1 W (Proc.devRef .tc main_v83) : Vec Ideal S12544 .i32) (ix1 p) = BitVec.ofNat 32 (min (⌊clip 191 (sx X p)⌋₊ + 1) (192 - 1)) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _)]
  exact next_word ⟨_, floor_lt _⟩

/-- How far a sample is beyond the one of its rows below it. -/
theorem v85_at (W : Valuation τ sig (Elt Ideal)) (Y X : Vec Ideal S64x14 .f32) (hY : W (Proc.devRef .tc main_v44) = Y) (hX : W (Proc.devRef .tc main_v52) = X) (p : Fin 12544) :
    @Eq EReal (after opsC1 W (Proc.devRef .tc main_v85) (ix1 p)) ((clip 191 (sy Y p) - (⌊clip 191 (sy Y p)⌋₊ : ℕ) : ℝ) : EReal) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _), frac_word _ (lt_trans (floor_lt _) (by norm_num))]

/-- How far a sample is beyond the one of its columns below it. -/
theorem v87_at (W : Valuation τ sig (Elt Ideal)) (Y X : Vec Ideal S64x14 .f32) (hY : W (Proc.devRef .tc main_v44) = Y) (hX : W (Proc.devRef .tc main_v52) = X) (p : Fin 12544) :
    @Eq EReal (after opsC1 W (Proc.devRef .tc main_v87) (ix1 p)) ((clip 191 (sx X p) - (⌊clip 191 (sx X p)⌋₊ : ℕ) : ℝ) : EReal) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _), frac_word _ (lt_trans (floor_lt _) (by norm_num))]

/-- One less that distance, for rows. -/
theorem v89_at (W : Valuation τ sig (Elt Ideal)) (Y X : Vec Ideal S64x14 .f32) (hY : W (Proc.devRef .tc main_v44) = Y) (hX : W (Proc.devRef .tc main_v52) = X) (p : Fin 12544) :
    @Eq EReal (after opsC1 W (Proc.devRef .tc main_v89) (ix1 p)) ((1 - (clip 191 (sy Y p) - (⌊clip 191 (sy Y p)⌋₊ : ℕ)) : ℝ) : EReal) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _), frac_word _ (lt_trans (floor_lt _) (by norm_num)), rest_word]

/-- One less that distance, for columns. -/
theorem v91_at (W : Valuation τ sig (Elt Ideal)) (Y X : Vec Ideal S64x14 .f32) (hY : W (Proc.devRef .tc main_v44) = Y) (hX : W (Proc.devRef .tc main_v52) = X) (p : Fin 12544) :
    @Eq EReal (after opsC1 W (Proc.devRef .tc main_v91) (ix1 p)) ((1 - (clip 191 (sx X p) - (⌊clip 191 (sx X p)⌋₊ : ℕ)) : ℝ) : EReal) := by
  after_reads_simp [TRef.ofBuf_toBuf]
  simp only [cast_v70, cast_v55, cast_c, cast_cst_10, cast_v71, cast_v58, cast_c_12, cast_cst_11, id_eq, hX, hY]
  pointwise
  rw [clip_word, floor_word (clip_nonneg (by norm_num) _) (clip_le (by norm_num) _), frac_word _ (lt_trans (floor_lt _) (by norm_num)), rest_word]

end Cert.ReferenceIdeal.Roi

end
-- ==== Proof.RefC2.lean ====
module

public import proofs.«01_k».proof.Proof.RefOps
public import proofs.«01_k».proof.Proof.RefC1

@[expose] public section

set_option maxRecDepth 16384

noncomputable section

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-- The operations from the neighbours to the samples. -/
def opsC2 : List (HloOp τ sig (Elt Ideal)) := ((ops (F := Ideal)).drop 532).take 77

/-! Reading an array a called function is given or gives back is reading the array. -/

/-- The samples kept. -/
theorem cast_v153 {p q r} (x : (⟨S2880x12544, .f32⟩ : BufTy).Contents (Elt Ideal)) : (TRef.of (T := ⟨S2880x12544, .f32⟩) main_v153 p q r).toBuf (Val := Elt Ideal) x = x := rfl
/-- The samples. -/
theorem cast_v151 {p q r} (x : (⟨S2880x12544, .f32⟩ : BufTy).Contents (Elt Ideal)) : (TRef.of (T := ⟨S2880x12544, .f32⟩) main_v151 p q r).ofBuf (Val := Elt Ideal) x = x := rfl
/-- Which samples lie in the map. -/
theorem cast_v152 {p q r} (x : (⟨S1x12544, .i1⟩ : BufTy).Contents (Elt Ideal)) : (TRef.of (T := ⟨S1x12544, .i1⟩) main_v152 p q r).ofBuf (Val := Elt Ideal) x = x := rfl
/-- What replaces a sample outside the map. -/
theorem cast_cst_31 {p q r} (x : (⟨S_, .f32⟩ : BufTy).Contents (Elt Ideal)) : (TRef.of (T := ⟨S_, .f32⟩) main_cst_31 p q r).ofBuf (Val := Elt Ideal) x = x := rfl

/-- Gathering columns of the flattened map: at a channel and a sample, the channel's entry at the sample's start index. -/
theorem gather_at (M : Vec Ideal S2880x36864 .f32) (idx : IVec S12544x1 32) (c : Fin 2880) (p : Fin 12544) (q : ℕ) (hq : q < 36864) (h : idx (ix2 p 0) = BitVec.ofNat 32 q) :
    Host.gather gather_S2880x36864_S12544x1_S2880x12544_0_1_n_n_1_1_28801 M idx (ix2 c p) = M (ix2 c ⟨q, hq⟩) := by
  unfold Host.gather
  refine congrArg M ?_
  funext a
  apply Fin.ext
  match a with
  | ⟨0, _⟩ =>
    show _ + _ + _ = (c : ℕ)
    rw [GatherDims.batchCoord_eq_zero _ _ _ (List.not_mem_nil), Nat.add_zero]
    rw [show GatherDims.start gather_S2880x36864_S12544x1_S2880x12544_0_1_n_n_1_1_28801 (ix2 c p) idx ⟨0, _⟩ = 0 from rfl, Nat.zero_add]
    rfl
  | ⟨1, _⟩ =>
    show _ + _ + _ = q
    rw [GatherDims.batchCoord_eq_zero _ _ _ (List.not_mem_nil), GatherDims.offCoord_eq_zero _ _ _ (show (1 : Fin 2) ∉ [(0 : Fin 2)] by decide), Nat.add_zero]
    have e : GatherDims.start gather_S2880x36864_S12544x1_S2880x12544_0_1_n_n_1_1_28801 (ix2 c p) idx ⟨1, by decide⟩ = min (idx (ix2 p 0)).toInt.toNat 36863 := by
      unfold GatherDims.start
      rw [dif_pos (by decide)]
      refine congrArg (fun i => min (BitVec.toInt (idx i)).toNat 36863) ?_
      funext b
      apply Fin.ext
      match b with
      | ⟨0, _⟩ => rfl
      | ⟨1, _⟩ => rfl
    refine e.trans ?_
    rw [h, toInt_nat _ (by omega), Int.toNat_natCast, min_eq_left (by omega)]

/-- The start indices of a gather, at a sample whose two lines are known. -/
theorem starts_at (y x : Vec Ideal S12544 .i32) (p : Fin 12544) (a b : Fin 192) (hy : y (ix1 p) = BitVec.ofNat 32 a) (hx : x (ix1 p) = BitVec.ofNat 32 b)
    (h0 h1 h2 h3 : _) :
    (broadcastInDim S12544x1 ![0] h0
      (select (cmpi CmpIPredicate.slt (addi (muli y (broadcastInDim S12544 ![] h1 (constantI S_ 32 192#32))) x) (broadcastInDim S12544 ![] h2 (constantI S_ 32 0#32)))
        (addi (addi (muli y (broadcastInDim S12544 ![] h1 (constantI S_ 32 192#32))) x) (broadcastInDim S12544 ![] h3 (constantI S_ 32 36864#32)))
        (addi (muli y (broadcastInDim S12544 ![] h1 (constantI S_ 32 192#32))) x)) : IVec S12544x1 32) (ix2 p 0) = BitVec.ofNat 32 (a * 192 + b) := by
  pointwise
  rw [hy, hx, place_word a b a.isLt b.isLt]

/-- A sample: the joined map summed with the shares of its lines in the sample point. -/
theorem v153_at (W : Valuation τ sig (Elt Ideal)) (M : Vec Ideal S2880x36864 .f32) (y0 x0 y1 x1 : Vec Ideal S12544 .i32) (v : Vec Ideal S12544 .i1) (ly lx hy hx : Vec Ideal S12544 .f32)
    (hM : W (Proc.devRef .tc main_v92) = M) (h69 : W (Proc.devRef .tc main_v69) = v) (h73 : W (Proc.devRef .tc main_v73) = y0) (h75 : W (Proc.devRef .tc main_v75) = x0)
    (h79 : W (Proc.devRef .tc main_v79) = y1) (h83 : W (Proc.devRef .tc main_v83) = x1) (h85 : W (Proc.devRef .tc main_v85) = ly)
    (h87 : W (Proc.devRef .tc main_v87) = lx) (h89 : W (Proc.devRef .tc main_v89) = hy) (h91 : W (Proc.devRef .tc main_v91) = hx) (c : Fin 2880) (p : Fin 12544) (y x : EReal)
    (e69 : v (ix1 p) = validW y x) (e73 : y0 (ix1 p) = BitVec.ofNat 32 ⌊clip 191 y⌋₊) (e75 : x0 (ix1 p) = BitVec.ofNat 32 ⌊clip 191 x⌋₊)
    (e79 : y1 (ix1 p) = BitVec.ofNat 32 (min (⌊clip 191 y⌋₊ + 1) (192 - 1))) (e83 : x1 (ix1 p) = BitVec.ofNat 32 (min (⌊clip 191 x⌋₊ + 1) (192 - 1)))
    (e85 : @Eq EReal (ly (ix1 p)) ((clip 191 y - (⌊clip 191 y⌋₊ : ℕ) : ℝ) : EReal)) (e87 : @Eq EReal (lx (ix1 p)) ((clip 191 x - (⌊clip 191 x⌋₊ : ℕ) : ℝ) : EReal))
    (e89 : @Eq EReal (hy (ix1 p)) ((1 - (clip 191 y - (⌊clip 191 y⌋₊ : ℕ)) : ℝ) : EReal)) (e91 : @Eq EReal (hx (ix1 p)) ((1 - (clip 191 x - (⌊clip 191 x⌋₊ : ℕ)) : ℝ) : EReal)) :
    @Eq EReal (after opsC2 W (Proc.devRef .tc main_v153) (ix2 c p))
      (∑ h : Fin 192, ∑ w : Fin 192, (M (ix2 c ⟨h * 192 + w, by omega⟩) : EReal) * ((share y (h : ℕ) * share x (w : ℕ) : ℝ) : EReal)) := by
  have ly' := floor_lt y
  have lx' := floor_lt x
  refine Eq.trans ?_ (sample y x (fun h w => M (ix2 c ⟨h * 192 + w, by omega⟩)) ⟨_, ly'⟩ ⟨min (⌊clip 191 y⌋₊ + 1) (192 - 1), by omega⟩ ⟨_, lx'⟩ ⟨min (⌊clip 191 x⌋₊ + 1) (192 - 1), by omega⟩ rfl rfl rfl rfl)
  after_reads_simp [TRef.ofBuf_toBuf]
  simp only [cast_v153, cast_v151, cast_v152, cast_cst_31, id_eq, hM, h69, h73, h75, h79, h83, h85, h87, h89, h91]
  pointwise
  rw [gather_at M _ c p _ (by omega) (starts_at y0 x0 p ⟨_, ly'⟩ ⟨_, lx'⟩ e73 e75 _ _ _ _),
    gather_at M _ c p _ (by omega) (starts_at y0 x1 p ⟨_, ly'⟩ ⟨min (⌊clip 191 x⌋₊ + 1) (192 - 1), by omega⟩ e73 e83 _ _ _ _),
    gather_at M _ c p _ (by omega) (starts_at y1 x0 p ⟨min (⌊clip 191 y⌋₊ + 1) (192 - 1), by omega⟩ ⟨_, lx'⟩ e79 e75 _ _ _ _),
    gather_at M _ c p _ (by omega) (starts_at y1 x1 p ⟨min (⌊clip 191 y⌋₊ + 1) (192 - 1), by omega⟩ ⟨min (⌊clip 191 x⌋₊ + 1) (192 - 1), by omega⟩ e79 e83 _ _ _ _),
    e69, e85, e87, e89, e91]

end Cert.ReferenceIdeal.Roi

end
-- ==== Proof.RefC3.lean ====
module

public import proofs.«01_k».proof.Proof.RefOps
public import proofs.«01_k».proof.Proof.Scalars

@[expose] public section

set_option maxRecDepth 16384

noncomputable section

/-! The reference's means: over the samples of a bin, then over the bins. -/

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-- Which indices of the six-axis array of samples a bin's mean is over. -/
theorem fiber_bin (h : S2880x64x7x2x7x2.ReducesTo [3, 5] S2880x64x7x7) (c : Fin 2880) (k : Fin 64) (p q : Fin 7) (i : S2880x64x7x2x7x2.Idx) :
    h.drop i = (ix4 c k p q : S2880x64x7x7.Idx) ↔ ∃ e : Fin 2 × Fin 2, (ix6 c k p e.1 q e.2 : S2880x64x7x2x7x2.Idx) = i := by
  constructor
  · intro e
    refine ⟨(i 3, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨e, rfl⟩
    funext b
    apply Fin.ext
    match b with
    | ⟨0, _⟩ => rfl
    | ⟨1, _⟩ => rfl
    | ⟨2, _⟩ => rfl
    | ⟨3, _⟩ => rfl

/-- The sum over a bin's two by two samples. -/
theorem sum_bin (h : S2880x64x7x2x7x2.ReducesTo [3, 5] S2880x64x7x7) (v : S2880x64x7x2x7x2.Idx → EReal) (init : EReal) (c : Fin 2880) (k : Fin 64) (p q : Fin 7) :
    Ideal.hostReduceAdd h v init (ix4 c k p q) = init + ∑ s : Fin 2, ∑ t : Fin 2, v (ix6 c k p s q t) := by
  refine congrArg (init + ·) ((Finset.sum_filter_eq_sum_of_fiber _ (fun e : Fin 2 × Fin 2 => (ix6 c k p e.1 q e.2 : S2880x64x7x2x7x2.Idx))
    (fun _ _ e => Prod.ext (congrFun e 3) (congrFun e 5)) (fiber_bin h c k p q) v).trans ?_)
  simp only [Fintype.sum_prod_type]

/-- The operations averaging the samples. -/
def opsC3 : List (HloOp τ sig (Elt Ideal)) := ((ops (F := Ideal)).drop 609).take 12

/-- The mean over each bin's four samples and then over the 49 bins. -/
theorem v161_at (W : Valuation τ sig (Elt Ideal)) (V : Vec Ideal S2880x12544 .f32) (hV : W (Proc.devRef .tc main_v153) = V) (k : Fin 64) (c : Fin 2880) :
    @Eq EReal (after opsC3 W (Proc.devRef .tc main_v161) (ix2 k c)) ((∑ p : Fin 7, ∑ q : Fin 7, (∑ s : Fin 2, ∑ t : Fin 2,
      (V (ix2 c ⟨k * 196 + (2 * p + s) * 14 + (2 * q + t), by omega⟩) : EReal)) * ((1 / 4 : ℝ) : EReal)) * ((1 / 49 : ℝ) : EReal)) := by
  after_reads_simp
  simp only [hV]
  pointwise
  simp only [sum_bin]
  rw [c_49, Ideal.div_coe (show (49 : ℝ) ≠ 0 by norm_num)]
  refine congrArg (· * _) (Finset.sum_congr rfl fun p _ => Finset.sum_congr rfl fun q _ => ?_)
  rw [c_4, Ideal.div_coe (show (4 : ℝ) ≠ 0 by norm_num), zero_add]
  refine congrArg (· * _) (Finset.sum_congr rfl fun s _ => Finset.sum_congr rfl fun t _ => ?_)
  refine congrArg V (congrArg (ix2 c) (Fin.ext ?_))
  show (k : ℕ) * 196 + p * 28 + s * 14 + q * 2 + t = k * 196 + (2 * p + s) * 14 + (2 * q + t)
  ring

end Cert.ReferenceIdeal.Roi

end
-- ==== Proof.RefD.lean ====
module

public import proofs.«01_k».proof.Proof.RefOps
public import proofs.«01_k».proof.Proof.Scalars

@[expose] public section

set_option maxRecDepth 16384

noncomputable section

/-! The reference's sine embedding, and its sum with the pooled means. -/

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-- The operations of the embedding's four blocks. -/
def opsD : List (HloOp τ sig (Elt Ideal)) := ((ops (F := Ideal)).drop 621).take 123

/-- The operations joining the blocks and adding the pooled means. -/
def opsE : List (HloOp τ sig (Elt Ideal)) := (ops (F := Ideal)).drop 744

/-- The reference's wave length, a power of ten thousand, divides by what the embedding's factor multiplies with. -/
theorem wave_word (z : EReal) (i : ℕ) (hi : i < 2 ^ 31) :
    Ideal.div z (Ideal.pow (Ideal.ofBits .f32 0x461C4000#32) (Ideal.div (Ideal.ofBits .f32 0x40000000#32
      * Ideal.liftRound Int.floor (Ideal.div (FloatOps.sitofp (F := Ideal) .f32 (BitVec.ofNat 32 i)) (Ideal.ofBits .f32 0x40000000#32)))
        (Ideal.ofBits .f32 0x44340000#32))) = z * ((wave i : ℝ) : EReal) := by
  have hf : ⌊(i : ℝ) * (1 / 2)⌋ = ((i / 2 : ℕ) : ℤ) := by
    rw [Int.floor_eq_iff]
    have h2 : i = 2 * (i / 2) + i % 2 := (Nat.div_add_mod i 2).symm
    have h3 : i % 2 < 2 := Nat.mod_lt _ (by norm_num)
    have h4 : (i : ℝ) = 2 * ((i / 2 : ℕ) : ℝ) + ((i % 2 : ℕ) : ℝ) := by exact_mod_cast h2
    have h5 : ((i % 2 : ℕ) : ℝ) < 2 := by exact_mod_cast h3
    have h6 : (0 : ℝ) ≤ ((i % 2 : ℕ) : ℝ) := Nat.cast_nonneg _
    rw [Int.cast_natCast]
    constructor <;> linarith
  rw [sitofp_nat i hi, c_2, c_10000, c_720, Ideal.div_coe (show (2 : ℝ) ≠ 0 by norm_num), Ideal.div_coe (show (720 : ℝ) ≠ 0 by norm_num), ← EReal.coe_mul]
  rw [show Ideal.liftRound Int.floor (((i : ℝ) * (1 / 2) : ℝ) : EReal) = (((⌊(i : ℝ) * (1 / 2)⌋ : ℤ) : ℝ) : EReal) from rfl, hf, Int.cast_natCast,
    ← EReal.coe_mul, ← EReal.coe_mul]
  rw [show ∀ y : ℝ, Ideal.pow ((10000 : ℝ) : EReal) (y : EReal) = ((Real.rpow 10000 y : ℝ) : EReal) from fun _ => rfl]
  have hp : ∀ y : ℝ, Real.rpow 10000 y = Real.exp (Real.log 10000 * y) := fun y => Real.rpow_def_of_pos (by norm_num) y
  rw [hp, Ideal.div_coe (Real.exp_ne_zero _), one_div, ← Real.exp_neg, wave]
  congr 3
  ring

/-- One block of the embedding: sines on the even channels, cosines on the odd. -/
def block (a : EReal) (j : ℕ) : EReal :=
  if j % 2 = 0 then Ideal.sin (a * turn * ((wave j : ℝ) : EReal)) else Ideal.cos (a * turn * ((wave j : ℝ) : EReal))

/-- The reference's interleaved sines and cosines of one number are a block of the embedding. -/
theorem block_word (a : EReal) (j : ℕ) (hj : j < 720) :
    (if h : j % 2 < 1 then
      Ideal.sin (Ideal.div (a * Ideal.ofBits .f32 0x40C90FDB#32) (Ideal.pow (Ideal.ofBits .f32 0x461C4000#32) (Ideal.div (Ideal.ofBits .f32 0x40000000#32
        * Ideal.liftRound Int.floor (Ideal.div (FloatOps.sitofp (F := Ideal) .f32 (BitVec.ofNat 32 (2 * (j / 2)))) (Ideal.ofBits .f32 0x40000000#32)))
          (Ideal.ofBits .f32 0x44340000#32))))
     else
      Ideal.cos (Ideal.div (a * Ideal.ofBits .f32 0x40C90FDB#32) (Ideal.pow (Ideal.ofBits .f32 0x461C4000#32) (Ideal.div (Ideal.ofBits .f32 0x40000000#32
        * Ideal.liftRound Int.floor (Ideal.div (FloatOps.sitofp (F := Ideal) .f32 (BitVec.ofNat 32 (1 + 2 * (j / 2)))) (Ideal.ofBits .f32 0x40000000#32)))
          (Ideal.ofBits .f32 0x44340000#32))))) = block a j := by
  rw [wave_word _ _ (by omega), wave_word _ _ (by omega)]
  unfold block turn
  by_cases h : j % 2 = 0
  · rw [dif_pos (by omega), if_pos h, show 2 * (j / 2) = j by omega]
  · rw [dif_neg (by omega), if_neg h, show 1 + 2 * (j / 2) = j by omega]

/-- The embedding is its four blocks one after another. -/
theorem pos_block (b : Fin 4 → EReal) (q j : ℕ) (hj : j < 720) : pos b (720 * q + j) = block (quan b q) j := by
  unfold pos block
  rw [show (720 * q + j) / 720 = q by omega, show (720 * q + j) % 720 = j by omega]

/-- The block of the centre rows. -/
theorem v219_at (W : Valuation τ sig (Elt Ideal)) (B : Vec Ideal S64x4 .f32) (hB : W (Proc.devRef .tc main_arg4) = B) (k : Fin 64) (j : Fin 720) :
    @Eq EReal (after opsD W (Proc.devRef .tc main_v219) (ix3 0 k j)) (block (quan (fun q => B (ix2 k q)) 0) j) := by
  after_reads_simp
  pointwise
  after_reads_simp
  pointwise
  after_reads_simp
  simp only [hB]
  pointwise
  refine (block_word _ _ (by omega)).trans ?_
  refine congrArg (fun a => block a j) ?_
  rw [c_768]; rw [c_2]
  simp only [Ideal.div_coe (show (768 : ℝ) ≠ 0 by norm_num), Ideal.div_coe (show (2 : ℝ) ≠ 0 by norm_num)]
  rfl

/-- The block of the centre columns. -/
theorem v236_at (W : Valuation τ sig (Elt Ideal)) (B : Vec Ideal S64x4 .f32) (hB : W (Proc.devRef .tc main_arg4) = B) (k : Fin 64) (j : Fin 720) :
    @Eq EReal (after opsD W (Proc.devRef .tc main_v236) (ix3 0 k j)) (block (quan (fun q => B (ix2 k q)) 1) j) := by
  after_reads_simp
  pointwise
  after_reads_simp
  pointwise
  after_reads_simp
  simp only [hB]
  pointwise
  refine (block_word _ _ (by omega)).trans ?_
  refine congrArg (fun a => block a j) ?_
  rw [c_768]; rw [c_2]
  simp only [Ideal.div_coe (show (768 : ℝ) ≠ 0 by norm_num), Ideal.div_coe (show (2 : ℝ) ≠ 0 by norm_num)]
  rfl

/-- The block of the widths. -/
theorem v253_at (W : Valuation τ sig (Elt Ideal)) (B : Vec Ideal S64x4 .f32) (hB : W (Proc.devRef .tc main_arg4) = B) (k : Fin 64) (j : Fin 720) :
    @Eq EReal (after opsD W (Proc.devRef .tc main_v253) (ix3 0 k j)) (block (quan (fun q => B (ix2 k q)) 2) j) := by
  after_reads_simp
  pointwise
  after_reads_simp
  pointwise
  after_reads_simp
  simp only [hB]
  pointwise
  refine (block_word _ _ (by omega)).trans ?_
  refine congrArg (fun a => block a j) ?_
  rw [c_768]
  simp only [Ideal.div_coe (show (768 : ℝ) ≠ 0 by norm_num)]
  rfl

/-- The block of the heights. -/
theorem v270_at (W : Valuation τ sig (Elt Ideal)) (B : Vec Ideal S64x4 .f32) (hB : W (Proc.devRef .tc main_arg4) = B) (k : Fin 64) (j : Fin 720) :
    @Eq EReal (after opsD W (Proc.devRef .tc main_v270) (ix3 0 k j)) (block (quan (fun q => B (ix2 k q)) 3) j) := by
  after_reads_simp
  pointwise
  after_reads_simp
  pointwise
  after_reads_simp
  simp only [hB]
  pointwise
  refine (block_word _ _ (by omega)).trans ?_
  refine congrArg (fun a => block a j) ?_
  rw [c_768]
  simp only [Ideal.div_coe (show (768 : ℝ) ≠ 0 by norm_num)]
  rfl

/-- The embedding's blocks leave the pooled means' array laid out with a leading axis of one. -/
theorem v162_at (W : Valuation τ sig (Elt Ideal)) (X : Vec Ideal S64x2880 .f32) (hX : W (Proc.devRef .tc main_v161) = X) (k : Fin 64) (c : Fin 2880) :
    @Eq EReal (after opsD W (Proc.devRef .tc main_v162) (ix3 0 k c)) (X (ix2 k c)) := by
  after_reads_simp
  simp only [hX]
  pointwise

/-- Joining four blocks and adding the pooled means. -/
theorem v272_join (W : Valuation τ sig (Elt Ideal)) (X : Vec Ideal S1x64x2880 .f32) (a0 a1 a2 a3 : Vec Ideal S1x64x720 .f32)
    (hX : W (Proc.devRef .tc main_v162) = X) (h0 : W (Proc.devRef .tc main_v219) = a0) (h1 : W (Proc.devRef .tc main_v236) = a1)
    (h2 : W (Proc.devRef .tc main_v253) = a2) (h3 : W (Proc.devRef .tc main_v270) = a3) (k : Fin 64) (c : Fin 2880) (f : ℕ → EReal)
    (e0 : ∀ j : Fin 720, a0 (ix3 0 k j) = f j) (e1 : ∀ j : Fin 720, a1 (ix3 0 k j) = f (720 + j))
    (e2 : ∀ j : Fin 720, a2 (ix3 0 k j) = f (1440 + j)) (e3 : ∀ j : Fin 720, a3 (ix3 0 k j) = f (2160 + j)) :
    @Eq EReal (after opsE W (Proc.devRef .tc main_v272) (ix3 0 k c)) ((X (ix3 0 k c) : EReal) + f c) := by
  after_reads_simp
  simp only [hX, h0, h1, h2, h3]
  pointwise
  refine congrArg (fun z => (X (ix3 0 k c) : EReal) + z) ?_
  by_cases g0 : (c : ℕ) < 720
  · rw [dif_pos g0]
    after_reads_simp
    rw [h0, e0]
  rw [dif_neg g0]
  by_cases g1 : (c : ℕ) - 720 < 720
  · rw [dif_pos g1]
    after_reads_simp
    rw [h1, e1]
    exact congrArg f (by dsimp only; omega)
  rw [dif_neg g1]
  by_cases g2 : (c : ℕ) - 720 - 720 < 720
  · rw [dif_pos g2]
    after_reads_simp
    rw [h2, e2]
    exact congrArg f (by dsimp only; omega)
  rw [dif_neg g2]
  after_reads_simp
  rw [h3, e3]
  exact congrArg f (by dsimp only; omega)

end Cert.ReferenceIdeal.Roi

end
-- ==== Proof.RefVal.lean ====
module

public import proofs.«01_k».proof.Proof.Chan
public import proofs.«01_k».proof.Proof.RefA
public import proofs.«01_k».proof.Proof.RefB
public import proofs.«01_k».proof.Proof.RefC1
public import proofs.«01_k».proof.Proof.RefC2
public import proofs.«01_k».proof.Proof.RefC3
public import proofs.«01_k».proof.Proof.RefD

@[expose] public section

set_option maxRecDepth 16384

noncomputable section

/-! The reference's result, put together from its stages. -/

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

/-! What each stage leaves alone. -/

/-- The first resize leaves the first map alone. -/
theorem opsA1_arg0 (W : Valuation τ sig (Elt Ideal)) : after opsA1 W (Proc.devRef .tc main_arg0) = W (Proc.devRef .tc main_arg0) := by after_reads_simp
/-- The first resize leaves the third map alone. -/
theorem opsA1_arg2 (W : Valuation τ sig (Elt Ideal)) : after opsA1 W (Proc.devRef .tc main_arg2) = W (Proc.devRef .tc main_arg2) := by after_reads_simp
/-- The first resize leaves the fourth map alone. -/
theorem opsA1_arg3 (W : Valuation τ sig (Elt Ideal)) : after opsA1 W (Proc.devRef .tc main_arg3) = W (Proc.devRef .tc main_arg3) := by after_reads_simp
/-- The first resize leaves the boxes alone. -/
theorem opsA1_arg4 (W : Valuation τ sig (Elt Ideal)) : after opsA1 W (Proc.devRef .tc main_arg4) = W (Proc.devRef .tc main_arg4) := by after_reads_simp

/-- The second resize leaves the second map resized alone. -/
theorem opsA2_v0 (W : Valuation τ sig (Elt Ideal)) : after opsA2 W (Proc.devRef .tc main_v0) = W (Proc.devRef .tc main_v0) := by after_reads_simp
/-- The second resize leaves the first map alone. -/
theorem opsA2_arg0 (W : Valuation τ sig (Elt Ideal)) : after opsA2 W (Proc.devRef .tc main_arg0) = W (Proc.devRef .tc main_arg0) := by after_reads_simp
/-- The second resize leaves the fourth map alone. -/
theorem opsA2_arg3 (W : Valuation τ sig (Elt Ideal)) : after opsA2 W (Proc.devRef .tc main_arg3) = W (Proc.devRef .tc main_arg3) := by after_reads_simp
/-- The second resize leaves the boxes alone. -/
theorem opsA2_arg4 (W : Valuation τ sig (Elt Ideal)) : after opsA2 W (Proc.devRef .tc main_arg4) = W (Proc.devRef .tc main_arg4) := by after_reads_simp

/-- The third resize leaves the second map resized alone. -/
theorem opsA3_v0 (W : Valuation τ sig (Elt Ideal)) : after opsA3 W (Proc.devRef .tc main_v0) = W (Proc.devRef .tc main_v0) := by after_reads_simp
/-- The third resize leaves the third map resized alone. -/
theorem opsA3_v1 (W : Valuation τ sig (Elt Ideal)) : after opsA3 W (Proc.devRef .tc main_v1) = W (Proc.devRef .tc main_v1) := by after_reads_simp
/-- The third resize leaves the first map alone. -/
theorem opsA3_arg0 (W : Valuation τ sig (Elt Ideal)) : after opsA3 W (Proc.devRef .tc main_arg0) = W (Proc.devRef .tc main_arg0) := by after_reads_simp
/-- The third resize leaves the boxes alone. -/
theorem opsA3_arg4 (W : Valuation τ sig (Elt Ideal)) : after opsA3 W (Proc.devRef .tc main_arg4) = W (Proc.devRef .tc main_arg4) := by after_reads_simp

/-- Joining the maps and placing the samples leaves the boxes alone. -/
theorem opsB_arg4 (W : Valuation τ sig (Elt Ideal)) : after opsB W (Proc.devRef .tc main_arg4) = W (Proc.devRef .tc main_arg4) := by after_reads_simp

/-- Finding the neighbours leaves the boxes alone. -/
theorem opsC1_arg4 (W : Valuation τ sig (Elt Ideal)) : after opsC1 W (Proc.devRef .tc main_arg4) = W (Proc.devRef .tc main_arg4) := by after_reads_simp

/-- Sampling leaves the boxes alone. -/
theorem opsC2_arg4 (W : Valuation τ sig (Elt Ideal)) : after opsC2 W (Proc.devRef .tc main_arg4) = W (Proc.devRef .tc main_arg4) := by after_reads_simp

/-- Averaging leaves the boxes alone. -/
theorem opsC3_arg4 (W : Valuation τ sig (Elt Ideal)) : after opsC3 W (Proc.devRef .tc main_arg4) = W (Proc.devRef .tc main_arg4) := by after_reads_simp

/-- Operations in two runs, one after the other. -/
theorem after_two (l₁ l₂ : List (HloOp τ sig (Elt Ideal))) (V : Valuation τ sig (Elt Ideal)) : after (l₁ ++ l₂) V = after l₂ (after l₁ V) := by
  induction l₁ generalizing V with
  | nil => rfl
  | cons o l ih => exact ih _

/-- A list of operations from place `a` on: first those up to `a + n`, then the rest. -/
theorem after_split (l : List (HloOp τ sig (Elt Ideal))) (a n : ℕ) (V : Valuation τ sig (Elt Ideal)) :
    after (l.drop a) V = after (l.drop (a + n)) (after ((l.drop a).take n) V) := by
  rw [← after_two, ← List.drop_drop, List.take_append_drop]

/-- The reference's operations are its stages, one after another. -/
theorem after_stages (V : Valuation τ sig (Elt Ideal)) :
    after (ops (F := Ideal)) V = after opsE (after opsD (after opsC3 (after opsC2 (after opsC1 (after opsB (after opsA3 (after opsA2 (after opsA1 V)))))))) := by
  refine (after_split ops 0 137 V).trans ?_
  refine (after_split ops 137 137 _).trans ?_
  refine (after_split ops 274 137 _).trans ?_
  refine (after_split ops 411 57 _).trans ?_
  refine (after_split ops 468 64 _).trans ?_
  refine (after_split ops 532 77 _).trans ?_
  refine (after_split ops 609 12 _).trans ?_
  exact after_split ops 621 123 _

/-- The pooled means, from the arrays the resizes leave. -/
theorem v161_value (W : Valuation τ sig (Elt Ideal)) (a0 : Vec Ideal S1x192x192x192 .f32) (a1 : Vec Ideal S1x384x192x192 .f32) (a2 : Vec Ideal S1x768x192x192 .f32) (a3 : Vec Ideal S1x1536x192x192 .f32)
    (B : Vec Ideal S64x4 .f32) (h0 : W (Proc.devRef .tc main_arg0) = a0) (h1 : W (Proc.devRef .tc main_v0) = a1) (h2 : W (Proc.devRef .tc main_v1) = a2) (h3 : W (Proc.devRef .tc main_v2) = a3)
    (hB : W (Proc.devRef .tc main_arg4) = B) (f : Fin 192 → Fin 192 → ℕ → EReal)
    (e0 : ∀ y x, ∀ j : Fin 192, a0 (ix4 0 j y x) = f y x j) (e1 : ∀ y x, ∀ j : Fin 384, a1 (ix4 0 j y x) = f y x (192 + j))
    (e2 : ∀ y x, ∀ j : Fin 768, a2 (ix4 0 j y x) = f y x (576 + j)) (e3 : ∀ y x, ∀ j : Fin 1536, a3 (ix4 0 j y x) = f y x (1344 + j)) (k : Fin 64) (c : Fin 2880) :
    @Eq EReal (after opsC3 (after opsC2 (after opsC1 (after opsB W))) (Proc.devRef .tc main_v161) (ix2 k c))
      (∑ g : Fin 192, ∑ l : Fin 192, f g l c * ((axw (B (ix2 k 1)) (B (ix2 k 3)) (g : ℕ) * axw (B (ix2 k 0)) (B (ix2 k 2)) (l : ℕ) : ℝ) : EReal)) := by
  refine (v161_at _ _ rfl k c).trans ?_
  refine Eq.trans ?_ (mean_shares (fun g l => f g l c) (fun q => B (ix2 k q)))
  refine congrArg (· * _) (Finset.sum_congr rfl fun p _ => Finset.sum_congr rfl fun q _ => congrArg (· * _) (Finset.sum_congr rfl fun s _ => Finset.sum_congr rfl fun t _ => ?_))
  have hp := p.isLt
  have hq := q.isLt
  have hs := s.isLt
  have ht := t.isLt
  have hk := k.isLt
  have hn : (k : ℕ) * 196 + (2 * p + s) * 14 + (2 * q + t) < 12544 := by omega
  have ey : sy (after opsB W (Proc.devRef .tc main_v44)) ⟨(k : ℕ) * 196 + (2 * p + s) * 14 + (2 * q + t), hn⟩ = samp (B (ix2 k 1)) (B (ix2 k 3)) (2 * p + s) := by
    refine Eq.trans ?_ (v44_at W B hB k ⟨2 * p + s, by omega⟩)
    refine congrArg (after opsB W (Proc.devRef .tc main_v44)) (congr (congrArg ix2 (Fin.ext ?_)) (Fin.ext ?_)) <;> dsimp only <;> omega
  have ex : sx (after opsB W (Proc.devRef .tc main_v52)) ⟨(k : ℕ) * 196 + (2 * p + s) * 14 + (2 * q + t), hn⟩ = samp (B (ix2 k 0)) (B (ix2 k 2)) (2 * q + t) := by
    refine Eq.trans ?_ (v52_at W B hB k ⟨2 * q + t, by omega⟩)
    refine congrArg (after opsB W (Proc.devRef .tc main_v52)) (congr (congrArg ix2 (Fin.ext ?_)) (Fin.ext ?_)) <;> dsimp only <;> omega
  refine (v153_at _ _ _ _ _ _ _ _ _ _ _ rfl rfl rfl rfl rfl rfl rfl rfl rfl rfl c _ _ _
    (v69_at _ _ _ rfl rfl _) (v73_at _ _ _ rfl rfl _) (v75_at _ _ _ rfl rfl _) (v79_at _ _ _ rfl rfl _) (v83_at _ _ _ rfl rfl _)
    (v85_at _ _ _ rfl rfl _) (v87_at _ _ _ rfl rfl _) (v89_at _ _ _ rfl rfl _) (v91_at _ _ _ rfl rfl _)).trans ?_
  rw [ey, ex]
  refine Finset.sum_congr rfl fun g _ => Finset.sum_congr rfl fun l _ => ?_
  rw [v92_at _ _ rfl c g l, v4_at W a0 a1 a2 a3 h0 h1 h2 h3 g l (f g l) (e0 g l) (e1 g l) (e2 g l) (e3 g l) c]

/-- The reference's result at a box and a channel, in terms of its arguments. -/
theorem out_at (V : Valuation τ sig (Elt Ideal)) (a0 : Vec Ideal S1x192x192x192 .f32) (a1 : Vec Ideal S1x384x96x96 .f32) (a2 : Vec Ideal S1x768x48x48 .f32) (a3 : Vec Ideal S1x1536x24x24 .f32)
    (B : Vec Ideal S64x4 .f32) (h0 : V (Proc.devRef .tc main_arg0) = a0) (h1 : V (Proc.devRef .tc main_arg1) = a1) (h2 : V (Proc.devRef .tc main_arg2) = a2)
    (h3 : V (Proc.devRef .tc main_arg3) = a3) (hB : V (Proc.devRef .tc main_arg4) = B) (k : Fin 64) (c : Fin 2880) :
    @Eq EReal (after (ops (F := Ideal)) V (Proc.devRef .tc main_v272) (ix3 0 k c))
      (value (fun j h w => a0 (ix4 0 j h w)) (fun j h w => a1 (ix4 0 j h w)) (fun j h w => a2 (ix4 0 j h w)) (fun j h w => a3 (ix4 0 j h w)) (fun q => B (ix2 k q)) c) := by
  rw [after_stages]
  have kB : after opsB (after opsA3 (after opsA2 (after opsA1 V))) (Proc.devRef .tc main_arg4) = B := by
    rw [opsB_arg4, opsA3_arg4, opsA2_arg4, opsA1_arg4, hB]
  have kC : after opsC3 (after opsC2 (after opsC1 (after opsB (after opsA3 (after opsA2 (after opsA1 V)))))) (Proc.devRef .tc main_arg4) = B := by
    rw [opsC3_arg4, opsC2_arg4, opsC1_arg4, kB]
  have blk : ∀ (q : ℕ) (j : Fin 720), block (quan (fun q => B (ix2 k q)) q) j = pos (fun q => B (ix2 k q)) (720 * q + j) := fun q j => (pos_block _ q j j.isLt).symm
  refine (v272_join _ _ _ _ _ _ rfl rfl rfl rfl rfl k c (pos fun q => B (ix2 k q))
    (fun j => (v219_at _ B kC k j).trans ((blk 0 j).trans (congrArg _ (by omega))))
    (fun j => (v236_at _ B kC k j).trans ((blk 1 j).trans (congrArg _ (by omega))))
    (fun j => (v253_at _ B kC k j).trans ((blk 2 j).trans (congrArg _ (by omega))))
    (fun j => (v270_at _ B kC k j).trans ((blk 3 j).trans (congrArg _ (by omega))))).trans ?_
  refine congrArg (· + _) ?_
  refine (v162_at _ _ rfl k c).trans ?_
  refine Eq.trans ?_ (pool_join (fun j h w => a0 (ix4 0 j h w)) (fun j h w => a1 (ix4 0 j h w)) (fun j h w => a2 (ix4 0 j h w)) (fun j h w => a3 (ix4 0 j h w)) (fun q => B (ix2 k q)) c)
  refine v161_value (after opsA3 (after opsA2 (after opsA1 V))) a0 _ _ _ B ?_ rfl rfl rfl ?_
    (fun y x => join (fun j => a0 (ix4 0 j y x)) (fun j => resize 96 (fun h w => a1 (ix4 0 j h w)) y x) (fun j => resize 48 (fun h w => a2 (ix4 0 j h w)) y x) (fun j => resize 24 (fun h w => a3 (ix4 0 j h w)) y x))
    ?_ ?_ ?_ ?_ k c
  · rw [opsA3_arg0, opsA2_arg0, opsA1_arg0, h0]
  · rw [opsA3_arg4, opsA2_arg4, opsA1_arg4, hB]
  · intro y x j
    exact (join0 (fun j => a0 (ix4 0 j y x)) _ _ _ j).symm
  · intro y x j
    rw [join1, opsA3_v0, opsA2_v0]
    exact v0_at V a1 h1 j y x
  · intro y x j
    rw [join2, opsA3_v1]
    exact v1_at _ a2 ((opsA1_arg2 V).trans h2) j y x
  · intro y x j
    rw [join3]
    exact v2_at _ a3 ((opsA2_arg3 _).trans ((opsA1_arg3 V).trans h3)) j y x

end Cert.ReferenceIdeal.Roi

end
-- ==== Proof.RefRun.lean ====
module

public import proofs.«01_k».proof.Proof.RefVal
public import Idealize.ShloMosaic.Lib.Claim

@[expose] public section

set_option maxRecDepth 16384

noncomputable section

/-! The reference's run: what its result holds at the end. -/

namespace Cert.ReferenceIdeal.Roi

open Cert.ReferenceIdeal.Gen
open Idealize.ShloMosaic Idealize.ShloMosaic.TcCoe Idealize.ShloMosaic.StableHlo Idealize.SL.Sem
open Cert.Roi

attribute [local instance] Cert.ReferenceIdeal.Gen.facts

variable (m : (ℓ : Loc nD τ sig) → Buf (Elt Ideal) ℓ)

/-- The reference's result: at box `j 1` and channel `j 2` the value of the computation. -/
def result (c : Dev nD) : Vec Ideal S1x64x2880 .f32 := fun j =>
  value (fun i h w => m ((c.tc : Thread nD τ).loc main_arg0) (ix4 0 i h w)) (fun i h w => m ((c.tc : Thread nD τ).loc main_arg1) (ix4 0 i h w))
    (fun i h w => m ((c.tc : Thread nD τ).loc main_arg2) (ix4 0 i h w)) (fun i h w => m ((c.tc : Thread nD τ).loc main_arg3) (ix4 0 i h w))
    (fun q => m ((c.tc : Thread nD τ).loc main_arg4) (ix2 (j 1) q)) (j 2).val

/-- The operations' last array, over the launch's contents, is the result. -/
theorem result_eq (c : Dev nD) : after (ops (F := Ideal)) (launchContents m c) (Proc.devRef .tc main_v272) = result m c := by
  funext j
  have e : j = ix3 0 (j 1) (j 2) := by
    funext a
    match a with
    | ⟨0, _⟩ => exact Fin.ext (Nat.lt_one_iff.1 (j 0).isLt)
    | ⟨1, _⟩ => rfl
    | ⟨2, _⟩ => rfl
  refine (congrArg _ e).trans ?_
  exact out_at (launchContents m c) _ _ _ _ _ rfl rfl rfl rfl rfl (j 1) (j 2)

set_option maxHeartbeats 1600000 in
/-- The reference's run ends with its result as stated. -/
theorem run_value (ρ : Dev nD → PrngReg) : θ_run defs (onTc (τ := τ) (main (F := Ideal))) ⟨m, fun _ => 0, ρ⟩ fun r => ∀ c : Dev nD,
    r.2.mem ((c.tc : Thread nD τ).loc main_v272) = result m c := by
  have h := StableHlo.run_hlo defs main (line (F := Ideal)).2 (by decide) (by decide) (by
      simp [line]) (by
      intro _ h; (repeat (cases h with | head => rfl | tail _ h => ?_)); exact nomatch h) m ρ
  exact (θ_run defs _ _).mono (fun r h c => (h c main_v272).trans (result_eq m c)) h

end Cert.ReferenceIdeal.Roi

end
-- ==== Proof.lean ====
/- The proof of the claim stated in proof/Defs.lean: the frames of the kernel, of the idealised kernel and
   of the reference, the account of the two named constants, and that the idealised kernel and the reference
   compute the same result. -/
module

public import proofs.«01_k».proof.Defs
public import proofs.«01_k».proof.Proof.KernelRun
public import proofs.«01_k».proof.Proof.IdealRun
public import proofs.«01_k».proof.Proof.RefFrame
public import proofs.«01_k».proof.Proof.KRun
public import proofs.«01_k».proof.Proof.RefRun

@[expose] public section

noncomputable section

namespace Cert.Proof

open Idealize.ShloMosaic Idealize.SL.Sem

/-- Each named constant is the printed word's own real number up to the rounding it was printed with. -/
theorem preserves : Cert.preserves_Kernel_KernelIdeal :=
  ⟨IdealRules.named_const.statement Cert.KernelIdeal.κ "inv_samples" .f32 0x3D924925#32 ((1 / 14 : ℝ) : EReal) rfl,
    IdealRules.named_const.statement Cert.KernelIdeal.κ "neg_log_base" .f32 0xC1135D8E#32 ((-(Real.log 10000) : ℝ) : EReal) rfl⟩

section

attribute [local instance] Cert.KernelIdeal.Gen.facts Cert.ReferenceIdeal.Gen.facts

/-- From memories agreeing on the arguments the two programs end with the same result and with their arguments
    unchanged: each result is the value of the computation at every box and channel. -/
theorem algebraic : Cert.algebraic_KernelIdeal_ReferenceIdeal := fun m g m' g' _ hagree => by
  refine ⟨Cert.KernelIdeal.Roi.result m, ?_, ?_⟩
  · exact (θ_run Cert.KernelIdeal.defs _ _).mono (fun _ h c => ⟨h.1 c, h.2.1 c⟩)
      (θ_run_and (Cert.KernelIdeal.Roi.run_value m g) (Cert.KernelIdeal.Roi.frame_claim m g))
  · refine (θ_run Cert.ReferenceIdeal.defs _ _).mono (fun _ h c => ⟨(h.1 c).trans ?_, h.2.1 c⟩)
      (θ_run_and (Cert.ReferenceIdeal.Roi.run_value m' g') (Cert.ReferenceIdeal.Roi.frame_claim m' g' trivial))
    obtain ⟨h0, h1, h2, h3, h4⟩ := hagree c
    unfold Cert.ReferenceIdeal.Roi.result
    rw [h0, h1, h2, h3, h4]
    rfl

end

/-- The claims, in the order they are stated. -/
theorem claim : Cert.Claim := ⟨Cert.Kernel.Gen.facts, Cert.KernelIdeal.Gen.facts, Cert.ReferenceIdeal.Gen.facts,
  fun m g _ => Cert.Kernel.Roi.frame_claim m g,
  fun m g _ => Cert.KernelIdeal.Roi.frame_claim m g,
  Cert.ReferenceIdeal.Roi.frame_claim,
  preserves,
  algebraic⟩

end Cert.Proof

end
